-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mixer_inputs_finite [hPre_mixer_inputs_finite : Cert.Pre_mixer_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mixer_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mixer_inputs_finite [hPre_mixer_inputs_finite : Cert.Pre_mixer_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mixer_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_ffn_inputs_finite [hPre_ffn_inputs_finite : Cert.Pre_ffn_inputs_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_ffn_inputs_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_ffn_inputs_finite [hPre_ffn_inputs_finite : Cert.Pre_ffn_inputs_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_ffn_inputs_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_projection_inputs_finite [hPre_projection_inputs_finite : Cert.Pre_projection_inputs_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_projection_inputs_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_projection_inputs_finite [hPre_projection_inputs_finite : Cert.Pre_projection_inputs_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_projection_inputs_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_mixer_inputs_finite [hKernelIdeal : Cert.KernelIdeal.Facts] [hPre_mixer_inputs_finite : Cert.Pre_mixer_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mixer_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_mixer_inputs_finite [hReferenceIdeal : Cert.ReferenceIdeal.Facts] [hPre_mixer_inputs_finite : Cert.Pre_mixer_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mixer_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_ffn_inputs_finite [hKernel8Ideal : Cert.Kernel8Ideal.Facts] [hPre_ffn_inputs_finite : Cert.Pre_ffn_inputs_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_ffn_inputs_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_ffn_inputs_finite [hReference8Ideal : Cert.Reference8Ideal.Facts] [hPre_ffn_inputs_finite : Cert.Pre_ffn_inputs_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_ffn_inputs_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_projection_inputs_finite [hKernel11Ideal : Cert.Kernel11Ideal.Facts] [hPre_projection_inputs_finite : Cert.Pre_projection_inputs_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_projection_inputs_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_projection_inputs_finite [hReference11Ideal : Cert.Reference11Ideal.Facts] [hPre_projection_inputs_finite : Cert.Pre_projection_inputs_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_projection_inputs_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_mixer_inputs_finite [hKernelIdeal : Cert.KernelIdeal.Facts] [hReferenceIdeal : Cert.ReferenceIdeal.Facts] [hPre_mixer_inputs_finite : Cert.Pre_mixer_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mixer_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_v175) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_v36) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_v33) = v2 c
          ∧ r.2.mem ((c.tc : Thread Cert.Reference7Ideal.nD Cert.Reference7Ideal.τ).loc Cert.Reference7Ideal.main_v36) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_ffn_inputs_finite [hKernel8Ideal : Cert.Kernel8Ideal.Facts] [hReference8Ideal : Cert.Reference8Ideal.Facts] [hPre_ffn_inputs_finite : Cert.Pre_ffn_inputs_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_ffn_inputs_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v23_0)) (v1 : (c : Dev Cert.Kernel8Ideal.nD) → Buf (Elt Ideal) ((c.tc : Thread Cert.Kernel8Ideal.nD Cert.Kernel8Ideal.τ).loc Cert.Kernel8Ideal.main_v23_1)) (v2 : (c : Dev Cert.Kernel8Ideal.nD) → Buf (Elt Ideal) ((c.tc : Thread Cert.Kernel8Ideal.nD Cert.Kernel8Ideal.τ).loc Cert.Kernel8Ideal.main_v23_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23_0) = v0 c
          ∧ r.2.mem ((c.tc : Thread Cert.Kernel8Ideal.nD Cert.Kernel8Ideal.τ).loc Cert.Kernel8Ideal.main_v23_1) = v1 c
          ∧ r.2.mem ((c.tc : Thread Cert.Kernel8Ideal.nD Cert.Kernel8Ideal.τ).loc Cert.Kernel8Ideal.main_v23_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v80) = v0 c
          ∧ r.2.mem ((c.tc : Thread Cert.Reference8Ideal.nD Cert.Reference8Ideal.τ).loc Cert.Reference8Ideal.main_v81) = v1 c
          ∧ r.2.mem ((c.tc : Thread Cert.Reference8Ideal.nD Cert.Reference8Ideal.τ).loc Cert.Reference8Ideal.main_v84) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v0) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_projection_inputs_finite [hKernel11Ideal : Cert.Kernel11Ideal.Facts] [hReference11Ideal : Cert.Reference11Ideal.Facts] [hPre_projection_inputs_finite : Cert.Pre_projection_inputs_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_projection_inputs_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v34) = v0 c
          ∧ r.2.mem ((c.tc : Thread Cert.Reference11Ideal.nD Cert.Reference11Ideal.τ).loc Cert.Reference11Ideal.main_v35) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_mixer_inputs_finite : Cert.Pre_mixer_inputs_finite.Facts) (hPre_ffn_inputs_finite : Cert.Pre_ffn_inputs_finite.Facts) (hPre_projection_inputs_finite : Cert.Pre_projection_inputs_finite.Facts),
    quiescent_Kernel (hKernel := hKernel)
    ∧ quiescent_KernelIdeal (hKernelIdeal := hKernelIdeal)
    ∧ quiescent_KernelIdeal_pre_mixer_inputs_finite (hKernelIdeal := hKernelIdeal) (hPre_mixer_inputs_finite := hPre_mixer_inputs_finite)
    ∧ quiescent_ReferenceIdeal (hReferenceIdeal := hReferenceIdeal)
    ∧ quiescent_ReferenceIdeal_pre_mixer_inputs_finite (hReferenceIdeal := hReferenceIdeal) (hPre_mixer_inputs_finite := hPre_mixer_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_ffn_inputs_finite (hKernel8Ideal := hKernel8Ideal) (hPre_ffn_inputs_finite := hPre_ffn_inputs_finite)
    ∧ quiescent_Reference8Ideal (hReference8Ideal := hReference8Ideal)
    ∧ quiescent_Reference8Ideal_pre_ffn_inputs_finite (hReference8Ideal := hReference8Ideal) (hPre_ffn_inputs_finite := hPre_ffn_inputs_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_projection_inputs_finite (hKernel11Ideal := hKernel11Ideal) (hPre_projection_inputs_finite := hPre_projection_inputs_finite)
    ∧ quiescent_Reference11Ideal (hReference11Ideal := hReference11Ideal)
    ∧ quiescent_Reference11Ideal_pre_projection_inputs_finite (hReference11Ideal := hReference11Ideal) (hPre_projection_inputs_finite := hPre_projection_inputs_finite)
    ∧ preserves_Kernel_KernelIdeal
    ∧ algebraic_KernelIdeal_ReferenceIdeal_pre_mixer_inputs_finite (hKernelIdeal := hKernelIdeal) (hReferenceIdeal := hReferenceIdeal) (hPre_mixer_inputs_finite := hPre_mixer_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_ffn_inputs_finite (hKernel8Ideal := hKernel8Ideal) (hReference8Ideal := hReference8Ideal) (hPre_ffn_inputs_finite := hPre_ffn_inputs_finite)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_projection_inputs_finite (hKernel11Ideal := hKernel11Ideal) (hReference11Ideal := hReference11Ideal) (hPre_projection_inputs_finite := hPre_projection_inputs_finite)
-- ==== Pre_ffn_inputs_finite.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_arg5 : FVec F S1x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S4096x1024 .f32) (main_arg2 : FVec F S1x1024 .f32) (main_arg3 : FVec F S1024x4096 .f32) (main_arg4 : FVec F S4096x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x4096 .f32 := Host.absf main_arg3
  let main_cst_4 : FVec F S_ .f32 := constant S_ .f32 0x7F800000#32
  let main_v13 : FVec F S1024x4096 .f32 := broadcastInDim S1024x4096 ![] bcast_S_S1024x4096 main_cst_4
  let main_v14 : IVec S1024x4096 1 := cmpf .olt main_v12 main_v13
  let main_c_5 : IVec S_ 1 := constantI S_ 1 1#1
  let main_v15 : IVec S_ 1 := (fun x v => Host.reduce IntOp.andi x v reducesTo_S1024x4096_S_d0_1 h_S_) main_v14 main_c_5
  fn_part1 (F := F) main_arg4 main_arg5 main_v3 main_v7 main_v11 main_v15
-- ==== Pre_mixer_inputs_finite.lean ====
abbrev S4096x3072 : Shape := ⟨2, ![4096, 3072]⟩
abbrev S4096x1024 : Shape := ⟨2, ![4096, 1024]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S_ : Shape := ⟨0, ![]⟩

class Facts : Prop where
  slices_S4096x3072_S4096x1024_0_2048 : S4096x3072.Slices ![0, 2048] S4096x1024
  slices_S4096x1024_S4096x512_0_512 : S4096x1024.Slices ![0, 512] S4096x512
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1x512 : S_.BroadcastsInDim S1x512 (![] : Fin 0 → Fin S1x512.rank)
  reducesTo_S1x512_S_d0_1 : S1x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_v5 : IVec S_ 1) (main_v9 : IVec S_ 1) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : FVec F S4096x3072 .f32) (main_arg1 : FVec F S4096x1024 .f32) (main_arg2 : FVec F S4096x3072 .bf16) (main_arg3 : FVec F S1x512 .f32) (main_arg4 : FVec F S1x512 .f32) (main_arg5 : FVec F S4x128x128 .f32) (main_arg6 : FVec F S4x128 .f32) : IVec S_ 1 :=
  let main_v0 : FVec F S4096x1024 .f32 := (extractStridedSlice S4096x1024 ![0, 2048] · slices_S4096x3072_S4096x1024_0_2048) main_arg0
  let main_v1 : FVec F S4096x512 .f32 := (extractStridedSlice S4096x512 ![0, 512] · slices_S4096x1024_S4096x512_0_512) main_arg1
  let main_v2 : FVec F S4096x1024 .f32 := Host.absf main_v0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_c : IVec S_ 1 := constantI S_ 1 1#1
  let main_v5 : IVec S_ 1 := (fun x v => Host.reduce IntOp.andi x v reducesTo_S4096x1024_S_d0_1 h_S_) main_v4 main_c
  let main_v6 : FVec F S4096x512 .f32 := Host.absf main_v1
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_v5 main_v9 main_v13 main_v16
-- ==== Pre_projection_inputs_finite.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S4096x1024 .f32) (main_arg2 : FVec F S1x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_v3 main_v7 main_v11 main_v15
-- ==== Kernel.lean ====
abbrev S4096x3072 : Shape := ⟨2, ![4096, 3072]⟩
abbrev S4096x1024 : Shape := ⟨2, ![4096, 1024]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S8x512 : Shape := ⟨2, ![8, 512]⟩
abbrev S512x512 : Shape := ⟨2, ![512, 512]⟩
abbrev S512x1024 : Shape := ⟨2, ![512, 1024]⟩
abbrev S128x128 : Shape := ⟨2, ![128, 128]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 13
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x3072, .bf16⟩
  | .hbm, ⟨3, _⟩ => ⟨S1x512, .f32⟩
  | .hbm, ⟨4, _⟩ => ⟨S1x512, .f32⟩
  | .hbm, ⟨5, _⟩ => ⟨S4x128x128, .f32⟩
  | .hbm, ⟨6, _⟩ => ⟨S4x128, .f32⟩
  | .hbm, ⟨7, _⟩ => ⟨S128x4, .f32⟩
  | .hbm, ⟨8, _⟩ => ⟨S4096x3072, .bf16⟩
  | .hbm, ⟨9, _⟩ => ⟨S8x512, .f32⟩
  | .hbm, ⟨10, _⟩ => ⟨S8x512, .f32⟩
  | .hbm, ⟨11, _⟩ => ⟨S4x128x128, .f32⟩
  | .hbm, ⟨12, _⟩ => ⟨S128x4, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S512x1024, .bf16⟩
  | .local _ .vmem, ⟨11, _⟩ => ⟨S512x1024, .bf16⟩
  | .local _ .vmem, ⟨12, _⟩ => ⟨S8x512, .f32⟩
  | .local _ .vmem, ⟨13, _⟩ => ⟨S8x512, .f32⟩
  | .local _ .vmem, ⟨14, _⟩ => ⟨S4x128x128, .f32⟩
  | .local _ .vmem, ⟨15, _⟩ => ⟨S128x4, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x3072 : Shape := ⟨2, ![4096, 3072]⟩
abbrev S4096x1024 : Shape := ⟨2, ![4096, 1024]⟩
abbrev S1x512 : Shape := ⟨2, ![1, 512]⟩
abbrev S4x128x128 : Shape := ⟨3, ![4, 128, 128]⟩
abbrev S4x128 : Shape := ⟨2, ![4, 128]⟩
abbrev S4096x512 : Shape := ⟨2, ![4096, 512]⟩
abbrev S2x2048x512 : Shape := ⟨3, ![2, 2048, 512]⟩
abbrev S512 : Shape := ⟨1, ![512]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S4096x2048 : Shape := ⟨2, ![4096, 2048]⟩
abbrev S7x512 : Shape := ⟨2, ![7, 512]⟩
abbrev S8x512 : Shape := ⟨2, ![8, 512]⟩

abbrev nBuf : Space → Nat
  | .hbm => 240
  | .vmem => 0
  | .smem => 0
  | _ => 0

abbrev hbmTy0_0 (i : Nat) : BufTy := match i % 128 with
  | 0 => ⟨S4096x3072, .f32⟩
  | 1 => ⟨S4096x1024, .f32⟩
  | 2 => ⟨S4096x3072, .bf16⟩
  | 3 => ⟨S1x512, .f32⟩
  | 4 => ⟨S1x512, .f32⟩
  | 5 => ⟨S4x128x128, .f32⟩
  | 6 => ⟨S4x128, .f32⟩
  | 7 => ⟨S4096x512, .f32⟩
  | 8 => ⟨S2x2048x512, .f32⟩
  | 9 => ⟨S4096x512, .f32⟩
  | 10 => ⟨S2x2048x512, .f32⟩
  | 11 => ⟨S512, .f32⟩
  | 12 => ⟨S512, .f32⟩
  | 13 => ⟨S2x2048x512, .f32⟩
  | 14 => ⟨S2x2048x512, .f32⟩
  | 15 => ⟨S2x2048x512, .f32⟩
  | 16 => ⟨S_, .f32⟩
  | 17 => ⟨S2x2048x512, .f32⟩
  | 18 => ⟨S2x2048x512, .f32⟩
  | 19 => ⟨S_, .f32⟩
  | 20 => ⟨S2x2048x512, .f32⟩
  | 21 => ⟨S2x2048x512, .f32⟩
  | 22 => ⟨S2x2048x512, .f32⟩
  | 23 => ⟨S_, .f32⟩
  | 24 => ⟨S2x2048x512, .f32⟩
  | 25 => ⟨S2x2048x512, .f32⟩
  | 26 => ⟨S2x2048x512, .f32⟩
  | 27 => ⟨S_, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S2x2048x512, .f32⟩
  | 41 => ⟨S2x2048x512, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S_, .f32⟩
  | 52 => ⟨S2x2048x512, .f32⟩
  | 53 => ⟨S2x2048x512, .f32⟩
  | 54 => ⟨S2x2048x512, .f32⟩
  | 55 => ⟨S_, .f32⟩
  | 56 => ⟨S2x2048x512, .f32⟩
  | 57 => ⟨S2x2048x512, .f32⟩
  | 58 => ⟨S_, .f32⟩
  | 59 => ⟨S2x2048x512, .f32⟩
  | 60 => ⟨S2x2048x512, .f32⟩
  | 61 => ⟨S2x2048x512, .f32⟩
  | 62 => ⟨S_, .f32⟩
  | 63 => ⟨S2x2048x512, .f32⟩
  | 64 => ⟨S2x2048x512, .f32⟩
  | 65 => ⟨S_, .f32⟩
  | 66 => ⟨S2x2048x512, .f32⟩
  | 67 => ⟨S2x2048x512, .f32⟩
  | 68 => ⟨S2x2048x512, .f32⟩
  | 69 => ⟨S_, .f32⟩
  | 70 => ⟨S2x2048, .f32⟩
  | 71 => ⟨S2x2048x1, .f32⟩
  | 72 => ⟨S_, .f32⟩
  | 73 => ⟨S2x2048x1, .f32⟩
  | 74 => ⟨S2x2048x1, .f32⟩
  | 75 => ⟨S2x2048x512, .f32⟩
  | 76 => ⟨S2x2048x512, .f32⟩
  | 77 => ⟨S2x2048x512, .f32⟩
  | 78 => ⟨S_, .f32⟩
  | 79 => ⟨S2x2048x512, .f32⟩
  | 80 => ⟨S2x2048x512, .f32⟩
  | 81 => ⟨S_, .f32⟩
  | 82 => ⟨S2x2048, .f32⟩
  | 83 => ⟨S2x2048x1, .f32⟩
  | 84 => ⟨S_, .f32⟩
  | 85 => ⟨S2x2048x1, .f32⟩
  | 86 => ⟨S2x2048x1, .f32⟩
  | 87 => ⟨S2x2048x512, .f32⟩
  | 88 => ⟨S2x2048x512, .f32⟩
  | 89 => ⟨S_, .f32⟩
  | 90 => ⟨S2x2048x1, .f32⟩
  | 91 => ⟨S2x2048x1, .f32⟩
  | 92 => ⟨S2x2048x1, .f32⟩
  | 93 => ⟨S2x2048x1, .f32⟩
  | 94 => ⟨S_, .f32⟩
  | 95 => ⟨S2x2048x1, .f32⟩
  | 96 => ⟨S2x2048x1, .f32⟩
  | 97 => ⟨S2x2048x512, .f32⟩
  | 98 => ⟨S2x2048x512, .f32⟩
  | 99 => ⟨S1x1x512, .f32⟩
  | 100 => ⟨S2x2048x512, .f32⟩
  | 101 => ⟨S2x2048x512, .f32⟩
  | 102 => ⟨S1x1x512, .f32⟩
  | 103 => ⟨S2x2048x512, .f32⟩
  | 104 => ⟨S2x2048x512, .f32⟩
  | 105 => ⟨S2x16x128x4x128, .f32⟩
  | 106 => ⟨S_, .i1⟩
  | 107 => ⟨S128x128, .i1⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S_, .i1⟩
  | 115 => ⟨S128x128, .i1⟩
  | 116 => ⟨S128x128, .i1⟩
  | 117 => ⟨S1x128x128, .i1⟩
  | 118 => ⟨S_, .f32⟩
  | 119 => ⟨S4x128x128, .f32⟩
  | 120 => ⟨S4x128x128, .i1⟩
  | 121 => ⟨S4x128x128, .f32⟩
  | 122 => ⟨S_, .f32⟩
  | 123 => ⟨S4x128x128, .f32⟩
  | 124 => ⟨S4x2x16x128x128, .f32⟩
  | 125 => ⟨S2x16x128x4x128, .f32⟩
  | 126 => ⟨S128x4, .f32⟩
  | 127 => ⟨S1x1x128x4x1, .f32⟩
  | _ => ⟨S4096x3072, .f32⟩

abbrev hbmTy0_1 (i : Nat) : BufTy := match i % 128 with
  | 0 => ⟨S2x16x128x4x128, .f32⟩
  | 1 => ⟨S2x16x128x4x128, .f32⟩
  | 2 => ⟨S2x2048x512, .f32⟩
  | 3 => ⟨S2x2048x512, .f32⟩
  | 4 => ⟨S4096x512, .f32⟩
  | 5 => ⟨S2x2048x512, .f32⟩
  | 6 => ⟨S2x2048x512, .f32⟩
  | 7 => ⟨S2x2048x512, .f32⟩
  | 8 => ⟨S2x16x128x4x128, .f32⟩
  | 9 => ⟨S_, .f32⟩
  | 10 => ⟨S128x4, .f32⟩
  | 11 => ⟨S1x1x128x4x1, .f32⟩
  | 12 => ⟨S_, .f32⟩
  | 13 => ⟨S128x4, .f32⟩
  | 14 => ⟨S4x128, .f32⟩
  | 15 => ⟨S4x2x16x128x128, .f32⟩
  | 16 => ⟨S4x128x128, .f32⟩
  | 17 => ⟨S4x2x16x128x128, .f32⟩
  | 18 => ⟨S2x16x128x4x128, .f32⟩
  | 19 => ⟨S_, .f32⟩
  | 20 => ⟨S4x128x128, .f32⟩
  | 21 => ⟨S4x128x128, .f32⟩
  | 22 => ⟨S2x2048x512, .f32⟩
  | 23 => ⟨S_, .f32⟩
  | 24 => ⟨S512, .f32⟩
  | 25 => ⟨S1x1x512, .f32⟩
  | 26 => ⟨S_, .f32⟩
  | 27 => ⟨S512, .f32⟩
  | 28 => ⟨S2x2048x512, .f32⟩
  | 29 => ⟨S_, .f32⟩
  | 30 => ⟨S512, .f32⟩
  | 31 => ⟨S1x1x512, .f32⟩
  | 32 => ⟨S2x2048x512, .f32⟩
  | 33 => ⟨S2x2048x512, .f32⟩
  | 34 => ⟨S_, .f32⟩
  | 35 => ⟨S512, .f32⟩
  | 36 => ⟨S2x2048x512, .f32⟩
  | 37 => ⟨S_, .f32⟩
  | 38 => ⟨S2x2048, .f32⟩
  | 39 => ⟨S2x2048x1, .f32⟩
  | 40 => ⟨S2x2048x512, .f32⟩
  | 41 => ⟨S2x2048x512, .f32⟩
  | 42 => ⟨S2x2048x1, .f32⟩
  | 43 => ⟨S2x2048x512, .f32⟩
  | 44 => ⟨S_, .f32⟩
  | 45 => ⟨S2x2048, .f32⟩
  | 46 => ⟨S2x2048x1, .f32⟩
  | 47 => ⟨S_, .f32⟩
  | 48 => ⟨S2x2048x1, .f32⟩
  | 49 => ⟨S2x2048x1, .f32⟩
  | 50 => ⟨S_, .f32⟩
  | 51 => ⟨S2x2048, .f32⟩
  | 52 => ⟨S2x2048x512, .f32⟩
  | 53 => ⟨S2x2048x512, .f32⟩
  | 54 => ⟨S2x2048x512, .f32⟩
  | 55 => ⟨S_, .f32⟩
  | 56 => ⟨S2x2048, .f32⟩
  | 57 => ⟨S2x2048x1, .f32⟩
  | 58 => ⟨S2x2048x512, .f32⟩
  | 59 => ⟨S2x2048x1, .f32⟩
  | 60 => ⟨S_, .f32⟩
  | 61 => ⟨S2x2048x1, .f32⟩
  | 62 => ⟨S2x2048x1, .f32⟩
  | 63 => ⟨S_, .f32⟩
  | 64 => ⟨S2x2048, .f32⟩
  | 65 => ⟨S2x2048x512, .f32⟩
  | 66 => ⟨S2x2048x512, .f32⟩
  | 67 => ⟨S2x2048x512, .f32⟩
  | 68 => ⟨S2x2048x512, .f32⟩
  | 69 => ⟨S_, .f32⟩
  | 70 => ⟨S2x2048x512, .f32⟩
  | 71 => ⟨S2x2048x512, .f32⟩
  | 72 => ⟨S2x2048x512, .f32⟩
  | 73 => ⟨S_, .f32⟩
  | 74 => ⟨S2x2048x512, .f32⟩
  | 75 => ⟨S2x2048x512, .f32⟩
  | 76 => ⟨S2x2048x512, .f32⟩
  | 77 => ⟨S_, .f32⟩
  | 78 => ⟨S2x2048x512, .f32⟩
  | 79 => ⟨S2x2048x512, .f32⟩
  | 80 => ⟨S2x2048x512, .f32⟩
  | 81 => ⟨S2x2048x512, .f32⟩
  | 82 => ⟨S2x2048x512, .f32⟩
  | 83 => ⟨S2x2048x512, .f32⟩
  | 84 => ⟨S_, .f32⟩
  | 85 => ⟨S2x2048x512, .f32⟩
  | 86 => ⟨S2x2048x512, .f32⟩
  | 87 => ⟨S2x2048x512, .f32⟩
  | 88 => ⟨S_, .f32⟩
  | 89 => ⟨S2x2048x512, .f32⟩
  | 90 => ⟨S2x2048x512, .f32⟩
  | 91 => ⟨S2x2048x512, .f32⟩
  | 92 => ⟨S_, .f32⟩
  | 93 => ⟨S2x2048x512, .f32⟩
  | 94 => ⟨S2x2048x512, .f32⟩
  | 95 => ⟨S2x2048x512, .f32⟩
  | 96 => ⟨S2x2048x512, .f32⟩
  | 97 => ⟨S4096x2048, .bf16⟩
  | 98 => ⟨S4096x512, .f32⟩
  | 99 => ⟨S4096x512, .bf16⟩
  | 100 => ⟨S4096x512, .f32⟩
  | 101 => ⟨S4096x512, .bf16⟩
  | 102 => ⟨S4096x3072, .bf16⟩
  | 103 => ⟨S1x512, .f32⟩
  | 104 => ⟨S_, .f32⟩
  | 105 => ⟨S7x512, .f32⟩
  | 106 => ⟨S8x512, .f32⟩
  | 107 => ⟨S1x512, .f32⟩
  | 108 => ⟨S_, .f32⟩
  | 109 => ⟨S7x512, .f32⟩
  | 110 => ⟨S8x512, .f32⟩
  | 111 => ⟨S128x4, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_18 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_19 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c : Ref sig .tc := ⟨.hbm, 106, rfl⟩
abbrev main_v78 : Ref sig .tc := ⟨.hbm, 107, rfl⟩
abbrev main_call0_v0 : Ref sig .tc := ⟨.hbm, 108, rfl⟩
abbrev main_call0_c : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_c_0 : Ref sig .tc := ⟨.hbm, 114, rfl⟩
abbrev main_call0_v5 : Ref sig .tc := ⟨.hbm, 115, rfl⟩
abbrev main_v79 : Ref sig .tc := ⟨.hbm, 116, rfl⟩
abbrev main_v80 : Ref sig .tc := ⟨.hbm, 117, rfl⟩
abbrev main_cst_20 : Ref sig .tc := ⟨.hbm, 118, rfl⟩
abbrev main_v81 : Ref sig .tc := ⟨.hbm, 119, rfl⟩
abbrev main_v82_1 : Ref sig .tc := ⟨.hbm, 120, rfl⟩
abbrev main_v82_0 : Ref sig .tc := ⟨.hbm, 121, rfl⟩
abbrev main_call1_cst : Ref sig .tc := ⟨.hbm, 122, rfl⟩
abbrev main_v82_2 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_21 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_call2_cst : Ref sig .tc := ⟨.hbm, 147, rfl⟩
abbrev main_call2_v0 : Ref sig .tc := ⟨.hbm, 148, rfl⟩
abbrev main_v104 : Ref sig .tc := ⟨.hbm, 149, rfl⟩
abbrev main_v105 : Ref sig .tc := ⟨.hbm, 150, rfl⟩
abbrev main_cst_23 : Ref sig .tc := ⟨.hbm, 151, rfl⟩
abbrev main_v106 : Ref sig .tc := ⟨.hbm, 152, rfl⟩
abbrev main_v107 : Ref sig .tc := ⟨.hbm, 153, rfl⟩
abbrev main_cst_24 : Ref sig .tc := ⟨.hbm, 154, rfl⟩
abbrev main_v108 : Ref sig .tc := ⟨.hbm, 155, rfl⟩
abbrev main_v109 : Ref sig .tc := ⟨.hbm, 156, rfl⟩
abbrev main_cst_25 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_26 : Ref sig .tc := ⟨.hbm, 162, rfl⟩
abbrev main_v114 : Ref sig .tc := ⟨.hbm, 163, rfl⟩
abbrev main_v115 : Ref sig .tc := ⟨.hbm, 164, rfl⟩
abbrev main_cst_27 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_28 : Ref sig .tc := ⟨.hbm, 172, rfl⟩
abbrev main_v122 : Ref sig .tc := ⟨.hbm, 173, rfl⟩
abbrev main_v123 : Ref sig .tc := ⟨.hbm, 174, rfl⟩
abbrev main_cst_29 : Ref sig .tc := ⟨.hbm, 175, rfl⟩
abbrev main_v124 : Ref sig .tc := ⟨.hbm, 176, rfl⟩
abbrev main_v125 : Ref sig .tc := ⟨.hbm, 177, rfl⟩
abbrev main_cst_30 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_cst_31 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_32 : Ref sig .tc := ⟨.hbm, 188, rfl⟩
abbrev main_v134 : Ref sig .tc := ⟨.hbm, 189, rfl⟩
abbrev main_v135 : Ref sig .tc := ⟨.hbm, 190, rfl⟩
abbrev main_cst_33 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_34 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_35 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_36 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_37 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_38 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_cst_39 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_40 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_cst_41 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x1024 : Shape := ⟨3, ![4096, 4, 1024]⟩
abbrev S4x4096x1024 : Shape := ⟨3, ![4, 4096, 1024]⟩
abbrev S8x1024x512 : Shape := ⟨3, ![8, 1024, 512]⟩
abbrev S1x4096x1024 : Shape := ⟨3, ![1, 4096, 1024]⟩
abbrev S2x1024x512 : Shape := ⟨3, ![2, 1024, 512]⟩
abbrev S1024x4096 : Shape := ⟨2, ![1024, 4096]⟩
abbrev S512x1024 : Shape := ⟨2, ![512, 1024]⟩
abbrev S1024x512 : Shape := ⟨2, ![1024, 512]⟩
abbrev S1024x1024 : Shape := ⟨2, ![1024, 1024]⟩
abbrev S1x1024x512 : Shape := ⟨3, ![1, 1024, 512]⟩

abbrev nBuf : Space → Nat
  | .hbm => 24
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x4x1024, .f32⟩
  | .hbm, ⟨21, _⟩ => ⟨S4x4096x1024, .f32⟩
  | .hbm, ⟨22, _⟩ => ⟨S4x4096x1024, .bf16⟩
  | .hbm, ⟨23, _⟩ => ⟨S8x1024x512, .bf16⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S2x1024x512, .bf16⟩
  | .local _ .vmem, ⟨4, _⟩ => ⟨S2x1024x512, .bf16⟩
  | .local _ .vmem, ⟨5, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4096x1024 : Shape := ⟨2, ![4096, 1024]⟩
abbrev S1024 : Shape := ⟨1, ![1024]⟩
abbrev S4096x4096 : Shape := ⟨2, ![4096, 4096]⟩
abbrev S_ : Shape := ⟨0, ![]⟩
abbrev S1024x4096 : Shape := ⟨2, ![1024, 4096]⟩
abbrev S4096 : Shape := ⟨1, ![4096]⟩
abbrev S4096x1 : Shape := ⟨2, ![4096, 1]⟩
abbrev S1x1024 : Shape := ⟨2, ![1, 1024]⟩
abbrev S1024x8x512 : Shape := ⟨3, ![1024, 8, 512]⟩
abbrev S8x1024x512 : Shape := ⟨3, ![8, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x4096, .f32⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x1024, .f32⟩
  | .hbm, ⟨23, _⟩ => ⟨S1024x4096, .f32⟩
  | .hbm, ⟨24, _⟩ => ⟨S1024x8x512, .f32⟩
  | .hbm, ⟨25, _⟩ => ⟨S8x1024x512, .f32⟩
  | .hbm, ⟨26, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S4096x4x1024 : Shape := ⟨3, ![4096, 4, 1024]⟩
abbrev S4x4096x1024 : Shape := ⟨3, ![4, 4096, 1024]⟩
abbrev S1x4096x1024 : Shape := ⟨3, ![1, 4096, 1024]⟩
abbrev S1024x1024 : Shape := ⟨2, ![1024, 1024]⟩
abbrev S1x512x1024 : Shape := ⟨3, ![1, 512, 1024]⟩
abbrev S512x1024 : Shape := ⟨2, ![512, 1024]⟩
abbrev S1024x512 : Shape := ⟨2, ![1024, 512]⟩

abbrev nBuf : Space → Nat
  | .hbm => 30
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4x1024, .f32⟩
  | .hbm, ⟨26, _⟩ => ⟨S4x4096x1024, .f32⟩
  | .hbm, ⟨27, _⟩ => ⟨S4x4096x1024, .bf16⟩
  | .hbm, ⟨28, _⟩ => ⟨S4096x1024, .bf16⟩
  | .hbm, ⟨29, _⟩ => ⟨S4096x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S1024x4096, .f32⟩
  | .hbm, ⟨29, _⟩ => ⟨S4096x1024, .f32⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024x384 : Shape := ⟨3, ![8, 1024, 384]⟩
abbrev S4096x768 : Shape := ⟨2, ![4096, 768]⟩
abbrev S2x1024x384 : Shape := ⟨3, ![2, 1024, 384]⟩
abbrev S1024x4096 : Shape := ⟨2, ![1024, 4096]⟩
abbrev S512x1024 : Shape := ⟨2, ![512, 1024]⟩
abbrev S1024x512 : Shape := ⟨2, ![1024, 512]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 22
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x3072, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x3072, .bf16⟩
  | .hbm, ⟨21, _⟩ => ⟨S8x1024x384, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S2x1024x384, .bf16⟩
  | .local _ .vmem, ⟨4, _⟩ => ⟨S2x1024x384, .bf16⟩
  | .local _ .vmem, ⟨5, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S1024 : Shape := ⟨1, ![1024]⟩
abbrev S4096x3072 : Shape := ⟨2, ![4096, 3072]⟩
abbrev S_ : Shape := ⟨0, ![]⟩
abbrev S1024x3072 : Shape := ⟨2, ![1024, 3072]⟩
abbrev S4096 : Shape := ⟨1, ![4096]⟩
abbrev S4096x1 : Shape := ⟨2, ![4096, 1]⟩
abbrev S1x1024 : Shape := ⟨2, ![1, 1024]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x3072, .f32⟩
  | .hbm, ⟨3, _⟩ => ⟨S_, .f32⟩
  | .hbm, ⟨4, _⟩ => ⟨S1024x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x3072, .f32⟩
  | .hbm, ⟨22, _⟩ => ⟨S3072x1024, .f32⟩
  | .hbm, ⟨23, _⟩ => ⟨S1024x3072, .f32⟩
  | .hbm, ⟨24, _⟩ => ⟨S1024x8x384, .f32⟩
  | .hbm, ⟨25, _⟩ => ⟨S8x1024x384, .f32⟩
  | .hbm, ⟨26, _⟩ => ⟨S8x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S1024x4096 : Shape := ⟨2, ![1024, 4096]⟩
abbrev S512x1024 : Shape := ⟨2, ![512, 1024]⟩
abbrev S1024x512 : Shape := ⟨2, ![1024, 512]⟩

abbrev nBuf : Space → Nat
  | .hbm => 5
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S1024x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x4096 : Shape := ⟨2, ![1024, 4096]⟩
abbrev S4x4096x1024 : Shape := ⟨3, ![4, 4096, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S4x4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x1024, .bf16⟩
  | .local _ .vmem, ⟨15, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_15 : BitVec 32 := 0#32
  let v26 : BitVec 1 := Scalar.cmpi .ne v25 c0_i32_15
  v26

def k0_cond2 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond3 (i : grid0.Coords) : BitVec 1 :=
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .ne v22 c0_i32_14
  v23

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4096x4x1024 : Shape := ⟨3, ![4096, 4, 1024]⟩
abbrev S4x4096x1024 : Shape := ⟨3, ![4, 4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | .hbm, ⟨47, _⟩ => ⟨S4096x4x1024, .f32⟩
  | .hbm, ⟨48, _⟩ => ⟨S4x4096x1024, .f32⟩
  | .hbm, ⟨49, _⟩ => ⟨S4x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x4096 : Shape := ⟨2, ![1024, 4096]⟩
abbrev S4x4096x1024 : Shape := ⟨3, ![4, 4096, 1024]⟩
abbrev S8x1024 : Shape := ⟨2, ![8, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x4096, .bf16⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4x4096x1024, .bf16⟩
  | .hbm, ⟨12, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_15 : BitVec 32 := 0#32
  let v26 : BitVec 1 := Scalar.cmpi .ne v25 c0_i32_15
  v26

def k0_cond2 (i : grid0.Coords) : BitVec 1 :=
  let arg1 : BitVec 32 := BitVec.ofNat 32 (i 1).val
  let c0_i32_11 : BitVec 32 := 0#32
  let v18 : BitVec 1 := Scalar.cmpi .eq arg1 c0_i32_11
  let v19 : BitVec 32 := Scalar.extui v18
  let c0_i32_12 : BitVec 32 := 0#32
  let v20 : BitVec 1 := Scalar.cmpi .ne v19 c0_i32_12
  v20

def k0_cond3 (i : grid0.Coords) : BitVec 1 :=
  let arg1 : BitVec 32 := BitVec.ofNat 32 (i 1).val
  let c0_i32_13 : BitVec 32 := 0#32
  let v21 : BitVec 1 := Scalar.cmpi .sgt arg1 c0_i32_13
  let v22 : BitVec 32 := Scalar.extui v21
  let c0_i32_14 : BitVec 32 := 0#32
  let v23 : BitVec 1 := Scalar.cmpi .ne v22 c0_i32_14
  v23

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond5 (i : grid0.Coords) : BitVec 1 :=
  let arg0 : BitVec 32 := BitVec.ofNat 32 (i 0).val
  let c0_i32_32 : BitVec 32 := 0#32
  let v54 : BitVec 1 := Scalar.cmpi .eq arg0 c0_i32_32
  let v55 : BitVec 32 := Scalar.extui v54
  let c0_i32_33 : BitVec 32 := 0#32
  let v56 : BitVec 1 := Scalar.cmpi .ne v55 c0_i32_33
  v56

def k0_cond6 (i : grid0.Coords) : BitVec 1 :=
  let arg0 : BitVec 32 := BitVec.ofNat 32 (i 0).val
  let c0_i32_32 : BitVec 32 := 0#32
  let v54 : BitVec 1 := Scalar.cmpi .eq arg0 c0_i32_32
  let v_true : BitVec 1 := 1#1
  let v57 : BitVec 1 := Scalar.xori v54 v_true
  let v58 : BitVec 32 := Scalar.extui v57
  let c0_i32_34 : BitVec 32 := 0#32
  let v59 : BitVec 1 := Scalar.cmpi .ne v58 c0_i32_34
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference7Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4096x4x1024 : Shape := ⟨3, ![4096, 4, 1024]⟩
abbrev S4x4096x1024 : Shape := ⟨3, ![4, 4096, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | .hbm, ⟨48, _⟩ => ⟨S4096x4x1024, .f32⟩
  | .hbm, ⟨49, _⟩ => ⟨S4x4096x1024, .f32⟩
  | .hbm, ⟨50, _⟩ => ⟨S4x4096x1024, .bf16⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x1024, .f32⟩
  | .hbm, ⟨73, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_cst_10 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4096x4x1024 : Shape := ⟨3, ![4096, 4, 1024]⟩
abbrev S4x4096x1024 : Shape := ⟨3, ![4, 4096, 1024]⟩
abbrev S8x1024 : Shape := ⟨2, ![8, 1024]⟩
abbrev S512x1024 : Shape := ⟨2, ![512, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 39
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x4x1024, .f32⟩
  | .hbm, ⟨30, _⟩ => ⟨S4x4096x1024, .f32⟩
  | .hbm, ⟨31, _⟩ => ⟨S4x4096x1024, .bf16⟩
  | .hbm, ⟨32, _⟩ => ⟨S1024x4096, .bf16⟩
  | .hbm, ⟨33, _⟩ => ⟨S4096x1024, .bf16⟩
  | .hbm, ⟨34, _⟩ => ⟨S4096x1024, .f32⟩
  | .hbm, ⟨35, _⟩ => ⟨S4096x1024, .bf16⟩
  | .hbm, ⟨36, _⟩ => ⟨S4x4096x1024, .bf16⟩
  | .hbm, ⟨37, _⟩ => ⟨S8x1024, .f32⟩
  | .hbm, ⟨38, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S8x1024, .f32⟩
  | .local _ .vmem, ⟨21, _⟩ => ⟨S8x1024, .f32⟩
  | .local _ .vmem, ⟨22, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev main_v23_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![8, 4], ![false, false]⟩

def k0_cond6 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_18 : BitVec 32 := 0#32
  let v30 : BitVec 1 := Scalar.cmpi .ne v29 c0_i32_18
  v30

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond7 (i : grid0.Coords) : BitVec 1 :=
  let arg0 : BitVec 32 := BitVec.ofNat 32 (i 0).val
  let c0_i32_35 : BitVec 32 := 0#32
  let v66 : BitVec 1 := Scalar.cmpi .eq arg0 c0_i32_35
  let v67 : BitVec 32 := Scalar.extui v66
  let c0_i32_36 : BitVec 32 := 0#32
  let v68 : BitVec 1 := Scalar.cmpi .ne v67 c0_i32_36
  v68

def k0_cond8 (i : grid0.Coords) : BitVec 1 :=
  let arg0 : BitVec 32 := BitVec.ofNat 32 (i 0).val
  let c0_i32_35 : BitVec 32 := 0#32
  let v66 : BitVec 1 := Scalar.cmpi .eq arg0 c0_i32_35
  let v_true : BitVec 1 := 1#1
  let v69 : BitVec 1 := Scalar.xori v66 v_true
  let v70 : BitVec 32 := Scalar.extui v69
  let c0_i32_37 : BitVec 32 := 0#32
  let v71 : BitVec 1 := Scalar.cmpi .ne v70 c0_i32_37
  v71

def k0_cond2 (i : grid0.Coords) : BitVec 1 :=
  let arg0 : BitVec 32 := BitVec.ofNat 32 (i 0).val
  let c0_i32_33 : BitVec 32 := 0#32
  let v66 : BitVec 1 := Scalar.cmpi .eq arg0 c0_i32_33
  let v67 : BitVec 32 := Scalar.extui v66
  let c0_i32_34 : BitVec 32 := 0#32
  let v68 : BitVec 1 := Scalar.cmpi .ne v67 c0_i32_34
  v68

def k0_cond3 (i : grid0.Coords) : BitVec 1 :=
  let arg0 : BitVec 32 := BitVec.ofNat 32 (i 0).val
  let c0_i32_33 : BitVec 32 := 0#32
  let v66 : BitVec 1 := Scalar.cmpi .eq arg0 c0_i32_33
  let v_true : BitVec 1 := 1#1
  let v69 : BitVec 1 := Scalar.xori v66 v_true
  let v70 : BitVec 32 := Scalar.extui v69
  let c0_i32_35 : BitVec 32 := 0#32
  let v71 : BitVec 1 := Scalar.cmpi .ne v70 c0_i32_35
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference8Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4096x4x1024 : Shape := ⟨3, ![4096, 4, 1024]⟩
abbrev S4x4096x1024 : Shape := ⟨3, ![4, 4096, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .i1⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x1024, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S4096x4096, .f32⟩
  | .hbm, ⟨85, _⟩ => ⟨S4096x4096, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | .hbm, ⟨108, _⟩ => ⟨S4096x4x1024, .f32⟩
  | .hbm, ⟨109, _⟩ => ⟨S4x4096x1024, .f32⟩
  | .hbm, ⟨110, _⟩ => ⟨S4x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S1024x3072, .bf16⟩
  | .hbm, ⟨4, _⟩ => ⟨S4096x3072, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .f32⟩
  | .local _ .vmem, ⟨5, _⟩ => ⟨S512x3072, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S4096x1024 : Shape := ⟨2, ![4096, 1024]⟩
abbrev S1x1024 : Shape := ⟨2, ![1, 1024]⟩
abbrev S1024x3072 : Shape := ⟨2, ![1024, 3072]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3072, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S1024x1024 : Shape := ⟨2, ![1024, 1024]⟩
abbrev S8x1024 : Shape := ⟨2, ![8, 1024]⟩
abbrev S1024 : Shape := ⟨1, ![1024]⟩
abbrev S1024x1 : Shape := ⟨2, ![1024, 1]⟩
abbrev S128x8x1024 : Shape := ⟨3, ![128, 8, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_17 : BitVec 32 := 0#32
  let v41 : BitVec 1 := Scalar.cmpi .ne v40 c0_i32_17
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.Mixer.Chunk.lean ====
/- What the mixer's backward kernel computes for one chunk of 128 rows, written once.

   The kernel's body runs four chunks, each over four groups of 128 lanes, unrolled. `In` holds what one chunk
   reads: the groups of the two branches' values and of the cotangent, and per group the gain, the offset, the
   mixing matrix and the bias. The definitions below follow the body operation by operation, at a group `g`. -/
module

public import proofs.«01_k».proof.Proof.Gen.KernelIdeal.Skeleton

@[expose] public section

noncomputable section

namespace Cert.Mixer

open Idealize.ShloMosaic Cert.KernelIdeal Cert.KernelIdeal.Gen

variable {F : FTy → Type} [FloatOps F]

/-- What one chunk reads, group by group. -/
structure In (F : FTy → Type) [FloatOps F] where
  u : Fin 4 → Vec F S128x128 .f32
  v : Fin 4 → Vec F S128x128 .f32
  d : Fin 4 → Vec F S128x128 .f32
  lg : Fin 4 → Vec F S1x128 .f32
  lb : Fin 4 → Vec F S1x128 .f32
  w : Fin 4 → Vec F S1x128x128 .f32
  b : Fin 4 → Vec F S128x1 .f32

/-- A constant over a 128 × 128 tile. -/
abbrev tile (w : BitVec 32) : FVec F S128x128 .f32 := broadcast S128x128 (Scalar.ofBits .f32 w : F .f32)

/-- A constant over a column of 128 rows. -/
abbrev col (w : BitVec 32) : FVec F S128x1 .f32 := broadcast S128x1 (Scalar.ofBits .f32 w : F .f32)

/-- The sum of every row of a tile, as a column. -/
def rowSum (x : FVec F S128x128 .f32) : FVec F S128x1 .f32 :=
  shapeCast S128x1 (multiReduction .add [1] S128 x 0x00000000#32 reduces_S128x128_S128 (.inl rfl) rfl) shapeCasts_S128_S128x1

/-- The sum of every column of a tile, as a row. -/
def colSum (x : FVec F S128x128 .f32) : FVec F S1x128 .f32 :=
  shapeCast S1x128 (multiReduction .add [0] S128 x 0x00000000#32 reduces_S128x128_S128_2 (.inl rfl) rfl) shapeCasts_S128_S1x128

/-- A column repeated over the 128 lanes. -/
def wide (x : FVec F S128x1 .f32) : FVec F S128x128 .f32 := broadcastTo S128x128 x broadcasts_S128x1_S128x128

/-- A row repeated over the 128 rows. -/
def tall (x : FVec F S1x128 .f32) : FVec F S128x128 .f32 := broadcastTo S128x128 x broadcasts_S1x128_S128x128

/-- A column summed over its one lane and repeated. -/
def wideSum (x : FVec F S128x1 .f32) : FVec F S128x128 .f32 :=
  wide (shapeCast S128x1 (multiReduction .add [1] S128 x 0x00000000#32 reduces_S128x1_S128 (.inl rfl) rfl) shapeCasts_S128_S128x1)

/-! ## The activation -/

def half (x : FVec F S128x128 .f32) : FVec F S128x128 .f32 := mulf (tile 0x3F000000#32) x
def sq (x : FVec F S128x128 .f32) : FVec F S128x128 .f32 := mulf x x
def th (x : FVec F S128x128 .f32) : FVec F S128x128 .f32 :=
  tanh (mulf (tile 0x3F4C422A#32) (addf x (mulf (tile 0x3D372713#32) (mulf (sq x) x))))
def sech (x : FVec F S128x128 .f32) : FVec F S128x128 .f32 :=
  mulf (addf (tile 0x3F800000#32) (th x)) (subf (tile 0x3F800000#32) (th x))
def opt (x : FVec F S128x128 .f32) : FVec F S128x128 .f32 := addf (tile 0x3F800000#32) (th x)
/-- The activation's value. -/
def gelu (x : FVec F S128x128 .f32) : FVec F S128x128 .f32 := mulf (half x) (opt x)

/-- The activation's gradient at `x`, applied to the cotangent `dy`. -/
def geluBwd (x dy : FVec F S128x128 .f32) : FVec F S128x128 .f32 :=
  let a := mulf (tile 0x3F4C422A#32) (mulf (mulf (half x) dy) (sech x))
  let b := mulf (tile 0x3D372713#32) a
  let e := mulf b x
  addf (addf (addf (addf a (mulf (sq x) b)) (mulf x e)) (mulf e x)) (mulf (tile 0x3F000000#32) (mulf dy (opt x)))

/-! ## The normalisation -/

variable (C : In F) (g : Fin 4)

/-- The sum over the 512 columns of four tiles, added in the groups' order. -/
def sum4 (a b c d : FVec F S128x128 .f32) : FVec F S128x1 .f32 :=
  addf (addf (addf (addf (col 0x00000000#32) (rowSum a)) (rowSum b)) (rowSum c)) (rowSum d)

def mu : FVec F S128x1 .f32 :=
  mulf (sum4 (gelu (C.v 0)) (gelu (C.v 1)) (gelu (C.v 2)) (gelu (C.v 3))) (col 0x3B000000#32)
def cen : FVec F S128x128 .f32 := subf (gelu (C.v g)) (wide (mu C))
def vareps : FVec F S128x1 .f32 :=
  addf (mulf (sum4 (mulf (cen C 0) (cen C 0)) (mulf (cen C 1) (cen C 1)) (mulf (cen C 2) (cen C 2)) (mulf (cen C 3) (cen C 3)))
    (col 0x3B000000#32)) (col 0x358637BD#32)
def inv : FVec F S128x1 .f32 := rsqrt (vareps C)
def dinv : FVec F S128x1 .f32 := mulf (col 0xBF000000#32) (divf (inv C) (vareps C))
def xhat : FVec F S128x128 .f32 := mulf (cen C g) (wide (inv C))
def vn : FVec F S128x128 .bf16 := truncf .bf16 (addf (mulf (xhat C g) (tall (C.lg g))) (tall (C.lb g))) bitsLt_bf16_f32

/-! ## The mixing product -/

/-- The lower triangle. -/
def mask : IVec S128x128 1 :=
  cmpi .sle (iota .tc S128x128 32 [1] iota_S128x128_d1_w32) (iota .tc S128x128 32 [0] iota_S128x128_d0_w32)
def wm : FVec F S128x128 .bf16 :=
  truncf .bf16 (select mask (shapeCast S128x128 (C.w g) shapeCasts_S1x128x128_S128x128) (tile 0x00000000#32)) bitsLt_bf16_f32
def mix : FVec F S128x128 .f32 :=
  addf (matmul dot_S128x128_S128x128_S128x128_1_0_0_1_n_n none (wm C g) (vn C g) (constant S128x128 .f32 0x00000000#32))
    (wide (shapeCast S128x1 (C.b g) shapeCasts_S128x1_S128x1))

/-! ## The gradients -/

def dmix : FVec F S128x128 .f32 := mulf (gelu (C.u g)) (C.d g)
def dgu : FVec F S128x128 .f32 := mulf (C.d g) (mix C g)
def dB : FVec F S128x1 .f32 := rowSum (dmix C g)
def dW : FVec F S128x128 .f32 :=
  select mask (extf .f32 (truncf .bf16 (matmul dot_S128x128_S128x128_S128x128_1_1_0_0_n_n none (dmix C g) (vn C g)
    (constant S128x128 .f32 0x00000000#32)) bitsLt_bf16_f32) bitsLt_bf16_f32) (tile 0x00000000#32)
def dvn : FVec F S128x128 .f32 :=
  extf .f32 (truncf .bf16 (transpose S128x128 [1, 0] (matmul dot_S128x128_S128x128_S128x128_0_0_1_1_n_n none (dmix C g) (wm C g)
    (constant S128x128 .f32 0x00000000#32)) transposes_S128x128_p1_0_S128x128) bitsLt_bf16_f32) bitsLt_bf16_f32
def dLb : FVec F S1x128 .f32 := colSum (dvn C g)
def dLg : FVec F S1x128 .f32 := colSum (mulf (xhat C g) (dvn C g))
def dxh : FVec F S128x128 .f32 := mulf (dvn C g) (tall (C.lg g))
def rowDot : FVec F S128x1 .f32 := rowSum (mulf (cen C g) (dxh C g))
def dVar : FVec F S128x1 .f32 :=
  mulf (mulf (addf (addf (addf (rowDot C 3) (rowDot C 2)) (rowDot C 1)) (rowDot C 0)) (dinv C)) (col 0x3B000000#32)
def dcen : FVec F S128x128 .f32 :=
  addf (addf (mulf (dxh C g) (wide (inv C))) (mulf (cen C g) (wideSum (dVar C)))) (mulf (wideSum (dVar C)) (cen C g))
def negSum : FVec F S128x1 .f32 := rowSum (subf (tile 0x00000000#32) (dcen C g))
def dMu : FVec F S128x1 .f32 :=
  mulf (addf (addf (addf (negSum C 3) (negSum C 2)) (negSum C 1)) (negSum C 0)) (col 0x3B000000#32)
def dgv : FVec F S128x128 .f32 := addf (dcen C g) (wideSum (dMu C))

/-- The gradient of the first branch's group `g`. -/
def dU : FVec F S128x128 .bf16 := truncf .bf16 (geluBwd (C.u g) (dgu C g)) bitsLt_bf16_f32
/-- The gradient of the second branch's group `g`. -/
def dV : FVec F S128x128 .bf16 := truncf .bf16 (geluBwd (C.v g) (dgv C g)) bitsLt_bf16_f32

end Cert.Mixer

end
-- ==== Proof.Mixer.Accumulate.lean ====
/- A buffer filled once and then read, added to and stored back, rectangle by rectangle: what it holds is what it was
   filled with plus the sum of what was added at the index. -/
module

public import Idealize.ShloMosaic.Lib.Pipeline.ValueKit.Tiles
public import Idealize.ShloMosaic.PureOps.Ideal

@[expose] public section

noncomputable section

namespace Cert.Mixer

open Idealize.ShloMosaic

section
variable {Val : EltTy → Type} [∀ e, Nonempty (Val e)] {sig : RefSig} {κ : Kind} {sp : Space} {S : Shape} {e : EltTy}

/-- The stores of `n` steps, the last first: step `k` reads its rectangle from the stores so far and stores `f k` of it. -/
def accum (v : View sig κ sp S e) (r : ℕ → Rect S) (f : (k : ℕ) → ((r k).shape.Idx → Val e) → (r k).shape.Idx → Val e)
    (base : List (View.Piece Val S e)) : ℕ → List (View.Piece Val S e)
  | 0 => base
  | k + 1 => ⟨r k, f k (v.readCov (accum v r f base k) (r k).toLoadRect)⟩ :: accum v r f base k
end

/-- If step `k` adds `add k` on its rectangle and `add k` vanishes off it, the buffer holds its first contents plus the
    sum of the steps' `add`. -/
theorem canon_accum {sig : RefSig} {κ : Kind} {sp : Space} {S : Shape} (v : View sig κ sp S .f32) (r : ℕ → Rect S)
    (f : (k : ℕ) → ((r k).shape.Idx → Elt Ideal .f32) → (r k).shape.Idx → Elt Ideal .f32)
    (base : List (View.Piece (Elt Ideal) S .f32)) (add : ℕ → S.Idx → EReal)
    (hin : ∀ k X x, f k X x = (X x + add k ((r k).idx x) : EReal)) (hout : ∀ k y, y ∉ (r k).set → add k y = 0) (n : ℕ) (y : S.Idx) :
    View.canon (accum v r f base n) y = (View.canon base y + ∑ k ∈ Finset.range n, add k y : EReal) := by
  induction n with
  | zero => simp [accum]
  | succ n ih =>
    rw [Finset.sum_range_succ, ← add_assoc, ← ih, accum]
    by_cases hy : y ∈ (r n).set
    · obtain ⟨x, rfl⟩ := (r n).exists_idx_of_mem hy
      rw [show (r n).idx x = (r n).emb x from rfl, View.canon_cons_emb, hin, View.readCov_eq_canon']
      rfl
    · rw [View.canon_cons_of_not_mem _ _ hy, hout n y hy]
      exact (add_zero _).symm

section
variable {Val : EltTy → Type} [∀ e, Nonempty (Val e)] {sig : RefSig} {κ : Kind} {sp : Space} {S : Shape} {e : EltTy}

/-- The stores of `n` steps over contents `Z` that were there before, the last first, on four rectangles in turn: each of
    the first four reads `Z`, each later one the stores so far. -/
def accumOver (v : View sig κ sp S e) (r : Fin 4 → Rect S)
    (f : (k : ℕ) → ((r ⟨k % 4, Nat.mod_lt _ (by decide)⟩).shape.Idx → Val e) → (r ⟨k % 4, Nat.mod_lt _ (by decide)⟩).shape.Idx → Val e)
    (Z : S.Idx → Val e) : ℕ → List (View.Piece Val S e)
  | 0 => []
  | k + 1 =>
    ⟨r ⟨k % 4, Nat.mod_lt _ (by decide)⟩,
      f k (if k < 4 then View.ld Z (r ⟨k % 4, Nat.mod_lt _ (by decide)⟩)
        else v.readCov (accumOver v r f Z k) (r ⟨k % 4, Nat.mod_lt _ (by decide)⟩).toLoadRect)⟩ :: accumOver v r f Z k

theorem mem_accumOver (v : View sig κ sp S e) (r : Fin 4 → Rect S) (f) (Z : S.Idx → Val e) (n k : ℕ) (hk : k < n) :
    ∃ p ∈ accumOver v r f Z n, p.1 = r ⟨k % 4, Nat.mod_lt _ (by decide)⟩ := by
  induction n with
  | zero => omega
  | succ n ih =>
    rcases Nat.lt_succ_iff_lt_or_eq.mp hk with h | rfl
    · obtain ⟨p, hp, e⟩ := ih h
      exact ⟨p, List.mem_cons_of_mem _ hp, e⟩
    · exact ⟨_, List.mem_cons_self, rfl⟩
end

/-- The same reading for the stores over earlier contents. -/
theorem read_accumOver {sig : RefSig} {κ : Kind} {sp : Space} {S : Shape} (v : View sig κ sp S .f32) (r : Fin 4 → Rect S)
    (f) (Z : S.Idx → Elt Ideal .f32) (g : v.ty.Contents (Elt Ideal)) (hg : v.read (Elt Ideal) g = Z) (add : ℕ → S.Idx → EReal)
    (hin : ∀ k X x, f k X x = (X x + add k ((r ⟨k % 4, Nat.mod_lt _ (by decide)⟩).idx x) : EReal))
    (hout : ∀ k y, y ∉ (r ⟨k % 4, Nat.mod_lt _ (by decide)⟩).set → add k y = 0)
    (hd : ∀ i j, i ≠ j → ∀ y, y ∈ (r i).set → y ∉ (r j).set) (n : ℕ) (y : S.Idx) :
    v.read (Elt Ideal) (v.writes (Elt Ideal) g (accumOver v r f Z n)) y = (Z y + ∑ k ∈ Finset.range n, add k y : EReal) := by
  induction n generalizing y with
  | zero => simp [accumOver, View.writes, hg]
  | succ n ih =>
    rw [Finset.sum_range_succ, ← add_assoc, accumOver]
    by_cases hy : y ∈ (r ⟨n % 4, Nat.mod_lt _ (by decide)⟩).set
    · obtain ⟨x, rfl⟩ := (r ⟨n % 4, Nat.mod_lt _ (by decide)⟩).exists_idx_of_mem hy
      have hmem (j) : (r ⟨n % 4, Nat.mod_lt _ (by decide)⟩).emb j ∈ (r ⟨n % 4, Nat.mod_lt _ (by decide)⟩).set := by
        rw [← Rect.map_emb_univ]; exact Finset.mem_map_of_mem _ (Finset.mem_univ _)
      refine (View.read_writes_cons_emb v g _ _ _ x).trans ((hin n _ x).trans ?_)
      congr 1
      by_cases h : n < 4
      · rw [if_pos h, Finset.sum_eq_zero fun k hk => hout k _ (hd _ _ ?_ _ hy), add_zero]
        · have := Finset.mem_range.mp hk
          simp only [ne_eq, Fin.mk.injEq]; omega
      · rw [if_neg h, ← ih, ← View.readAt_writes_of_cover v g]
        · rfl
        · intro j
          obtain ⟨p, hp, e⟩ := mem_accumOver v r f Z n (n - 4) (by omega)
          refine ⟨p, hp, ?_⟩
          rw [e, show (⟨(n - 4) % 4, Nat.mod_lt _ (by decide)⟩ : Fin 4) = ⟨n % 4, Nat.mod_lt _ (by decide)⟩ from Fin.ext (show (n - 4) % 4 = n % 4 by omega)]
          exact hmem j
    · rw [View.read_writes_cons_miss _ _ _ _ _ hy, ih, hout n y hy]
      exact (add_zero _).symm

/-- … and for the stores alone where the four rectangles are the whole buffer. -/
theorem canon_accumOver {sig : RefSig} {κ : Kind} {sp : Space} {S : Shape} (v : View sig κ sp S .f32) (r : Fin 4 → Rect S)
    (f) (Z : S.Idx → Elt Ideal .f32) (g : v.ty.Contents (Elt Ideal)) (hg : v.read (Elt Ideal) g = Z) (add : ℕ → S.Idx → EReal)
    (hin : ∀ k X x, f k X x = (X x + add k ((r ⟨k % 4, Nat.mod_lt _ (by decide)⟩).idx x) : EReal))
    (hout : ∀ k y, y ∉ (r ⟨k % 4, Nat.mod_lt _ (by decide)⟩).set → add k y = 0)
    (hd : ∀ i j, i ≠ j → ∀ y, y ∈ (r i).set → y ∉ (r j).set) (n : ℕ) (hn : 4 ≤ n) (hc : ∀ y, ∃ i, y ∈ (r i).set) (y : S.Idx) :
    View.canon (accumOver v r f Z n) y = (Z y + ∑ k ∈ Finset.range n, add k y : EReal) := by
  rw [← read_accumOver v r f Z g hg add hin hout hd n y, View.read_writes_eq_canon]
  intro y
  obtain ⟨i, hi⟩ := hc y
  obtain ⟨p, hp, e⟩ := mem_accumOver v r f Z n i.val (by omega)
  refine ⟨p, hp, ?_⟩
  rw [e, show (⟨i.val % 4, Nat.mod_lt _ (by decide)⟩ : Fin 4) = i from Fin.ext (show i.val % 4 = i.val by omega)]
  exact hi

/-! ## Four rectangles in turn, sixteen steps -/

section
variable {S : Shape} (R : Fin 4 → Rect S) (T : (ch g : Fin 4) → (R g).shape.Idx → EReal)

open Classical in
/-- What step `k` adds at an index: round `k / 4`'s value for rectangle `k % 4` on that rectangle, nothing off it. -/
def roundAdd (k : ℕ) (y : S.Idx) : EReal :=
  if h : ∃ x, (R ⟨k % 4, Nat.mod_lt _ (by decide)⟩).emb x = y then T ⟨k / 4 % 4, Nat.mod_lt _ (by decide)⟩ ⟨k % 4, Nat.mod_lt _ (by decide)⟩ h.choose else 0

theorem roundAdd_emb (k : ℕ) (x) :
    roundAdd R T k ((R ⟨k % 4, Nat.mod_lt _ (by decide)⟩).emb x) = T ⟨k / 4 % 4, Nat.mod_lt _ (by decide)⟩ ⟨k % 4, Nat.mod_lt _ (by decide)⟩ x := by
  unfold roundAdd
  have h : ∃ x', (R ⟨k % 4, Nat.mod_lt _ (by decide)⟩).emb x' = (R ⟨k % 4, Nat.mod_lt _ (by decide)⟩).emb x := ⟨x, rfl⟩
  rw [dif_pos h]
  exact congrArg _ ((R _).emb.injective h.choose_spec)

theorem emb_mem (r : Rect S) (x : r.shape.Idx) : r.emb x ∈ r.set := by
  rw [← Rect.map_emb_univ]; exact Finset.mem_map_of_mem _ (Finset.mem_univ _)

theorem roundAdd_off (k : ℕ) (y : S.Idx) (hy : y ∉ (R ⟨k % 4, Nat.mod_lt _ (by decide)⟩).set) : roundAdd R T k y = 0 := by
  unfold roundAdd
  refine dif_neg ?_
  rintro ⟨x, rfl⟩
  exact hy (emb_mem _ x)

theorem sum_rounds (g : Fin 4) (F : Fin 4 → EReal) :
    (∑ k ∈ Finset.range 16, if (⟨k % 4, Nat.mod_lt _ (by decide)⟩ : Fin 4) = g then F ⟨k / 4 % 4, Nat.mod_lt _ (by decide)⟩ else 0) = ∑ ch, F ch := by
  fin_cases g <;> simp [Finset.sum_range_succ, Fin.sum_univ_four]

/-- The sixteen steps' sum on rectangle `g`: its value of every round. -/
theorem sum_roundAdd (hd : ∀ i j, i ≠ j → ∀ y, y ∈ (R i).set → y ∉ (R j).set) (g : Fin 4) (x : (R g).shape.Idx) :
    ∑ k ∈ Finset.range 16, roundAdd R T k ((R g).emb x) = ∑ ch, T ch g x := by
  rw [← sum_rounds g fun ch => T ch g x]
  refine Finset.sum_congr rfl fun k _ => ?_
  by_cases h : (⟨k % 4, Nat.mod_lt _ (by decide)⟩ : Fin 4) = g
  · subst h
    rw [if_pos rfl, roundAdd_emb]
  · rw [if_neg h, roundAdd_off]
    exact hd _ _ (Ne.symm h) _ (emb_mem _ x)

/-- The sixteen steps' sum off the rectangles. -/
theorem sum_roundAdd_off (y : S.Idx) (hy : ∀ g, y ∉ (R g).set) : ∑ k ∈ Finset.range 16, roundAdd R T k y = 0 :=
  Finset.sum_eq_zero fun k _ => roundAdd_off R T k y (hy _)
end

end Cert.Mixer

end
-- ==== Proof.Mixer.Inputs.lean ====
/- What one grid point of the mixer's backward kernel reads, cut into its four chunks and their four groups of lanes. -/
module

public import proofs.«01_k».proof.Proof.Mixer.Chunk
public import proofs.«01_k».proof.Proof.Mixer.Accumulate

@[expose] public section

noncomputable section

namespace Cert.Mixer

open Idealize.ShloMosaic Cert.KernelIdeal Cert.KernelIdeal.Gen

variable {F : FTy → Type} [FloatOps F]

theorem inb_tile (ch g : Fin 4) : ∀ a, (![128 * ch.val, 128 * g.val] : Fin 2 → Nat) a + S128x128.size a ≤ S512x512.size a := by
  intro a; fin_cases a <;> simp [S128x128, S512x512] <;> omega
theorem inb_row (g : Fin 4) : ∀ a, (![0, 128 * g.val] : Fin 2 → Nat) a + S1x128.size a ≤ S1x512.size a := by
  intro a; fin_cases a <;> simp [S1x128, S1x512] <;> omega
theorem inb_mat (g : Fin 4) : ∀ a, (![g.val, 0, 0] : Fin 3 → Nat) a + S1x128x128.size a ≤ S4x128x128.size a := by
  intro a; fin_cases a <;> simp [S1x128x128, S4x128x128] <;> omega
theorem inb_col (g : Fin 4) : ∀ a, (![0, g.val] : Fin 2 → Nat) a + S128x1.size a ≤ S128x4.size a := by
  intro a; fin_cases a <;> simp [S128x1, S128x4] <;> omega

/-- Rows `128 ch …` and lanes `128 g …` of a block of 512 × 512. -/
abbrev tileRect (ch g : Fin 4) : Rect S512x512 := Rect.unit ![128 * ch.val, 128 * g.val] S128x128.size (inb_tile ch g)

/-- What chunk `ch` of a grid point reads, from the point's seven blocks. -/
def chunkIn (x0 x1 x2 : Vec F S512x512 .f32) (x3 x4 : Vec F S1x512 .f32) (x5 : Vec F S4x128x128 .f32) (x6 : Vec F S128x4 .f32)
    (ch : Fin 4) : In F where
  u g := View.ld x0 (tileRect ch g)
  v g := View.ld x1 (tileRect ch g)
  d g := View.ld x2 (tileRect ch g)
  lg g := View.ld x3 (Rect.unit ![0, 128 * g.val] S1x128.size (inb_row g))
  lb g := View.ld x4 (Rect.unit ![0, 128 * g.val] S1x128.size (inb_row g))
  w g := View.ld x5 (Rect.unit ![g.val, 0, 0] S1x128x128.size (inb_mat g))
  b g := View.ld x6 (Rect.unit ![0, g.val] S128x1.size (inb_col g))

/-! ## The stores of a point into the block of gradients of the two branches -/

/-- Where the `k`-th store goes: chunk `k / 8`, group `k % 8 / 2`, the first branch's half for even `k`. -/
def duvOff (k : Fin 32) : Fin 2 → Nat := ![128 * (k.val / 8), 512 * (k.val % 2) + 128 * (k.val % 8 / 2)]

theorem inb_duv (k : Fin 32) : ∀ a, duvOff k a + S128x128.size a ≤ S512x1024.size a := by
  intro a; fin_cases a <;> simp [duvOff, S128x128, S512x1024] <;> omega

/-- What the `k`-th store holds. -/
def duvTile (C : Fin 4 → In F) (k : Fin 32) : FVec F S128x128 .bf16 :=
  if k.val % 2 = 0 then dU (C ⟨k.val / 8, by omega⟩) ⟨k.val % 8 / 2, by omega⟩
  else dV (C ⟨k.val / 8, by omega⟩) ⟨k.val % 8 / 2, by omega⟩

/-- The stores, the last first. -/
def duvPieces (C : Fin 4 → In F) : List (View.Piece (Elt F) S512x1024 .bf16) :=
  List.ofFn fun k : Fin 32 => ⟨Rect.unit (duvOff k.rev) S128x128.size (inb_duv k.rev), duvTile C k.rev⟩

/-! ## The steps of a point into the four running sums

Step `k` is chunk `k / 4`, group `k % 4`. -/

/-- The chunk of step `k`. -/
abbrev stepCh (k : ℕ) : Fin 4 := ⟨k / 4 % 4, by omega⟩
/-- The group of step `k`. -/
abbrev stepG (k : ℕ) : Fin 4 := ⟨k % 4, by omega⟩

theorem inb_sumRow (g : Fin 4) : ∀ a, (![0, 128 * g.val] : Fin 2 → Nat) a + S1x128.size a ≤ S8x512.size a := by
  intro a; fin_cases a <;> simp [S1x128, S8x512] <;> omega

/-- Row 0, lanes `128 g …` of the block of the gain's (and the offset's) gradient. -/
abbrev rowRect (g : Fin 4) : Rect S8x512 := Rect.unit ![0, 128 * g.val] S1x128.size (inb_sumRow g)
/-- Matrix `g` of the block of the mixing matrices' gradients. -/
abbrev matRect (g : Fin 4) : Rect S4x128x128 := Rect.unit ![g.val, 0, 0] S1x128x128.size (inb_mat g)
/-- Column `g` of the block of the bias's gradient. -/
abbrev colRect (g : Fin 4) : Rect S128x4 := Rect.unit ![0, g.val] S128x1.size (inb_col g)

def rowStep (row : ℕ → FVec F S1x128 .f32) (k : ℕ) (X : FVec F S1x128 .f32) : FVec F S1x128 .f32 :=
  addf (shapeCast S1x128 X shapeCasts_S1x128_S1x128) (row k)
def matStep (mat : ℕ → FVec F S128x128 .f32) (k : ℕ) (X : FVec F S1x128x128 .f32) : FVec F S1x128x128 .f32 :=
  shapeCast S1x128x128 (addf (shapeCast S128x128 X shapeCasts_S1x128x128_S128x128) (mat k)) shapeCasts_S128x128_S1x128x128
def colStep (c : ℕ → FVec F S128x1 .f32) (k : ℕ) (X : FVec F S128x1 .f32) : FVec F S128x1 .f32 :=
  addf (shapeCast S128x1 X shapeCasts_S128x1_S128x1) (c k)

/-- The stores into the block of the gain's gradient, over `Z`. -/
def dlgPieces (C : Fin 4 → In F) (v : View sig .tc .vmem S8x512 .f32) (Z : FVec F S8x512 .f32) : List (View.Piece (Elt F) S8x512 .f32) :=
  accum v (fun k => rowRect (stepG k)) (rowStep fun k => dLg (C (stepCh k)) (stepG k)) [⟨Rect.unit ![0, 0] S8x512.size inb_S8x512_S8x512_0_0, Z⟩] 16
/-- The stores into the block of the offset's gradient, over `Z`. -/
def dlbPieces (C : Fin 4 → In F) (v : View sig .tc .vmem S8x512 .f32) (Z : FVec F S8x512 .f32) : List (View.Piece (Elt F) S8x512 .f32) :=
  accum v (fun k => rowRect (stepG k)) (rowStep fun k => dLb (C (stepCh k)) (stepG k)) [⟨Rect.unit ![0, 0] S8x512.size inb_S8x512_S8x512_0_0, Z⟩] 16
/-- The stores into the block of the mixing matrices' gradients, over `Z`. -/
def dwPieces (C : Fin 4 → In F) (v : View sig .tc .vmem S4x128x128 .f32) (Z : FVec F S4x128x128 .f32) : List (View.Piece (Elt F) S4x128x128 .f32) :=
  accum v (fun k => matRect (stepG k)) (matStep fun k => dW (C (stepCh k)) (stepG k)) [⟨Rect.unit ![0, 0, 0] S4x128x128.size inb_S4x128x128_S4x128x128_0_0_0, Z⟩] 16
/-- The stores into the block of the bias's gradient, over `Z`. -/
def dbPieces (C : Fin 4 → In F) (v : View sig .tc .vmem S128x4 .f32) (Z : FVec F S128x4 .f32) : List (View.Piece (Elt F) S128x4 .f32) :=
  accum v (fun k => colRect (stepG k)) (colStep fun k => dB (C (stepCh k)) (stepG k)) [⟨Rect.unit ![0, 0] S128x4.size inb_S128x4_S128x4_0_0, Z⟩] 16
/-- The stores of a later point into the block of the gain's gradient, whose earlier contents are `Z`. -/
def dlgLater (C : Fin 4 → In F) (v : View sig .tc .vmem S8x512 .f32) (Z : FVec F S8x512 .f32) : List (View.Piece (Elt F) S8x512 .f32) :=
  accumOver v rowRect (rowStep fun k => dLg (C (stepCh k)) (stepG k)) Z 16
/-- The stores of a later point into the block of the offset's gradient, whose earlier contents are `Z`. -/
def dlbLater (C : Fin 4 → In F) (v : View sig .tc .vmem S8x512 .f32) (Z : FVec F S8x512 .f32) : List (View.Piece (Elt F) S8x512 .f32) :=
  accumOver v rowRect (rowStep fun k => dLb (C (stepCh k)) (stepG k)) Z 16
/-- The stores of a later point into the block of the mixing matrices' gradients, whose earlier contents are `Z`. -/
def dwLater (C : Fin 4 → In F) (v : View sig .tc .vmem S4x128x128 .f32) (Z : FVec F S4x128x128 .f32) : List (View.Piece (Elt F) S4x128x128 .f32) :=
  accumOver v matRect (matStep fun k => dW (C (stepCh k)) (stepG k)) Z 16
/-- The stores of a later point into the block of the bias's gradient, whose earlier contents are `Z`. -/
def dbLater (C : Fin 4 → In F) (v : View sig .tc .vmem S128x4 .f32) (Z : FVec F S128x4 .f32) : List (View.Piece (Elt F) S128x4 .f32) :=
  accumOver v colRect (colStep fun k => dB (C (stepCh k)) (stepG k)) Z 16

end Cert.Mixer

end
-- ==== Proof.Mixer.Stores.lean ====
/- What a grid point of the mixer's backward kernel leaves in its five output blocks: the stores of `Inputs`, over the
   chunks' values. Point 0 fills the four running sums with zeros first; every later point starts from what the point
   before left. -/
module

public import proofs.«01_k».proof.Proof.Gen.KernelIdeal.Value
public import proofs.«01_k».proof.Proof.Mixer.Inputs

@[expose] public section

set_option maxRecDepth 200000

noncomputable section

namespace Cert.Mixer

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The four chunks' inputs at grid point `t`. -/
abbrev pointIn (c : Dev nD) (t : Fin cfg0.N) : Fin 4 → In F :=
  chunkIn (iblk m c 0 t) (iblk m c 1 t) (iblk m c 2 t) (iblk m c 3 t) (iblk m c 4 t) (iblk m c 5 t) (iblk m c 6 t)

/-- What point `t` leaves in the block of the two branches' gradients (the first point). -/
theorem out_duv_A (c : Dev nD) (t : Fin cfg0.N) (h0 : t.val % 8 = 0) :
    (outsAt0 m c t.val t.isLt).1 = View.canon (duvPieces (pointIn m c t)) := by
  rw [outsAt0_A m c t h0]
  dsimp only
  unfold out0_A_7
  rw [View.read_writes_eq_canon _ _ _ (cover0_A_7 c _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  sl_kernel_rfl

/-- What point `t` leaves in the block of the two branches' gradients (a later point). -/
theorem out_duv_B (c : Dev nD) (t : Fin cfg0.N) (h0 : ¬t.val % 8 = 0) :
    (outsAt0 m c t.val t.isLt).1 = View.canon (duvPieces (pointIn m c t)) := by
  rw [outsAt0_B m c t h0]
  dsimp only
  unfold out0_B_7
  rw [View.read_writes_eq_canon _ _ _ (cover0_B_7 c _ _ _ _ _ _ _ _ _ _ _ _ _ _ _ _ _ _ _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread, (hs0_9 t).read_unread, (hs0_10 t).read_unread, (hs0_11 t).read_unread]
  sl_kernel_rfl

/-- What point `t` leaves in the block of the gain's gradient (the first point). -/
theorem out_dlg_A (c : Dev nD) (t : Fin cfg0.N) (h0 : t.val % 8 = 0) :
    (outsAt0 m c t.val t.isLt).2.1 = View.canon (dlgPieces (pointIn m c t) (ms0_8 t).view (broadcast S8x512 (Scalar.ofBits .f32 0x00000000#32 : F .f32))) := by
  rw [outsAt0_A m c t h0]
  dsimp only
  unfold out0_A_8
  rw [View.read_writes_eq_canon _ _ _ (cover0_A_8 c _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  sl_kernel_rfl

/-- What point `t` leaves in the block of the gain's gradient (a later point). -/
theorem out_dlg_B (c : Dev nD) (t : Fin cfg0.N) (h0 : ¬t.val % 8 = 0) :
    (outsAt0 m c t.val t.isLt).2.1 = View.read (Elt F) (ms0_8 t).view ((ms0_8 t).view.writes (Elt F)
      ((hs0_8 t).unread ((outsAt0 m c (t.val - 1) (lt_of_le_of_lt (Nat.sub_le t.val 1) t.isLt)).2.1))
      (dlgLater (pointIn m c t) (ms0_8 t).view ((outsAt0 m c (t.val - 1) (lt_of_le_of_lt (Nat.sub_le t.val 1) t.isLt)).2.1))) := by
  rw [outsAt0_B m c t h0]
  dsimp only
  unfold out0_B_8
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_8 t).read_unread]
  sl_kernel_rfl

/-- What point `t` leaves in the block of the offset's gradient (the first point). -/
theorem out_dlb_A (c : Dev nD) (t : Fin cfg0.N) (h0 : t.val % 8 = 0) :
    (outsAt0 m c t.val t.isLt).2.2.1 = View.canon (dlbPieces (pointIn m c t) (ms0_9 t).view (broadcast S8x512 (Scalar.ofBits .f32 0x00000000#32 : F .f32))) := by
  rw [outsAt0_A m c t h0]
  dsimp only
  unfold out0_A_9
  rw [View.read_writes_eq_canon _ _ _ (cover0_A_9 c _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  sl_kernel_rfl

/-- What point `t` leaves in the block of the offset's gradient (a later point). -/
theorem out_dlb_B (c : Dev nD) (t : Fin cfg0.N) (h0 : ¬t.val % 8 = 0) :
    (outsAt0 m c t.val t.isLt).2.2.1 = View.read (Elt F) (ms0_9 t).view ((ms0_9 t).view.writes (Elt F)
      ((hs0_9 t).unread ((outsAt0 m c (t.val - 1) (lt_of_le_of_lt (Nat.sub_le t.val 1) t.isLt)).2.2.1))
      (dlbLater (pointIn m c t) (ms0_9 t).view ((outsAt0 m c (t.val - 1) (lt_of_le_of_lt (Nat.sub_le t.val 1) t.isLt)).2.2.1))) := by
  rw [outsAt0_B m c t h0]
  dsimp only
  unfold out0_B_9
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread]
  sl_kernel_rfl

/-- What point `t` leaves in the block of the mixing matrices' gradients (the first point). -/
theorem out_dw_A (c : Dev nD) (t : Fin cfg0.N) (h0 : t.val % 8 = 0) :
    (outsAt0 m c t.val t.isLt).2.2.2.1 = View.canon (dwPieces (pointIn m c t) (ms0_10 t).view (broadcast S4x128x128 (Scalar.ofBits .f32 0x00000000#32 : F .f32))) := by
  rw [outsAt0_A m c t h0]
  dsimp only
  unfold out0_A_10
  rw [View.read_writes_eq_canon _ _ _ (cover0_A_10 c _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  sl_kernel_rfl

/-- What point `t` leaves in the block of the mixing matrices' gradients (a later point). -/
theorem out_dw_B (c : Dev nD) (t : Fin cfg0.N) (h0 : ¬t.val % 8 = 0) :
    (outsAt0 m c t.val t.isLt).2.2.2.1 = View.canon (dwLater (pointIn m c t) (ms0_10 t).view ((outsAt0 m c (t.val - 1) (lt_of_le_of_lt (Nat.sub_le t.val 1) t.isLt)).2.2.2.1)) := by
  rw [outsAt0_B m c t h0]
  dsimp only
  unfold out0_B_10
  rw [View.read_writes_eq_canon _ _ _ (cover0_B_10 c _ _ _ _ _ _ _ _ _ _ _ _ _ _ _ _ _ _ _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_10 t).read_unread]
  sl_kernel_rfl

/-- What point `t` leaves in the block of the bias's gradient (the first point). -/
theorem out_db_A (c : Dev nD) (t : Fin cfg0.N) (h0 : t.val % 8 = 0) :
    (outsAt0 m c t.val t.isLt).2.2.2.2 = View.canon (dbPieces (pointIn m c t) (ms0_11 t).view (broadcast S128x4 (Scalar.ofBits .f32 0x00000000#32 : F .f32))) := by
  rw [outsAt0_A m c t h0]
  dsimp only
  unfold out0_A_11
  rw [View.read_writes_eq_canon _ _ _ (cover0_A_11 c _ _ _ _ _ _ _ _ _ _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  sl_kernel_rfl

/-- What point `t` leaves in the block of the bias's gradient (a later point). -/
theorem out_db_B (c : Dev nD) (t : Fin cfg0.N) (h0 : ¬t.val % 8 = 0) :
    (outsAt0 m c t.val t.isLt).2.2.2.2 = View.canon (dbLater (pointIn m c t) (ms0_11 t).view ((outsAt0 m c (t.val - 1) (lt_of_le_of_lt (Nat.sub_le t.val 1) t.isLt)).2.2.2.2)) := by
  rw [outsAt0_B m c t h0]
  dsimp only
  unfold out0_B_11
  rw [View.read_writes_eq_canon _ _ _ (cover0_B_11 c _ _ _ _ _ _ _ _ _ _ _ _ _ _ _ _ _ _ _ _ _ _ _ _ _ _ _ _ _ _ _ _ _ _ _ _ _)]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_11 t).read_unread]
  sl_kernel_rfl

end Cert.Mixer

end
-- ==== Proof.Mixer.Spec.lean ====
/- The mixer's forward pass and its gradient on one chunk of 128 tokens, over the extended reals: sums over groups, tokens
   and lanes written out, in the order in which the reference takes its derivative. -/
module

public import Idealize.ShloMosaic.PureOps.Ideal
public import Idealize.ShloMosaic.PureOps.Ideal.Laws

@[expose] public section

noncomputable section

namespace Cert.Mixer

open Idealize.ShloMosaic

/-- A printed 32-bit constant. -/
abbrev lit (w : BitVec 32) : EReal := Ideal.ofBits .f32 w

/-- The inner function of the activation's hyperbolic tangent, through it. -/
def thS (x : EReal) : EReal := Ideal.tanh (lit 0x3F4C422A#32 * (x + lit 0x3D372713#32 * (x * x * x)))
/-- The activation. -/
def act (x : EReal) : EReal := x * (lit 0x3F000000#32 * (lit 0x3F800000#32 + thS x))
/-- The part of the activation's gradient that goes through the hyperbolic tangent. -/
def actInner (x dy : EReal) : EReal :=
  lit 0x3F4C422A#32 * (lit 0x3F000000#32 * (x * dy) * ((lit 0x3F800000#32 + thS x) * (lit 0x3F800000#32 - thS x)))
/-- The activation's gradient at `x`, applied to the cotangent `dy`. -/
def actGrad (x dy : EReal) : EReal :=
  dy * (lit 0x3F000000#32 * (lit 0x3F800000#32 + thS x)) + actInner x dy
    + lit 0x3D372713#32 * actInner x dy * (lit 0x40400000#32 * (x * x))

/-- One chunk: the two branches and the cotangent by group, token and lane; the gain and the offset by group and lane; the
    mixing matrix by group and two tokens; the bias by group and token. -/
structure Q where
  u : Fin 4 → Fin 128 → Fin 128 → EReal
  v : Fin 4 → Fin 128 → Fin 128 → EReal
  d : Fin 4 → Fin 128 → Fin 128 → EReal
  lg : Fin 4 → Fin 128 → EReal
  lb : Fin 4 → Fin 128 → EReal
  w : Fin 4 → Fin 128 → Fin 128 → EReal
  b : Fin 4 → Fin 128 → EReal

namespace Q

/-- The sum over a token's 512 columns. -/
def total (f : Fin 4 → Fin 128 → EReal) : EReal := ∑ g, ∑ l, f g l

variable (q : Q) (g : Fin 4)

def mu (r : Fin 128) : EReal := Ideal.div (total fun g l => act (q.v g r l)) (lit 0x44000000#32)
def cen (r l : Fin 128) : EReal := act (q.v g r l) - q.mu r
def vareps (r : Fin 128) : EReal :=
  Ideal.div (total fun g l => q.cen g r l * q.cen g r l) (lit 0x44000000#32) + lit 0x358637BD#32
def inv (r : Fin 128) : EReal := Ideal.rsqrt (q.vareps r)
def xhat (r l : Fin 128) : EReal := q.cen g r l * q.inv r
def vn (r l : Fin 128) : EReal := q.xhat g r l * q.lg g l + q.lb g l
def wm (t s : Fin 128) : EReal := if s.val ≤ t.val then q.w g t s else 0
def mix (t l : Fin 128) : EReal := (∑ s, q.vn g s l * q.wm g t s) + q.b g t
def dmix (r l : Fin 128) : EReal := act (q.u g r l) * q.d g r l
def dgu (r l : Fin 128) : EReal := q.d g r l * q.mix g r l
def dvn (s l : Fin 128) : EReal := ∑ t, q.dmix g t l * q.wm g t s
def dxh (r l : Fin 128) : EReal := q.dvn g r l * q.lg g l
def dvar (r : Fin 128) : EReal :=
  Ideal.div ((total fun g l => q.cen g r l * q.dxh g r l) * (lit 0xBF000000#32 * Ideal.div (q.inv r) (q.vareps r)))
    (lit 0x44000000#32)
/-- The gradient at the centred value through the normalised value. -/
def dcenX (r l : Fin 128) : EReal := q.dxh g r l * q.inv r
/-- The gradient at the centred value through the variance. -/
def dcenV (r l : Fin 128) : EReal := q.dvar r * (lit 0x40000000#32 * q.cen g r l)
def dmu (r : Fin 128) : EReal :=
  Ideal.div ((total fun g l => -q.dcenX g r l) + total fun g l => -q.dcenV g r l) (lit 0x44000000#32)
def dgv (r l : Fin 128) : EReal := q.dcenX g r l + q.dcenV g r l + q.dmu r
/-- The gradients of the two branches. -/
def dU (r l : Fin 128) : EReal := actGrad (q.u g r l) (q.dgu g r l)
def dV (r l : Fin 128) : EReal := actGrad (q.v g r l) (q.dgv g r l)
/-- This chunk's shares of the gradients of the bias, the mixing matrix, the offset and the gain. -/
def dB (r : Fin 128) : EReal := ∑ l, q.dmix g r l
def dW (t s : Fin 128) : EReal := ∑ l, q.dmix g t l * q.vn g s l
def dLb (l : Fin 128) : EReal := ∑ s, q.dvn g s l
def dLg (l : Fin 128) : EReal := ∑ s, q.xhat g s l * q.dvn g s l

end Q

/-- A sum over 512 columns, group by group. -/
theorem sum512 (f : Fin 512 → EReal) : ∑ k, f k = Q.total fun g l => f ⟨g.val * 128 + l.val, by omega⟩ := by
  rw [Q.total, ← Fintype.sum_prod_type']
  refine (Fintype.sum_equiv (finProdFinEquiv (m := 4) (n := 128)) _ _ fun p => ?_).symm
  congr 1; ext; simp [finProdFinEquiv]; omega

end Cert.Mixer

end
-- ==== Proof.Mixer.Scalars.lean ====
/- Facts about extended reals that the two forms of the mixer's gradient differ by: the printed constants, three equal
   summands, negated sums of finite numbers, and what stays finite. -/
module

public import proofs.«01_k».proof.Proof.Mixer.Spec
public import Idealize.ShloMosaic.Lib.IdealHost

@[expose] public section

noncomputable section

namespace Cert.Mixer

open Idealize.ShloMosaic

/-! ## The printed constants -/

theorem lit_512 : lit 0x44000000#32 = ((512 : ℝ) : EReal) := by
  simp [lit, Ideal.ofBits, Ideal.ieee, -EReal.coe_mul]; norm_num
theorem lit_inv512 : lit 0x3B000000#32 = ((1 / 512 : ℝ) : EReal) := by
  simp [lit, Ideal.ofBits, Ideal.ieee, -EReal.coe_mul]; norm_num
theorem lit_two : lit 0x40000000#32 = ((2 : ℝ) : EReal) := by
  simp [lit, Ideal.ofBits, Ideal.ieee, -EReal.coe_mul]; norm_num
theorem lit_three : lit 0x40400000#32 = ((3 : ℝ) : EReal) := by
  simp [lit, Ideal.ofBits, Ideal.ieee, -EReal.coe_mul]; norm_num
theorem lit_one : lit 0x3F800000#32 = 1 := Ideal.ofBits_one_f32

/-- The product with the reciprocal of 512 is the quotient. -/
theorem mul_inv512 (x : EReal) : x * lit 0x3B000000#32 = Ideal.div x (lit 0x44000000#32) := by
  rw [lit_512, lit_inv512, Ideal.div_coe (by norm_num)]

/-- A token's number as a word is the number. -/
theorem toInt_word (t : Fin 128) : (BitVec.ofNat 32 t.val).toInt = t.val := by
  rw [BitVec.toInt_eq_toNat_of_lt] <;> simp <;> omega

/-! ## Positions in a packed pair -/

theorem pack_div {k : ℕ} (n : Fin k) (r : Fin 128) (h : (n.val * 128 + r.val) / 128 < k) :
    (⟨(n.val * 128 + r.val) / 128, h⟩ : Fin k) = n := Fin.ext (by show _ / 128 = _; omega)
theorem pack_mod (n : ℕ) (r : Fin 128) (h : (n * 128 + r.val) % 128 < 128) : (⟨(n * 128 + r.val) % 128, h⟩ : Fin 128) = r :=
  Fin.ext (by show _ % 128 = _; omega)

/-! ## Equal summands -/

theorem add_self (y : EReal) : y + y = y * lit 0x40000000#32 := by
  rw [lit_two]
  induction y using EReal.rec with
  | bot => rw [EReal.bot_mul_coe_of_pos (by norm_num)]; rfl
  | top => rw [EReal.top_mul_coe_of_pos (by norm_num)]; rfl
  | coe y => norm_cast; ring

theorem add_self_self (y : EReal) : y + y + y = y * lit 0x40400000#32 := by
  rw [lit_three]
  induction y using EReal.rec with
  | bot => rw [EReal.bot_mul_coe_of_pos (by norm_num)]; rfl
  | top => rw [EReal.top_mul_coe_of_pos (by norm_num)]; rfl
  | coe y => norm_cast; ring

/-- The activation's gradient as a program that squares by products takes it, summand by summand. -/
theorem activation_forms (x dy : EReal) :
    lit 0x3F4C422A#32 * (lit 0x3F000000#32 * x * dy * ((1 + thS x) * (1 - thS x)))
      + x * x * (lit 0x3D372713#32 * (lit 0x3F4C422A#32 * (lit 0x3F000000#32 * x * dy * ((1 + thS x) * (1 - thS x)))))
      + x * (lit 0x3D372713#32 * (lit 0x3F4C422A#32 * (lit 0x3F000000#32 * x * dy * ((1 + thS x) * (1 - thS x)))) * x)
      + lit 0x3D372713#32 * (lit 0x3F4C422A#32 * (lit 0x3F000000#32 * x * dy * ((1 + thS x) * (1 - thS x)))) * x * x
      + lit 0x3F000000#32 * (dy * (1 + thS x)) = actGrad x dy := by
  have hI : lit 0x3F4C422A#32 * (lit 0x3F000000#32 * x * dy * ((1 + thS x) * (1 - thS x))) = actInner x dy := by
    rw [actInner, lit_one, mul_assoc (lit 0x3F000000#32), mul_assoc (lit 0x3F000000#32)]
  rw [actGrad, hI, lit_one]
  generalize actInner x dy = A
  generalize lit 0x3D372713#32 = c
  have h3 : c * A * (lit 0x40400000#32 * (x * x)) = x * x * (c * A) + x * (c * A * x) + c * A * x * x := by
    rw [show x * (c * A * x) = x * x * (c * A) by ac_rfl, show c * A * x * x = x * x * (c * A) by ac_rfl, add_self_self]
    ac_rfl
  rw [h3, show dy * (lit 0x3F000000#32 * (1 + thS x)) = lit 0x3F000000#32 * (dy * (1 + thS x)) by ac_rfl]
  generalize lit 0x3F000000#32 * (dy * (1 + thS x)) = p
  generalize x * x * (c * A) = p1
  generalize x * (c * A * x) = p2
  generalize c * A * x * x = p3
  ac_rfl

/-! ## Finite numbers -/

/-- The number is real. -/
def IsReal (x : EReal) : Prop := ∃ a : ℝ, x = a

theorem IsReal.zero : IsReal 0 := ⟨0, rfl⟩
theorem IsReal.add {x y : EReal} : IsReal x → IsReal y → IsReal (x + y) := by
  rintro ⟨a, rfl⟩ ⟨b, rfl⟩; exact ⟨a + b, by norm_cast⟩
theorem IsReal.sub {x y : EReal} : IsReal x → IsReal y → IsReal (x - y) := by
  rintro ⟨a, rfl⟩ ⟨b, rfl⟩; exact ⟨a - b, by norm_cast⟩
theorem IsReal.mul {x y : EReal} : IsReal x → IsReal y → IsReal (x * y) := by
  rintro ⟨a, rfl⟩ ⟨b, rfl⟩; exact ⟨a * b, by norm_cast⟩
theorem IsReal.sum {n : ℕ} {f : Fin n → EReal} (h : ∀ i, IsReal (f i)) : IsReal (∑ i, f i) := by
  choose a ha using h
  refine ⟨∑ i, a i, ?_⟩
  rw [Finset.sum_congr rfl fun i _ => ha i]
  exact (map_sum (⟨⟨((↑) : ℝ → EReal), rfl⟩, EReal.coe_add⟩ : ℝ →+ EReal) a Finset.univ).symm
theorem IsReal.total {f : Fin 4 → Fin 128 → EReal} (h : ∀ g l, IsReal (f g l)) : IsReal (Q.total f) :=
  IsReal.sum fun g => IsReal.sum fun l => h g l
theorem IsReal.div {x : EReal} {y : ℝ} (hy : y ≠ 0) (h : IsReal x) : IsReal (Ideal.div x y) := by
  rw [Ideal.div_coe hy]; exact h.mul ⟨_, rfl⟩
theorem IsReal.mean {x : EReal} (h : IsReal x) : IsReal (Ideal.div x (lit 0x44000000#32)) := by
  rw [lit_512]; exact h.div (by norm_num)
theorem IsReal.tanh {x : EReal} : IsReal x → IsReal (Ideal.tanh x) := by
  rintro ⟨a, rfl⟩; exact ⟨Real.tanh a, rfl⟩
theorem IsReal.ofFinite {x : EReal} (h : x ≠ ⊤) (h' : x ≠ ⊥) : IsReal x := ⟨x.toReal, (EReal.coe_toReal h h').symm⟩

theorem isReal_half : IsReal (lit 0x3F000000#32) := ⟨1 / 2, by simp [lit, Ideal.ofBits, Ideal.ieee, -EReal.coe_mul]; norm_num⟩
theorem isReal_negHalf : IsReal (lit 0xBF000000#32) :=
  ⟨-(1 / 2), by simp [lit, Ideal.ofBits, Ideal.ieee, -EReal.coe_mul, -EReal.coe_neg]; norm_num⟩
theorem isReal_outer : IsReal (lit 0x3F4C422A#32) := ⟨_, by simp [lit, Ideal.ofBits, Ideal.ieee, -EReal.coe_mul]; rfl⟩
theorem isReal_cubic : IsReal (lit 0x3D372713#32) := ⟨_, by simp [lit, Ideal.ofBits, Ideal.ieee, -EReal.coe_mul]; rfl⟩
theorem isReal_one : IsReal (lit 0x3F800000#32) := ⟨1, by rw [lit_one]; rfl⟩
theorem isReal_two : IsReal (lit 0x40000000#32) := ⟨2, lit_two⟩

/-- What is added to the variance is real and positive. -/
theorem eps_pos : ∃ e : ℝ, 0 < e ∧ lit 0x358637BD#32 = e :=
  ⟨8796093 * (2 ^ 43)⁻¹, by norm_num, by simp [lit, Ideal.ofBits, Ideal.ieee, -EReal.coe_mul]⟩

theorem isReal_act {x : EReal} (h : IsReal x) : IsReal (act x) :=
  h.mul (isReal_half.mul (isReal_one.add (IsReal.tanh (isReal_outer.mul (h.add (isReal_cubic.mul ((h.mul h).mul h)))))))

/-- Over finite numbers the sum of negated sums is the sum of the negations. -/
theorem neg_add_real {x y : EReal} : IsReal x → IsReal y → -(x + y) = -x + -y := by
  rintro ⟨a, rfl⟩ ⟨b, rfl⟩; norm_cast; ring

theorem Q.total_add (f f' : Fin 4 → Fin 128 → EReal) : (Q.total fun g l => f g l + f' g l) = Q.total f + Q.total f' := by
  simp only [Q.total, Finset.sum_add_distrib]

theorem Q.total_four (f : Fin 4 → Fin 128 → EReal) : Q.total f = (∑ l, f 0 l) + (∑ l, f 1 l) + (∑ l, f 2 l) + ∑ l, f 3 l :=
  Fin.sum_univ_four _

/-! ## A chunk of finite inputs -/

/-- The branches, the cotangent, the gain and the mixing matrices are finite. -/
structure Q.Real (q : Q) : Prop where
  u : ∀ g r l, IsReal (q.u g r l)
  v : ∀ g r l, IsReal (q.v g r l)
  d : ∀ g r l, IsReal (q.d g r l)
  lg : ∀ g l, IsReal (q.lg g l)
  w : ∀ g t s, IsReal (q.w g t s)

namespace Q.Real

variable {q : Q} (h : q.Real) (g : Fin 4) (r l : Fin 128)

include h

theorem mu : IsReal (q.mu r) := (IsReal.total fun g l => isReal_act (h.v g r l)).mean
theorem cen : IsReal (q.cen g r l) := (isReal_act (h.v g r l)).sub (h.mu r)

theorem vareps : ∃ a : ℝ, 0 < a ∧ q.vareps r = a := by
  obtain ⟨e, he, hE⟩ := eps_pos
  choose c hc using fun g l => h.cen g r l
  refine ⟨(∑ g, ∑ l, c g l * c g l) * (1 / 512) + e, ?_, ?_⟩
  · have : 0 ≤ ∑ g, ∑ l, c g l * c g l := Finset.sum_nonneg fun g _ => Finset.sum_nonneg fun l _ => mul_self_nonneg _
    positivity
  · have hs : ∀ {n : ℕ} (f : Fin n → ℝ), (∑ i, (f i : EReal)) = ((∑ i, f i : ℝ) : EReal) := fun f =>
      (map_sum (⟨⟨((↑) : ℝ → EReal), rfl⟩, EReal.coe_add⟩ : ℝ →+ EReal) f Finset.univ).symm
    rw [Q.vareps, hE, lit_512, Ideal.div_coe (by norm_num), Q.total]
    simp only [hc, ← EReal.coe_mul, hs, ← EReal.coe_add]

theorem inv : IsReal (q.inv r) := by
  obtain ⟨a, ha, e⟩ := h.vareps r
  refine ⟨(Real.sqrt a)⁻¹, ?_⟩
  rw [Q.inv, e, Ideal.rsqrt_coe, if_neg ha.le.not_gt, if_neg ha.ne']

theorem wm (t s : Fin 128) : IsReal (q.wm g t s) := by
  unfold Q.wm; split
  · exact h.w g t s
  · exact .zero
theorem dmix : IsReal (q.dmix g r l) := (isReal_act (h.u g r l)).mul (h.d g r l)
theorem dvn : IsReal (q.dvn g r l) := IsReal.sum fun t => (h.dmix g t l).mul (h.wm g t r)
theorem dxh : IsReal (q.dxh g r l) := (h.dvn g r l).mul (h.lg g l)
theorem dvar : IsReal (q.dvar r) := by
  obtain ⟨a, ha, e⟩ := h.vareps r
  refine ((IsReal.total fun g l => (h.cen g r l).mul (h.dxh g r l)).mul (isReal_negHalf.mul ?_)).mean
  rw [e]; exact (h.inv r).div ha.ne'
theorem dcenX : IsReal (q.dcenX g r l) := (h.dxh g r l).mul (h.inv r)
theorem dcenV : IsReal (q.dcenV g r l) := (h.dvar r).mul (isReal_two.mul (h.cen g r l))

end Q.Real

end Cert.Mixer

end
-- ==== Proof.Mixer.ChunkRead.lean ====
/- What the kernel computes for a chunk, read at a token and a lane: the formulas of `Spec`. -/
module

public import proofs.«01_k».proof.Proof.Mixer.Chunk
public import proofs.«01_k».proof.Proof.Mixer.Scalars
public import Idealize.ShloMosaic.Lib.Pointwise

@[expose] public section

set_option maxRecDepth 16384

noncomputable section

namespace Cert.Mixer

open Idealize.ShloMosaic Cert.KernelIdeal Cert.KernelIdeal.Gen

/-! ## The tile operations -/

theorem rowSum_apply (x : FVec Ideal S128x128 .f32) (r : Fin 128) (z : Fin 1) : rowSum x (ix2 r z) = ∑ l, x (ix2 r l) := by
  unfold rowSum
  pointwise

theorem colSum_apply (x : FVec Ideal S128x128 .f32) (z : Fin 1) (l : Fin 128) : colSum x (ix2 z l) = ∑ r, x (ix2 r l) := by
  unfold colSum
  pointwise

theorem wide_apply (x : FVec Ideal S128x1 .f32) (r l : Fin 128) : wide x (ix2 r l) = x (ix2 r 0) := by
  unfold wide
  pointwise

theorem tall_apply (x : FVec Ideal S1x128 .f32) (r l : Fin 128) : tall x (ix2 r l) = x (ix2 0 l) := by
  unfold tall
  pointwise

theorem wideSum_apply (x : FVec Ideal S128x1 .f32) (r l : Fin 128) : wideSum x (ix2 r l) = x (ix2 r 0) := by
  unfold wideSum wide
  pointwise
  exact Fin.sum_univ_one _

theorem sum4_apply (a b c d : FVec Ideal S128x128 .f32) (r : Fin 128) (z : Fin 1) :
    sum4 a b c d (ix2 r z) = (∑ l, a (ix2 r l)) + (∑ l, b (ix2 r l)) + (∑ l, c (ix2 r l)) + ∑ l, d (ix2 r l) := by
  unfold sum4 col
  simp only [← rowSum_apply _ r z]
  pointwise

theorem mask_apply (t s : Fin 128) : mask (ix2 t s) = 1#1 ↔ s.val ≤ t.val := by
  unfold mask
  pointwise
  simp only [IntOp.cmpi, BitVec.sle, toInt_word]
  by_cases h : s.val ≤ t.val <;> simp [h]

theorem select_mask (t s : Fin 128) (a b : EReal) : Scalar.select (mask (ix2 t s)) a b = if s.val ≤ t.val then a else b := by
  by_cases h : s.val ≤ t.val
  · rw [if_pos h]; exact if_pos ((mask_apply t s).2 h)
  · rw [if_neg h]; exact if_neg fun e => h ((mask_apply t s).1 e)

/-! ## The activation -/

theorem gelu_apply (x : FVec Ideal S128x128 .f32) (r l : Fin 128) : gelu x (ix2 r l) = act (x (ix2 r l)) := by
  unfold gelu opt th sq half tile act thS
  pointwise
  rw [mul_comm (Ideal.ofBits _ _) (x _), mul_assoc]

theorem geluBwd_apply (x dy : FVec Ideal S128x128 .f32) (r l : Fin 128) :
    geluBwd x dy (ix2 r l) = actGrad (x (ix2 r l)) (dy (ix2 r l)) := by
  unfold geluBwd opt sech th sq half tile
  pointwise
  generalize x (ix2 r l) = x
  generalize dy (ix2 r l) = dy
  exact activation_forms x dy

/-! ## The chunk -/

/-- What a chunk reads, by group, token and lane. -/
def plain (C : In Ideal) : Q where
  u g r l := C.u g (ix2 r l)
  v g r l := C.v g (ix2 r l)
  d g r l := C.d g (ix2 r l)
  lg g l := C.lg g (ix2 0 l)
  lb g l := C.lb g (ix2 0 l)
  w g t s := C.w g (ix3 0 t s)
  b g r := C.b g (ix2 r 0)

variable (C : In Ideal) (g : Fin 4) (r l : Fin 128) (z : Fin 1)

theorem mu_apply : mu C (ix2 r z) = (plain C).mu r := by
  unfold mu col
  pointwise [sum4_apply, gelu_apply]
  rw [mul_inv512, Q.mu, Q.total_four]; rfl

theorem cen_apply : cen C g (ix2 r l) = (plain C).cen g r l := by
  unfold cen
  pointwise [wide_apply, gelu_apply, mu_apply]
  rfl

theorem vareps_apply : vareps C (ix2 r z) = (plain C).vareps r := by
  unfold vareps col
  pointwise [sum4_apply, cen_apply]
  rw [mul_inv512, Q.vareps, Q.total_four]

theorem inv_apply : inv C (ix2 r z) = (plain C).inv r := by
  unfold inv
  pointwise [vareps_apply]
  rfl

theorem xhat_apply : xhat C g (ix2 r l) = (plain C).xhat g r l := by
  unfold xhat
  pointwise [wide_apply, cen_apply, inv_apply]
  rfl

theorem vn_apply : vn C g (ix2 r l) = (plain C).vn g r l := by
  unfold vn
  pointwise [tall_apply, xhat_apply]
  rfl

theorem wm_apply (t s : Fin 128) : wm C g (ix2 t s) = (plain C).wm g t s := by
  unfold wm tile
  pointwise
  rw [select_mask]
  rfl

theorem mix_apply : mix C g (ix2 r l) = (plain C).mix g r l := by
  unfold mix
  pointwise [wide_apply, wm_apply, vn_apply]
  rw [Q.mix]
  exact congrArg₂ _ (Finset.sum_congr rfl fun s _ => mul_comm _ _) rfl

theorem dmix_apply : dmix C g (ix2 r l) = (plain C).dmix g r l := by
  unfold dmix
  pointwise [gelu_apply]
  rfl

theorem dgu_apply : dgu C g (ix2 r l) = (plain C).dgu g r l := by
  unfold dgu
  pointwise [mix_apply]
  rfl

theorem dB_apply : dB C g (ix2 r z) = (plain C).dB g r := by
  unfold dB
  simp only [rowSum_apply, dmix_apply]
  rfl

theorem dW_apply (t s : Fin 128) : dW C g (ix2 t s) = if s.val ≤ t.val then (plain C).dW g t s else 0 := by
  unfold dW tile
  pointwise [dmix_apply, vn_apply]
  rw [select_mask]
  rfl

theorem dvn_apply : dvn C g (ix2 r l) = (plain C).dvn g r l := by
  unfold dvn
  pointwise [dmix_apply, wm_apply]
  rfl

theorem dLb_apply : dLb C g (ix2 z l) = (plain C).dLb g l := by
  unfold dLb
  simp only [colSum_apply, dvn_apply]
  rfl

theorem dLg_apply : dLg C g (ix2 z l) = (plain C).dLg g l := by
  unfold dLg
  pointwise [colSum_apply, xhat_apply, dvn_apply]
  rfl

theorem dxh_apply : dxh C g (ix2 r l) = (plain C).dxh g r l := by
  unfold dxh
  pointwise [tall_apply, dvn_apply]
  rfl

theorem dVar_apply : dVar C (ix2 r z) = (plain C).dvar r := by
  unfold dVar rowDot dinv col
  pointwise [rowSum_apply, cen_apply, dxh_apply, inv_apply, vareps_apply]
  rw [mul_inv512, Q.dvar, Q.total_four]
  congr 2
  ac_rfl

theorem dcen_apply : dcen C g (ix2 r l) = (plain C).dcenX g r l + (plain C).dcenV g r l := by
  unfold dcen
  pointwise [wideSum_apply, wide_apply, dxh_apply, inv_apply, cen_apply, dVar_apply]
  rw [add_assoc, mul_comm ((plain C).cen g r l), add_self, mul_assoc, mul_comm ((plain C).cen g r l)]
  rfl

theorem dMu_apply (h : (plain C).Real) : dMu C (ix2 r z) = (plain C).dmu r := by
  unfold dMu negSum tile col
  pointwise [rowSum_apply, dcen_apply]
  rw [mul_inv512, Q.dmu, ← Q.total_add, Q.total_four]
  have e : ∀ g l, (0 : EReal) - ((plain C).dcenX g r l + (plain C).dcenV g r l) = -(plain C).dcenX g r l + -(plain C).dcenV g r l :=
    fun g l => by rw [zero_sub, neg_add_real (h.dcenX g r l) (h.dcenV g r l)]
  simp only [e]
  congr 1
  ac_rfl

theorem dgv_apply (h : (plain C).Real) : dgv C g (ix2 r l) = (plain C).dgv g r l := by
  unfold dgv
  pointwise [wideSum_apply, dcen_apply, dMu_apply C _ _ h]
  rfl

theorem dU_apply : dU C g (ix2 r l) = (plain C).dU g r l := by
  unfold dU
  pointwise [geluBwd_apply, dgu_apply]
  rfl

theorem dV_apply (h : (plain C).Real) : dV C g (ix2 r l) = (plain C).dV g r l := by
  unfold dV
  pointwise [geluBwd_apply, dgv_apply C g _ _ h]
  rfl

end Cert.Mixer

end
-- ==== Proof.Mixer.RefRead.lean ====
/- The reference's values, read at a token and a column: the formulas of `Spec` on the token's chunk. -/
module

public import proofs.«01_k».proof.Proof.Gen.ReferenceIdeal.Read
public import proofs.«01_k».proof.Proof.Mixer.Scalars
public import Idealize.ShloMosaic.Lib.Pointwise

@[expose] public section

set_option maxRecDepth 16384

noncomputable section

namespace Cert.Mixer

open Idealize.ShloMosaic Cert.ReferenceIdeal Cert.ReferenceIdeal.Gen Cert.ReferenceIdeal.Read

/-- Token `r` of chunk `n` of a sequence. -/
abbrev row (n : Fin 16) (r : Fin 128) : Fin 2048 := ⟨n.val * 128 + r.val, by omega⟩
/-- Lane `l` of group `g`. -/
abbrev lane (g : Fin 4) (l : Fin 128) : Fin 512 := ⟨g.val * 128 + l.val, by omega⟩
/-- Token `r` of chunk `n` of sequence `b` among all tokens. -/
abbrev token (b : Fin 2) (n : Fin 16) (r : Fin 128) : Fin 4096 := ⟨b.val * 2048 + (n.val * 128 + r.val), by omega⟩

section
variable (x0 : FVec Ideal S4096x3072 .f32) (x1 : FVec Ideal S4096x1024 .f32) (x3 x4 : FVec Ideal S1x512 .f32)
  (x5 : FVec Ideal S4x128x128 .f32) (x6 : FVec Ideal S4x128 .f32)

/-- Chunk `n` of sequence `b` of the whole arrays. -/
def chunk (b : Fin 2) (n : Fin 16) : Q where
  u g r l := x0 (ix2 (token b n r) ⟨2048 + (g.val * 128 + l.val), by omega⟩)
  v g r l := x0 (ix2 (token b n r) ⟨2560 + (g.val * 128 + l.val), by omega⟩)
  d g r l := x1 (ix2 (token b n r) ⟨512 + (g.val * 128 + l.val), by omega⟩)
  lg g l := x3 (ix2 0 (lane g l))
  lb g l := x4 (ix2 0 (lane g l))
  w g t s := x5 (ix3 g t s)
  b g r := x6 (ix2 g r)

variable (b : Fin 2) (n : Fin 16) (g : Fin 4) (r l : Fin 128) (z : Fin 1)

theorem ref_u : val_main_v1 (F := Ideal) x0 (ix3 b (row n r) (lane g l)) = (chunk x0 x1 x3 x4 x5 x6 b n).u g r l := by
  unfold val_main_v1 val_main_v0
  pointwise
  rfl

theorem ref_v : val_main_v3 (F := Ideal) x0 (ix3 b (row n r) (lane g l)) = (chunk x0 x1 x3 x4 x5 x6 b n).v g r l := by
  unfold val_main_v3 val_main_v2
  pointwise
  rfl

theorem ref_d : val_main_v92 (F := Ideal) x1 (ix3 b (row n r) (lane g l)) = (chunk x0 x1 x3 x4 x5 x6 b n).d g r l := by
  unfold val_main_v92 val_main_v91
  pointwise
  rfl

theorem ref_act_u : val_main_v26 (F := Ideal) x0 (ix3 b (row n r) (lane g l)) = act ((chunk x0 x1 x3 x4 x5 x6 b n).u g r l) := by
  unfold val_main_v26 val_main_v25 val_main_v24 val_main_cst_5 val_main_v23 val_main_v22 val_main_cst_4 val_main_v16 val_main_v15 val_main_v14 val_main_cst_1 val_main_v13 val_main_v12 val_main_v11 val_main_cst_0 val_main_v7 val_main_v6
  pointwise [ref_u x0 x1 x3 x4 x5 x6]
  rw [act, thS, lit_one]

theorem ref_act_v : val_main_v47 (F := Ideal) x0 (ix3 b (row n r) (lane g l)) = act ((chunk x0 x1 x3 x4 x5 x6 b n).v g r l) := by
  unfold val_main_v47 val_main_v46 val_main_v45 val_main_cst_12 val_main_v44 val_main_v43 val_main_cst_11 val_main_v37 val_main_v36 val_main_v35 val_main_cst_8 val_main_v34 val_main_v33 val_main_v32 val_main_cst_7 val_main_v28 val_main_v27
  pointwise [ref_v x0 x1 x3 x4 x5 x6]
  rw [act, thS, lit_one]

theorem ref_mu : val_main_v51 (F := Ideal) x0 (ix3 b (row n r) z) = (chunk x0 x1 x3 x4 x5 x6 b n).mu r := by
  unfold val_main_v51 val_main_v50 val_main_cst_14 val_main_v49 val_main_v48 val_main_cst_13
  pointwise
  rw [sum512]
  simp only [ref_act_v x0 x1 x3 x4 x5 x6]
  rfl

theorem ref_cen : val_main_v53 (F := Ideal) x0 (ix3 b (row n r) (lane g l)) = (chunk x0 x1 x3 x4 x5 x6 b n).cen g r l := by
  unfold val_main_v53 val_main_v52
  pointwise [ref_act_v x0 x1 x3 x4 x5 x6, ref_mu x0 x1 x3 x4 x5 x6]
  rfl

theorem ref_cen' : val_main_v62 (F := Ideal) x0 (ix3 b (row n r) (lane g l)) = (chunk x0 x1 x3 x4 x5 x6 b n).cen g r l := by
  unfold val_main_v62 val_main_v61
  pointwise [ref_act_v x0 x1 x3 x4 x5 x6, ref_mu x0 x1 x3 x4 x5 x6]
  rfl

theorem ref_vareps : val_main_v64 (F := Ideal) x0 (ix3 b (row n r) z) = (chunk x0 x1 x3 x4 x5 x6 b n).vareps r := by
  unfold val_main_v64 val_main_v63 val_main_cst_18 val_main_v60 val_main_v59 val_main_cst_17 val_main_v58 val_main_v57 val_main_cst_16 val_main_v54
  pointwise
  rw [sum512]
  simp only [ref_cen x0 x1 x3 x4 x5 x6]
  rfl

theorem ref_inv : val_main_v65 (F := Ideal) x0 (ix3 b (row n r) z) = (chunk x0 x1 x3 x4 x5 x6 b n).inv r := by
  unfold val_main_v65
  pointwise [ref_vareps x0 x1 x3 x4 x5 x6]
  rfl

theorem ref_xhat : val_main_v70 (F := Ideal) x0 (ix3 b (row n r) (lane g l)) = (chunk x0 x1 x3 x4 x5 x6 b n).xhat g r l := by
  unfold val_main_v70 val_main_v69
  pointwise [ref_cen' x0 x1 x3 x4 x5 x6, ref_inv x0 x1 x3 x4 x5 x6]
  rfl

theorem ref_vn : val_main_v76 (F := Ideal) x0 x3 x4 (ix3 b (row n r) (lane g l)) = (chunk x0 x1 x3 x4 x5 x6 b n).vn g r l := by
  unfold val_main_v76 val_main_v75 val_main_v74 val_main_v73 val_main_v72 val_main_v71 val_main_v5 val_main_v4
  pointwise [ref_xhat x0 x1 x3 x4 x5 x6]
  rfl

theorem ref_vn5 : val_main_v77 (F := Ideal) x0 x3 x4 (ix5 b n r g l) = (chunk x0 x1 x3 x4 x5 x6 b n).vn g r l := by
  unfold val_main_v77
  pointwise
  exact ref_vn x0 x1 x3 x4 x5 x6 b n g r l

theorem ref_mask (t s : Fin 128) : val_main_v82_1 (F := Ideal) (ix3 g t s) = 1#1 ↔ s.val ≤ t.val := by
  unfold val_main_v82_1 val_main_v80 val_main_v79 val_main_call0_v5 val_main_call0_c_0 val_main_call0_v4 val_main_call0_v3 val_main_call0_v2 val_main_call0_v1 val_main_call0_c val_main_call0_v0 val_main_v78 val_main_c
  pointwise
  have e : (IntOp.addi (BitVec.ofNat 32 t.val) 0#32).toInt = t.val := by
    rw [← toInt_word t]; simp [IntOp.addi]
  simp only [IntOp.cmpi, BitVec.sle, toInt_word, e]
  by_cases h : s.val ≤ t.val <;> simp [h, Scalar.select]

theorem ref_select (t s : Fin 128) (x y : EReal) :
    Scalar.select (val_main_v82_1 (F := Ideal) (ix3 g t s)) x y = if s.val ≤ t.val then x else y := by
  by_cases h : s.val ≤ t.val
  · rw [if_pos h]; exact if_pos ((ref_mask g t s).2 h)
  · rw [if_neg h]; exact if_neg fun e => h ((ref_mask g t s).1 e)

theorem ref_wm (t s : Fin 128) : val_main_v82_0 (F := Ideal) x5 (ix3 g t s) = (chunk x0 x1 x3 x4 x5 x6 b n).wm g t s := by
  unfold val_main_v82_0 val_main_v81 val_main_cst_20
  pointwise
  rw [ref_select]
  rfl

theorem ref_mix : val_main_v89 (F := Ideal) x0 x3 x4 x5 x6 (ix3 b (row n r) (lane g l)) = (chunk x0 x1 x3 x4 x5 x6 b n).mix g r l := by
  unfold val_main_v89 val_main_v88 val_main_v87 val_main_v86 val_main_v85 val_main_v84 val_main_v83
  pointwise
  simp only [pack_div, pack_mod, ref_vn5 x0 x1 x3 x4 x5 x6, ref_wm x0 x1 x3 x4 x5 x6 b n]
  rfl

theorem ref_dmix : val_main_v93 (F := Ideal) x0 x1 (ix3 b (row n r) (lane g l)) = (chunk x0 x1 x3 x4 x5 x6 b n).dmix g r l := by
  unfold val_main_v93
  pointwise [ref_act_u x0 x1 x3 x4 x5 x6, ref_d x0 x1 x3 x4 x5 x6]
  rfl

theorem ref_dgu : val_main_v94 (F := Ideal) x0 x1 x3 x4 x5 x6 (ix3 b (row n r) (lane g l)) = (chunk x0 x1 x3 x4 x5 x6 b n).dgu g r l := by
  unfold val_main_v94
  pointwise [ref_mix x0 x1 x3 x4 x5 x6, ref_d x0 x1 x3 x4 x5 x6]
  rfl

theorem ref_dmix5 : val_main_v95 (F := Ideal) x0 x1 (ix5 b n r g l) = (chunk x0 x1 x3 x4 x5 x6 b n).dmix g r l := by
  unfold val_main_v95
  pointwise
  exact ref_dmix x0 x1 x3 x4 x5 x6 b n g r l

theorem ref_dvn : val_main_v105 (F := Ideal) x0 x1 x5 (ix3 b (row n r) (lane g l)) = (chunk x0 x1 x3 x4 x5 x6 b n).dvn g r l := by
  unfold val_main_v105 val_main_v103 val_main_v102 val_main_v100
  pointwise
  simp only [pack_div, pack_mod, ref_dmix5 x0 x1 x3 x4 x5 x6, ref_wm x0 x1 x3 x4 x5 x6 b n]
  rfl

theorem ref_xdvn : val_main_v109 (F := Ideal) x0 x1 x5 (ix3 b (row n r) (lane g l)) = (chunk x0 x1 x3 x4 x5 x6 b n).xhat g r l * (chunk x0 x1 x3 x4 x5 x6 b n).dvn g r l := by
  unfold val_main_v109
  pointwise [ref_xhat x0 x1 x3 x4 x5 x6, ref_dvn x0 x1 x3 x4 x5 x6]
  done

theorem ref_dxh : val_main_v113 (F := Ideal) x0 x1 x3 x5 (ix3 b (row n r) (lane g l)) = (chunk x0 x1 x3 x4 x5 x6 b n).dxh g r l := by
  unfold val_main_v113 val_main_v112 val_main_v71 val_main_v4
  pointwise [ref_dvn x0 x1 x3 x4 x5 x6]
  rfl

theorem ref_cdxh : val_main_v115 (F := Ideal) x0 x1 x3 x5 (ix3 b (row n r) (lane g l)) = (chunk x0 x1 x3 x4 x5 x6 b n).cen g r l * (chunk x0 x1 x3 x4 x5 x6 b n).dxh g r l := by
  unfold val_main_v115
  pointwise [ref_cen' x0 x1 x3 x4 x5 x6, ref_dxh x0 x1 x3 x4 x5 x6]
  done

theorem ref_dvar : val_main_v126 (F := Ideal) x0 x1 x3 x5 (ix2 b (row n r)) = (chunk x0 x1 x3 x4 x5 x6 b n).dvar r := by
  unfold val_main_v126 val_main_cst_30 val_main_v125 val_main_v124 val_main_cst_29 val_main_v120 val_main_v117 val_main_v116 val_main_cst_27 val_main_v68 val_main_v67 val_main_cst_19 val_main_v66
  pointwise [ref_inv x0 x1 x3 x4 x5 x6, ref_vareps x0 x1 x3 x4 x5 x6]
  rw [sum512]
  simp only [ref_cdxh x0 x1 x3 x4 x5 x6]
  rw [Fin.sum_univ_one]
  rfl

theorem ref_dcenX : val_main_v119 (F := Ideal) x0 x1 x3 x5 (ix3 b (row n r) (lane g l)) = (chunk x0 x1 x3 x4 x5 x6 b n).dcenX g r l := by
  unfold val_main_v119 val_main_v118
  pointwise [ref_dxh x0 x1 x3 x4 x5 x6, ref_inv x0 x1 x3 x4 x5 x6]
  rfl

theorem ref_dcenV : val_main_v128 (F := Ideal) x0 x1 x3 x5 (ix3 b (row n r) (lane g l)) = (chunk x0 x1 x3 x4 x5 x6 b n).dcenV g r l := by
  unfold val_main_v128 val_main_v127 val_main_v56 val_main_v55 val_main_cst_15
  pointwise [ref_dvar x0 x1 x3 x4 x5 x6, ref_cen x0 x1 x3 x4 x5 x6]
  rfl

theorem ref_dmu : val_main_v136 (F := Ideal) x0 x1 x3 x5 (ix2 b (row n r)) = (chunk x0 x1 x3 x4 x5 x6 b n).dmu r := by
  unfold val_main_v136 val_main_cst_33 val_main_v135 val_main_v134 val_main_cst_32 val_main_v133 val_main_v131 val_main_v130 val_main_cst_31 val_main_v129 val_main_v123 val_main_v122 val_main_cst_28 val_main_v121
  pointwise
  rw [Fin.sum_univ_one, sum512, sum512]
  simp only [ref_dcenX x0 x1 x3 x4 x5 x6, ref_dcenV x0 x1 x3 x4 x5 x6]
  rfl

theorem ref_dgv : val_main_v138 (F := Ideal) x0 x1 x3 x5 (ix3 b (row n r) (lane g l)) = (chunk x0 x1 x3 x4 x5 x6 b n).dgv g r l := by
  unfold val_main_v138 val_main_v137 val_main_v132
  pointwise [ref_dcenX x0 x1 x3 x4 x5 x6, ref_dcenV x0 x1 x3 x4 x5 x6, ref_dmu x0 x1 x3 x4 x5 x6]
  rfl

theorem ref_dV : val_main_v150 (F := Ideal) x0 x1 x3 x5 (ix3 b (row n r) (lane g l)) = (chunk x0 x1 x3 x4 x5 x6 b n).dV g r l := by
  unfold val_main_v150 val_main_v149 val_main_v148 val_main_v147 val_main_cst_36 val_main_v146 val_main_v145 val_main_v144 val_main_cst_35 val_main_v143 val_main_v142 val_main_v141 val_main_cst_34 val_main_v140 val_main_v139 val_main_v46 val_main_v45 val_main_cst_12 val_main_v44 val_main_v43 val_main_cst_11 val_main_v42 val_main_v41 val_main_v40 val_main_cst_10 val_main_v39 val_main_v38 val_main_cst_9 val_main_v37 val_main_v36 val_main_v35 val_main_cst_8 val_main_v34 val_main_v33 val_main_v32 val_main_cst_7 val_main_v31 val_main_v30 val_main_cst_6 val_main_v29 val_main_v28 val_main_v27
  pointwise [ref_dgv x0 x1 x3 x4 x5 x6, ref_v x0 x1 x3 x4 x5 x6]
  rw [Q.dV, actGrad, actInner, thS, lit_one]

theorem ref_dU : val_main_v162 (F := Ideal) x0 x1 x3 x4 x5 x6 (ix3 b (row n r) (lane g l)) = (chunk x0 x1 x3 x4 x5 x6 b n).dU g r l := by
  unfold val_main_v162 val_main_v161 val_main_v160 val_main_v159 val_main_cst_39 val_main_v158 val_main_v157 val_main_v156 val_main_cst_38 val_main_v155 val_main_v154 val_main_v153 val_main_cst_37 val_main_v152 val_main_v151 val_main_v25 val_main_v24 val_main_cst_5 val_main_v23 val_main_v22 val_main_cst_4 val_main_v21 val_main_v20 val_main_v19 val_main_cst_3 val_main_v18 val_main_v17 val_main_cst_2 val_main_v16 val_main_v15 val_main_v14 val_main_cst_1 val_main_v13 val_main_v12 val_main_v11 val_main_cst_0 val_main_v10 val_main_v9 val_main_cst val_main_v8 val_main_v7 val_main_v6
  pointwise [ref_dgu x0 x1 x3 x4 x5 x6, ref_u x0 x1 x3 x4 x5 x6]
  rw [Q.dU, actGrad, actInner, thS, lit_one]

end

end Cert.Mixer

end
-- ==== Proof.Mixer.RefSums.lean ====
/- The reference's five results, read at an index: sums over the sequences' chunks of the chunks' shares. -/
module

public import proofs.«01_k».proof.Proof.Mixer.RefRead

@[expose] public section

set_option maxRecDepth 16384

noncomputable section

namespace Cert.Mixer

open Idealize.ShloMosaic Cert.ReferenceIdeal Cert.ReferenceIdeal.Gen Cert.ReferenceIdeal.Read

/-! ## Sums over several axes -/

/-- The sum over the first two axes of three. -/
theorem reduceAdd_01 {A B C : ℕ} (h : (⟨3, ![A, B, C]⟩ : Shape).ReducesTo [0, 1] ⟨1, ![C]⟩)
    (v : (⟨3, ![A, B, C]⟩ : Shape).Idx → EReal) (init : EReal) (c : Fin C) :
    Ideal.hostReduceAdd h v init (ix1 c) = init + ∑ a, ∑ b, v (ix3 a b c) := by
  refine congrArg (init + ·) ?_
  rw [Finset.sum_filter_eq_sum_of_fiber (fun i => h.drop i = ix1 c) (fun p : Fin A × Fin B => ix3 p.1 p.2 c)
    (fun p p' e => Prod.ext (congrFun e 0) (congrFun e 1)) (fun i => ⟨fun e => ⟨(i 0, i 1), ?_⟩, ?_⟩) v, Fintype.sum_prod_type]
  · funext a; apply Fin.ext
    match a with
    | ⟨0, _⟩ => rfl
    | ⟨1, _⟩ => rfl
    | ⟨2, _⟩ => exact (congrArg Fin.val (congrFun e 0)).symm
  · rintro ⟨p, rfl⟩
    funext a; apply Fin.ext
    match a with
    | ⟨0, _⟩ => rfl

/-- The sum over the first two axes and the last of five. -/
theorem reduceAdd_014 {A B C D E : ℕ} (h : (⟨5, ![A, B, C, D, E]⟩ : Shape).ReducesTo [0, 1, 4] ⟨2, ![C, D]⟩)
    (v : (⟨5, ![A, B, C, D, E]⟩ : Shape).Idx → EReal) (init : EReal) (c : Fin C) (d : Fin D) :
    Ideal.hostReduceAdd h v init (ix2 c d) = init + ∑ a, ∑ b, ∑ e, v (ix5 a b c d e) := by
  refine congrArg (init + ·) ?_
  rw [Finset.sum_filter_eq_sum_of_fiber (fun i => h.drop i = ix2 c d) (fun p : Fin A × Fin B × Fin E => ix5 p.1 p.2.1 c d p.2.2)
    (fun p p' e => Prod.ext (congrFun e 0) (Prod.ext (congrFun e 1) (congrFun e 4)))
    (fun i => ⟨fun e => ⟨(i 0, i 1, i 4), ?_⟩, ?_⟩) v]
  · simp only [Fintype.sum_prod_type]
  · funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨p, rfl⟩
    funext a; apply Fin.ext
    match a with
    | ⟨0, _⟩ => rfl
    | ⟨1, _⟩ => rfl

/-- A sum over 2048 tokens of a sequence, chunk by chunk. -/
theorem sum2048 (f : Fin 2048 → EReal) : ∑ k, f k = ∑ n, ∑ r, f (row n r) := by
  rw [← Fintype.sum_prod_type']
  refine (Fintype.sum_equiv (finProdFinEquiv (m := 16) (n := 128)) _ _ fun p => ?_).symm
  congr 1; ext; simp [finProdFinEquiv]; omega

/-- The coordinates that the mixing matrices' gradient contracts: sequence, chunk and lane. -/
def contr3 : Fin 2 × Fin 16 × Fin 128 ≃ dot_S4x2x16x128x128_S2x16x128x4x128_S4x128x128_123_014_4_2_0_3.contr.Idx where
  toFun p a := match a with
    | ⟨0, _⟩ => p.1
    | ⟨1, _⟩ => p.2.1
    | ⟨2, _⟩ => p.2.2
  invFun k := (k ⟨0, by decide⟩, k ⟨1, by decide⟩, k ⟨2, by decide⟩)
  left_inv _ := rfl
  right_inv k := by
    funext a
    match a with
    | ⟨0, _⟩ => rfl
    | ⟨1, _⟩ => rfl
    | ⟨2, _⟩ => rfl

theorem matmul_apply₃ (x : S4x2x16x128x128.Idx → EReal) (y : S2x16x128x4x128.Idx → EReal) (acc : S4x128x128.Idx → EReal)
    (g : Fin 4) (t s : Fin 128) :
    Ideal.matmul dot_S4x2x16x128x128_S2x16x128x4x128_S4x128x128_123_014_4_2_0_3 x y acc (ix3 g t s) = acc (ix3 g t s) + ∑ b, ∑ n, ∑ l, x (ix5 g b n l t) * y (ix5 b n s g l) := by
  refine congrArg (acc _ + ·) ?_
  rw [← Fintype.sum_equiv contr3 (fun p => x (ix5 g p.1 p.2.1 p.2.2 t) * y (ix5 p.1 p.2.1 s g p.2.2)) _ fun p => ?_]
  · simp only [Fintype.sum_prod_type]
  · congr 2
    · funext a; match a with
      | ⟨0, _⟩ => rfl
      | ⟨1, _⟩ => rfl
      | ⟨2, _⟩ => rfl
      | ⟨3, _⟩ => rfl
      | ⟨4, _⟩ => rfl
    · funext a; match a with
      | ⟨0, _⟩ => rfl
      | ⟨1, _⟩ => rfl
      | ⟨2, _⟩ => rfl
      | ⟨3, _⟩ => rfl
      | ⟨4, _⟩ => rfl

section
variable (x0 : FVec Ideal S4096x3072 .f32) (x1 : FVec Ideal S4096x1024 .f32) (x2 : FVec Ideal S4096x3072 .bf16)
  (x3 x4 : FVec Ideal S1x512 .f32) (x5 : FVec Ideal S4x128x128 .f32) (x6 : FVec Ideal S4x128 .f32)

variable (b : Fin 2) (n : Fin 16) (g : Fin 4) (r l : Fin 128)

/-- The bias's gradient. -/
theorem ref_dB : val_main_v175 (F := Ideal) x0 x1 (ix2 r g) = ∑ b, ∑ n, (chunk x0 x1 x3 x4 x5 x6 b n).dB g r := by
  unfold val_main_v175 val_main_v99 val_main_v98 val_main_cst_22 val_main_v97 val_main_v96 val_main_cst_21
  pointwise [reduceAdd_014, ref_dmix5 x0 x1 x3 x4 x5 x6]
  simp only [Fin.sum_univ_one]
  rfl

/-- The offset's gradient: row 0. -/
theorem ref_dLb : val_main_v174 (F := Ideal) x0 x1 x5 (ix2 0 (lane g l)) = ∑ b, ∑ n, (chunk x0 x1 x3 x4 x5 x6 b n).dLb g l := by
  unfold val_main_v174 val_main_v173 val_main_cst_41 val_main_v172 val_main_v108 val_main_cst_24 val_main_v107 val_main_v106 val_main_cst_23
  pointwise [reduceAdd_01]
  simp only [Fin.sum_univ_one, sum2048, ref_dvn x0 x1 x3 x4 x5 x6]
  rfl

/-- The gain's gradient: row 0. -/
theorem ref_dLg : val_main_v171 (F := Ideal) x0 x1 x5 (ix2 0 (lane g l)) = ∑ b, ∑ n, (chunk x0 x1 x3 x4 x5 x6 b n).dLg g l := by
  unfold val_main_v171 val_main_v170 val_main_cst_40 val_main_v169 val_main_v114 val_main_cst_26 val_main_v111 val_main_v110 val_main_cst_25
  pointwise [reduceAdd_01]
  simp only [Fin.sum_univ_one, sum2048, ref_xdvn x0 x1 x3 x4 x5 x6]
  rfl

/-- The other rows are zero. -/
theorem ref_dLb_rest (z : Fin 8) (hz : z.val ≠ 0) (c : Fin 512) : val_main_v174 (F := Ideal) x0 x1 x5 (ix2 z c) = 0 := by
  unfold val_main_v174 val_main_v173 val_main_cst_41 val_main_v172
  pointwise
  exact dif_neg (by omega)

theorem ref_dLg_rest (z : Fin 8) (hz : z.val ≠ 0) (c : Fin 512) : val_main_v171 (F := Ideal) x0 x1 x5 (ix2 z c) = 0 := by
  unfold val_main_v171 val_main_v170 val_main_cst_40 val_main_v169
  pointwise
  exact dif_neg (by omega)

/-- The gradients of the two branches, beside the columns kept. -/
theorem ref_kept (i : Fin 4096) (c : Fin 3072) (hc : c.val < 2048) : val_main_v168 (F := Ideal) x0 x1 x2 x3 x4 x5 x6 (ix2 i c) = x2 (ix2 i c) := by
  unfold val_main_v168 val_main_v163
  pointwise
  exact dif_pos hc

theorem ref_resU : val_main_v168 (F := Ideal) x0 x1 x2 x3 x4 x5 x6 (ix2 (token b n r) ⟨2048 + (g.val * 128 + l.val), by omega⟩) = (chunk x0 x1 x3 x4 x5 x6 b n).dU g r l := by
  unfold val_main_v168 val_main_v165 val_main_v164
  pointwise
  rw [dif_pos (by omega)]
  have e : (⟨(b.val * 2048 + (n.val * 128 + r.val)) % 2048, by omega⟩ : Fin 2048) = row n r := Fin.ext (show (b.val * 2048 + (n.val * 128 + r.val)) % 2048 = n.val * 128 + r.val by omega)
  rw [e, ref_dU]

theorem ref_resV : val_main_v168 (F := Ideal) x0 x1 x2 x3 x4 x5 x6 (ix2 (token b n r) ⟨2560 + (g.val * 128 + l.val), by omega⟩) = (chunk x0 x1 x3 x4 x5 x6 b n).dV g r l := by
  unfold val_main_v168 val_main_v167 val_main_v166
  pointwise
  rw [dif_neg (by omega), dif_neg (by omega)]
  have e : (⟨(b.val * 2048 + (n.val * 128 + r.val)) % 2048, by omega⟩ : Fin 2048) = row n r := Fin.ext (show (b.val * 2048 + (n.val * 128 + r.val)) % 2048 = n.val * 128 + r.val by omega)
  have e' : (⟨2560 + (g.val * 128 + l.val) - 2048 - 512, by omega⟩ : Fin 512) = lane g l := Fin.ext (show 2560 + (g.val * 128 + l.val) - 2048 - 512 = g.val * 128 + l.val by omega)
  rw [e, e', ref_dV x0 x1 x3 x4 x5 x6]

theorem ref_dW (t s : Fin 128) : val_main_v104 (F := Ideal) x0 x1 x3 x4 (ix3 g t s) = if s.val ≤ t.val then ∑ b, ∑ n, (chunk x0 x1 x3 x4 x5 x6 b n).dW g t s else 0 := by
  unfold val_main_v104 val_main_call2_v0 val_main_call2_cst val_main_v101
  pointwise
  rw [ref_select]
  rw [matmul_apply₃]
  simp only [zero_add]
  refine congrArg (fun x => if s.val ≤ t.val then x else 0) (Finset.sum_congr rfl fun b _ => Finset.sum_congr rfl fun n _ => Finset.sum_congr rfl fun l _ => ?_)
  unfold val_main_v100
  pointwise [ref_dmix5 x0 x1 x3 x4 x5 x6, ref_vn5 x0 x1 x3 x4 x5 x6]
end

end Cert.Mixer

end
-- ==== Proof.Mixer.Final.lean ====
/- The mixer's backward kernel after its run: every result array at an index, as the chunks' formulas of `Spec` and their
   sums over the thirty-two chunks. -/
module

public import proofs.«01_k».proof.Proof.Mixer.Stores
public import proofs.«01_k».proof.Proof.Mixer.ChunkRead
public import proofs.«01_k».proof.Proof.Mixer.RefSums
public import Idealize.ShloMosaic.Lib.Pipeline.ValueKit
public import Idealize.ShloMosaic.Lib.Pointwise

@[expose] public section

set_option maxRecDepth 16384

noncomputable section

namespace Cert.Mixer

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Chunk `n` of sequence `b` of the kernel's arguments. -/
abbrev argChunk (c : Dev nD) (b : Fin 2) (n : Fin 16) : Q :=
  chunk (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6)) b n

/-- The sequence and the place in it of the `ch`-th chunk of grid point `t`. -/
abbrev seqOf (t : Fin cfg0.N) : Fin 2 := ⟨t.val / 4, by have h : t.val < 8 := t.isLt; omega⟩
abbrev placeOf (t : Fin cfg0.N) (ch : Fin 4) : Fin 16 := ⟨t.val % 4 * 4 + ch.val, by omega⟩

theorem idx : ∀ t : Fin cfg0.N, win0_0.index t = ![t.val, 4] ∧ win0_1.index t = ![t.val, 5] ∧ win0_2.index t = ![t.val, 1]
    ∧ win0_3.index t = ![0, 0] ∧ win0_4.index t = ![0, 0] ∧ win0_5.index t = ![0, 0, 0] ∧ win0_6.index t = ![0, 0]
    ∧ win0_7.index t = ![t.val, 2] ∧ win0_8.index t = ![0, 0] ∧ win0_9.index t = ![0, 0] ∧ win0_10.index t = ![0, 0, 0]
    ∧ win0_11.index t = ![0, 0] :=
  (by decide +kernel : ∀ t : Fin grid0.N, _)

theorem tile_0 (ch g : Fin 4) (r l : Fin 128) : ((tileRect ch g).idx (ix2 r l) 0).val = 128 * ch.val + 1 * r.val := rfl
theorem tile_1 (ch g : Fin 4) (r l : Fin 128) : ((tileRect ch g).idx (ix2 r l) 1).val = 128 * g.val + 1 * l.val := rfl

theorem read_u (c : Dev nD) (t : Fin cfg0.N) (ch g : Fin 4) (r l : Fin 128) :
    (plain (pointIn m c t ch)).u g r l = (argChunk m c (seqOf t) (placeOf t ch)).u g r l := by
  show View.ld (iblk m c 0 t) (tileRect ch g) (ix2 r l) = (m ((c : Thread nD τ).loc main_arg0)) _
  rw [View.ld_apply]
  blk_ext [iblk, V, idx t]
  · rw [tile_0]; omega
  · rw [tile_1]; omega

theorem read_v (c : Dev nD) (t : Fin cfg0.N) (ch g : Fin 4) (r l : Fin 128) :
    (plain (pointIn m c t ch)).v g r l = (argChunk m c (seqOf t) (placeOf t ch)).v g r l := by
  show View.ld (iblk m c 1 t) (tileRect ch g) (ix2 r l) = (m ((c : Thread nD τ).loc main_arg0)) _
  rw [View.ld_apply]
  blk_ext [iblk, V, idx t]
  · rw [tile_0]; omega
  · rw [tile_1]; omega

theorem read_d (c : Dev nD) (t : Fin cfg0.N) (ch g : Fin 4) (r l : Fin 128) :
    (plain (pointIn m c t ch)).d g r l = (argChunk m c (seqOf t) (placeOf t ch)).d g r l := by
  show View.ld (iblk m c 2 t) (tileRect ch g) (ix2 r l) = (m ((c : Thread nD τ).loc main_arg1)) _
  rw [View.ld_apply]
  blk_ext [iblk, V, idx t]
  · rw [tile_0]; omega
  · rw [tile_1]; omega

theorem read_lg (c : Dev nD) (t : Fin cfg0.N) (ch g : Fin 4) (l : Fin 128) :
    (plain (pointIn m c t ch)).lg g l = (argChunk m c (seqOf t) (placeOf t ch)).lg g l := by
  show View.ld (iblk m c 3 t) (Rect.unit ![0, 128 * g.val] S1x128.size (inb_row g)) (ix2 0 l) = (m ((c : Thread nD τ).loc main_arg3)) _
  rw [View.ld_apply]
  blk_ext [iblk, V, idx t]
  show 128 * g.val + 1 * l.val = g.val * 128 + l.val
  omega

theorem read_lb (c : Dev nD) (t : Fin cfg0.N) (ch g : Fin 4) (l : Fin 128) :
    (plain (pointIn m c t ch)).lb g l = (argChunk m c (seqOf t) (placeOf t ch)).lb g l := by
  show View.ld (iblk m c 4 t) (Rect.unit ![0, 128 * g.val] S1x128.size (inb_row g)) (ix2 0 l) = (m ((c : Thread nD τ).loc main_arg4)) _
  rw [View.ld_apply]
  blk_ext [iblk, V, idx t]
  show 128 * g.val + 1 * l.val = g.val * 128 + l.val
  omega

theorem read_w (c : Dev nD) (t : Fin cfg0.N) (ch g : Fin 4) (i s : Fin 128) :
    (plain (pointIn m c t ch)).w g i s = (argChunk m c (seqOf t) (placeOf t ch)).w g i s := by
  show View.ld (iblk m c 5 t) (Rect.unit ![g.val, 0, 0] S1x128x128.size (inb_mat g)) (ix3 0 i s) = (m ((c : Thread nD τ).loc main_arg5)) _
  rw [View.ld_apply]
  blk_ext [iblk, V, idx t]
  · show g.val + 1 * 0 = g.val; omega
  · show 0 + 1 * i.val = i.val; omega
  · show 0 + 1 * s.val = s.val; omega

theorem read_b (c : Dev nD) (t : Fin cfg0.N) (ch g : Fin 4) (r : Fin 128) :
    (plain (pointIn m c t ch)).b g r = (argChunk m c (seqOf t) (placeOf t ch)).b g r := by
  show View.ld (iblk m c 6 t) (Rect.unit ![0, g.val] S128x1.size (inb_col g)) (ix2 r 0) = (m ((c : Thread nD τ).loc main_arg6)) _
  rw [View.ld_apply]
  blk_ext! [iblk, V, idx t]

/-- What the kernel reads at chunk `ch` of grid point `t` is a chunk of the arguments. -/
theorem plain_pointIn (c : Dev nD) (t : Fin cfg0.N) (ch : Fin 4) :
    plain (pointIn m c t ch) = argChunk m c (seqOf t) (placeOf t ch) := by
  have ext : ∀ p q : Q, p.u = q.u → p.v = q.v → p.d = q.d → p.lg = q.lg → p.lb = q.lb → p.w = q.w → p.b = q.b → p = q := by
    rintro ⟨⟩ ⟨⟩; rintro rfl rfl rfl rfl rfl rfl rfl; rfl
  refine ext _ _ ?_ ?_ ?_ ?_ ?_ ?_ ?_
  · funext g r l; exact read_u m c t ch g r l
  · funext g r l; exact read_v m c t ch g r l
  · funext g r l; exact read_d m c t ch g r l
  · funext g l; exact read_lg m c t ch g l
  · funext g l; exact read_lb m c t ch g l
  · funext g i s; exact read_w m c t ch g i s
  · funext g r; exact read_b m c t ch g r

/-! ## The running sums -/

/-- The thirty-two chunks, by grid point and by sequence. -/
theorem sum_chunks (F : Fin 2 → Fin 16 → EReal) : ∑ p : Fin cfg0.N, ∑ ch, F (seqOf p) (placeOf p ch) = ∑ b, ∑ n, F b n := by
  rw [← Fintype.sum_prod_type', ← Fintype.sum_prod_type']
  exact Fintype.sum_bijective (fun x : Fin 8 × Fin 4 => ((⟨x.1.val / 4, by omega⟩, ⟨x.1.val % 4 * 4 + x.2.val, by omega⟩) : Fin 2 × Fin 16))
    (by decide +kernel) _ _ fun _ => rfl

theorem disj_row : ∀ i j, i ≠ j → ∀ y, y ∈ (rowRect i).set → y ∉ (rowRect j).set := by
  intro i j hij y hi hj
  have h := (Rect.mem_set_unit.mp hi) 1
  have h' := (Rect.mem_set_unit.mp hj) 1
  simp [S1x128] at h h'
  exact hij (Fin.ext (by omega))
theorem disj_mat : ∀ i j, i ≠ j → ∀ y, y ∈ (matRect i).set → y ∉ (matRect j).set := by
  intro i j hij y hi hj
  have h := (Rect.mem_set_unit.mp hi) 0
  have h' := (Rect.mem_set_unit.mp hj) 0
  simp [S1x128x128] at h h'
  exact hij (Fin.ext (by omega))
theorem disj_col : ∀ i j, i ≠ j → ∀ y, y ∈ (colRect i).set → y ∉ (colRect j).set := by
  intro i j hij y hi hj
  have h := (Rect.mem_set_unit.mp hi) 1
  have h' := (Rect.mem_set_unit.mp hj) 1
  simp [S128x1] at h h'
  exact hij (Fin.ext (by omega))

theorem emb_row (g : Fin 4) (l : Fin 128) : (rowRect g).emb (ix2 0 l) = ix2 0 (lane g l) := by
  funext a; apply Fin.ext
  match a with
  | ⟨0, _⟩ => rfl
  | ⟨1, _⟩ => show 128 * g.val + 1 * l.val = g.val * 128 + l.val; omega
theorem emb_mat (g : Fin 4) (t s : Fin 128) : (matRect g).emb (ix3 0 t s) = ix3 g t s := by
  funext a; apply Fin.ext
  match a with
  | ⟨0, _⟩ => rfl
  | ⟨1, _⟩ => show 0 + 1 * t.val = t.val; omega
  | ⟨2, _⟩ => show 0 + 1 * s.val = s.val; omega
theorem emb_col (g : Fin 4) (r : Fin 128) : (colRect g).emb (ix2 r 0) = ix2 r g := by
  funext a; apply Fin.ext
  match a with
  | ⟨0, _⟩ => show 0 + 1 * r.val = r.val; omega
  | ⟨1, _⟩ => rfl

theorem cover_mat (y : S4x128x128.Idx) : ∃ i, y ∈ (matRect i).set := by
  refine ⟨y 0, Rect.mem_set_unit.mpr fun a => ?_⟩
  have h := (y a).isLt
  fin_cases a <;> simp [S1x128x128, S4x128x128] at h ⊢ <;> omega
theorem cover_col (y : S128x4.Idx) : ∃ i, y ∈ (colRect i).set := by
  refine ⟨y 1, Rect.mem_set_unit.mpr fun a => ?_⟩
  have h := (y a).isLt
  fin_cases a <;> simp [S128x1, S128x4] at h ⊢ <;> omega

theorem rowStep_apply (T : Fin 4 → Fin 4 → FVec Ideal S1x128 .f32) (k : ℕ) (X : FVec Ideal S1x128 .f32) (x : S1x128.Idx) :
    rowStep (fun k => T (stepCh k) (stepG k)) k X x
      = (X x + roundAdd rowRect (fun ch g x => T ch g x) k ((rowRect (stepG k)).idx x) : EReal) := by
  have e : roundAdd rowRect (fun ch g x => T ch g x) k ((rowRect (stepG k)).idx x) = T (stepCh k) (stepG k) x :=
    roundAdd_emb rowRect (fun ch g x => T ch g x) k x
  rw [e]
  unfold rowStep
  rw [shapeCast_self]
  rfl
theorem matStep_apply (T : Fin 4 → Fin 4 → FVec Ideal S128x128 .f32) (k : ℕ) (X : FVec Ideal S1x128x128 .f32) (x : S1x128x128.Idx) :
    matStep (fun k => T (stepCh k) (stepG k)) k X x
      = (X x + roundAdd matRect (fun ch g x => T ch g (ix2 (x 1) (x 2))) k ((matRect (stepG k)).idx x) : EReal) := by
  have e : roundAdd matRect (fun ch g x => T ch g (ix2 (x 1) (x 2))) k ((matRect (stepG k)).idx x) = T (stepCh k) (stepG k) (ix2 (x 1) (x 2)) :=
    roundAdd_emb matRect (fun ch g x => T ch g (ix2 (x 1) (x 2))) k x
  rw [e]
  unfold matStep
  obtain ⟨z, t, s, rfl⟩ : ∃ (z : Fin 1) (t s : Fin 128), x = ix3 z t s := ⟨x 0, x 1, x 2, by funext a; fin_cases a <;> rfl⟩
  obtain rfl : z = 0 := Subsingleton.elim _ _
  pointwise
theorem colStep_apply (T : Fin 4 → Fin 4 → FVec Ideal S128x1 .f32) (k : ℕ) (X : FVec Ideal S128x1 .f32) (x : S128x1.Idx) :
    colStep (fun k => T (stepCh k) (stepG k)) k X x
      = (X x + roundAdd colRect (fun ch g x => T ch g x) k ((colRect (stepG k)).idx x) : EReal) := by
  have e : roundAdd colRect (fun ch g x => T ch g x) k ((colRect (stepG k)).idx x) = T (stepCh k) (stepG k) x :=
    roundAdd_emb colRect (fun ch g x => T ch g x) k x
  rw [e]
  unfold colStep
  rw [shapeCast_self]
  rfl

/-- The block of the gain's gradient after the last point: the sum of every point's sixteen steps. -/
theorem last_dlg (c : Dev nD) (y : S8x512.Idx) :
    (outsAt0 m c t0_7.val t0_7.isLt).2.1 y
      = (0 + ∑ t : Fin cfg0.N, ∑ k ∈ Finset.range 16, roundAdd rowRect (fun ch g x => dLg (pointIn m c t ch) g x) k y : EReal) := by
  refine Pipeline.eq_sum_fin_of_reset_step_apply_last (fun n h => ((outsAt0 m c n h).2.1 : S8x512.Idx → EReal)) 8 (fun _ => (0 : EReal))
    (fun t y => ∑ k ∈ Finset.range 16, roundAdd rowRect (fun ch g x => dLg (pointIn m c t ch) g x) k y) (fun t h y => ?_) (fun t h y => ?_) (by decide) t0_7 rfl y
  · refine (congrFun (out_dlg_A m c t h) y).trans ?_
    refine (canon_accum _ (fun k => rowRect (stepG k)) _ _ (roundAdd rowRect (fun ch g x => dLg (pointIn m c t ch) g x)) (rowStep_apply (fun ch g => dLg (pointIn m c t ch) g))
      (roundAdd_off rowRect _) 16 y).trans ?_
    rw [View.canon_cons_unit_lit _ _ _ (by decide)]
    congr 1
    exact Ideal.ofBits_zero_f32
  · refine (congrFun (out_dlg_B m c t h) y).trans ?_
    exact read_accumOver _ rowRect _ _ _ ((hs0_8 t).read_unread _) (roundAdd rowRect (fun ch g x => dLg (pointIn m c t ch) g x)) (rowStep_apply (fun ch g => dLg (pointIn m c t ch) g)) (roundAdd_off rowRect _) disj_row 16 y

/-- The block of the offset's gradient after the last point: the sum of every point's sixteen steps. -/
theorem last_dlb (c : Dev nD) (y : S8x512.Idx) :
    (outsAt0 m c t0_7.val t0_7.isLt).2.2.1 y
      = (0 + ∑ t : Fin cfg0.N, ∑ k ∈ Finset.range 16, roundAdd rowRect (fun ch g x => dLb (pointIn m c t ch) g x) k y : EReal) := by
  refine Pipeline.eq_sum_fin_of_reset_step_apply_last (fun n h => ((outsAt0 m c n h).2.2.1 : S8x512.Idx → EReal)) 8 (fun _ => (0 : EReal))
    (fun t y => ∑ k ∈ Finset.range 16, roundAdd rowRect (fun ch g x => dLb (pointIn m c t ch) g x) k y) (fun t h y => ?_) (fun t h y => ?_) (by decide) t0_7 rfl y
  · refine (congrFun (out_dlb_A m c t h) y).trans ?_
    refine (canon_accum _ (fun k => rowRect (stepG k)) _ _ (roundAdd rowRect (fun ch g x => dLb (pointIn m c t ch) g x)) (rowStep_apply (fun ch g => dLb (pointIn m c t ch) g))
      (roundAdd_off rowRect _) 16 y).trans ?_
    rw [View.canon_cons_unit_lit _ _ _ (by decide)]
    congr 1
    exact Ideal.ofBits_zero_f32
  · refine (congrFun (out_dlb_B m c t h) y).trans ?_
    exact read_accumOver _ rowRect _ _ _ ((hs0_9 t).read_unread _) (roundAdd rowRect (fun ch g x => dLb (pointIn m c t ch) g x)) (rowStep_apply (fun ch g => dLb (pointIn m c t ch) g)) (roundAdd_off rowRect _) disj_row 16 y

/-- The block of the mixing matrices' gradients after the last point: the sum of every point's sixteen steps. -/
theorem last_dw (c : Dev nD) (y : S4x128x128.Idx) :
    (outsAt0 m c t0_7.val t0_7.isLt).2.2.2.1 y
      = (0 + ∑ t : Fin cfg0.N, ∑ k ∈ Finset.range 16, roundAdd matRect (fun ch g x => dW (pointIn m c t ch) g (ix2 (x 1) (x 2))) k y : EReal) := by
  refine Pipeline.eq_sum_fin_of_reset_step_apply_last (fun n h => ((outsAt0 m c n h).2.2.2.1 : S4x128x128.Idx → EReal)) 8 (fun _ => (0 : EReal))
    (fun t y => ∑ k ∈ Finset.range 16, roundAdd matRect (fun ch g x => dW (pointIn m c t ch) g (ix2 (x 1) (x 2))) k y) (fun t h y => ?_) (fun t h y => ?_) (by decide) t0_7 rfl y
  · refine (congrFun (out_dw_A m c t h) y).trans ?_
    refine (canon_accum _ (fun k => matRect (stepG k)) _ _ (roundAdd matRect (fun ch g x => dW (pointIn m c t ch) g (ix2 (x 1) (x 2)))) (matStep_apply (fun ch g => dW (pointIn m c t ch) g))
      (roundAdd_off matRect _) 16 y).trans ?_
    rw [View.canon_cons_unit_lit _ _ _ (by decide)]
    congr 1
    exact Ideal.ofBits_zero_f32
  · refine (congrFun (out_dw_B m c t h) y).trans ?_
    exact canon_accumOver (ms0_10 t).view matRect _ _ ((hs0_10 t).unread _) ((hs0_10 t).read_unread _) (roundAdd matRect (fun ch g x => dW (pointIn m c t ch) g (ix2 (x 1) (x 2)))) (matStep_apply (fun ch g => dW (pointIn m c t ch) g)) (roundAdd_off matRect _) disj_mat 16 (by decide) cover_mat y

/-- The block of the bias's gradient after the last point: the sum of every point's sixteen steps. -/
theorem last_db (c : Dev nD) (y : S128x4.Idx) :
    (outsAt0 m c t0_7.val t0_7.isLt).2.2.2.2 y
      = (0 + ∑ t : Fin cfg0.N, ∑ k ∈ Finset.range 16, roundAdd colRect (fun ch g x => dB (pointIn m c t ch) g x) k y : EReal) := by
  refine Pipeline.eq_sum_fin_of_reset_step_apply_last (fun n h => ((outsAt0 m c n h).2.2.2.2 : S128x4.Idx → EReal)) 8 (fun _ => (0 : EReal))
    (fun t y => ∑ k ∈ Finset.range 16, roundAdd colRect (fun ch g x => dB (pointIn m c t ch) g x) k y) (fun t h y => ?_) (fun t h y => ?_) (by decide) t0_7 rfl y
  · refine (congrFun (out_db_A m c t h) y).trans ?_
    refine (canon_accum _ (fun k => colRect (stepG k)) _ _ (roundAdd colRect (fun ch g x => dB (pointIn m c t ch) g x)) (colStep_apply (fun ch g => dB (pointIn m c t ch) g))
      (roundAdd_off colRect _) 16 y).trans ?_
    rw [View.canon_cons_unit_lit _ _ _ (by decide)]
    congr 1
    exact Ideal.ofBits_zero_f32
  · refine (congrFun (out_db_B m c t h) y).trans ?_
    exact canon_accumOver (ms0_11 t).view colRect _ _ ((hs0_11 t).unread _) ((hs0_11 t).read_unread _) (roundAdd colRect (fun ch g x => dB (pointIn m c t ch) g x)) (colStep_apply (fun ch g => dB (pointIn m c t ch) g)) (roundAdd_off colRect _) disj_col 16 (by decide) cover_col y

/-! ## The result arrays

Each equals the reference's, the precondition's finiteness given where the two sides' sums are grouped differently. -/

variable (hR : ∀ (c : Dev nD) b n, (argChunk m c b n).Real)

theorem sum_points (c : Dev nD) (f : Q → EReal) (T : Fin cfg0.N → Fin 4 → EReal)
    (h : ∀ t ch, T t ch = f (plain (pointIn m c t ch))) :
    ∑ t : Fin cfg0.N, ∑ ch, T t ch = ∑ b, ∑ n, f (argChunk m c b n) := by
  rw [← sum_chunks fun b n => f (argChunk m c b n)]
  exact Finset.sum_congr rfl fun t _ => Finset.sum_congr rfl fun ch _ => by rw [h, plain_pointIn]

theorem ix2_of {A B : ℕ} (y : (⟨2, ![A, B]⟩ : Shape).Idx) : ∃ (a : Fin A) (b : Fin B), y = ix2 a b :=
  ⟨y 0, y 1, by funext a; fin_cases a <;> rfl⟩
theorem ix3_of {A B C : ℕ} (y : (⟨3, ![A, B, C]⟩ : Shape).Idx) : ∃ (a : Fin A) (b : Fin B) (c : Fin C), y = ix3 a b c :=
  ⟨y 0, y 1, y 2, by funext a; fin_cases a <;> rfl⟩

include hR in
theorem plain_real (c : Dev nD) (t : Fin cfg0.N) (ch : Fin 4) : (plain (pointIn m c t ch)).Real := by
  rw [plain_pointIn]; exact hR _ _ _

/-- The gain's gradient, whole. -/
theorem final_dlg (c : Dev nD) : (dats m 0 c).arrAt 8 cfg0.N = Cert.ReferenceIdeal.Read.val_main_v171 (F := Ideal) (m ((c : Thread nD τ).loc main_arg0)) (m ((c : Thread nD τ).loc main_arg1)) (m ((c : Thread nD τ).loc main_arg5)) := by
  refine (dats m 0 c).arrAt_eq_of_after_last 8 t0_7 (by decide +kernel) _ fun j => ?_
  blk_simp
  rw [after0_8]
  refine (last_dlg m c _).trans ((zero_add _).trans ?_)
  obtain ⟨z, i, rfl⟩ := ix2_of j
  by_cases hz : z = 0
  · subst hz
    obtain ⟨g, l, rfl⟩ : ∃ g l, i = lane g l :=
      ⟨⟨i.val / 128, by omega⟩, ⟨i.val % 128, by omega⟩, Fin.ext (show i.val = i.val / 128 * 128 + i.val % 128 by omega)⟩
    rw [show (ix2 0 (lane g l) : S8x512.Idx) = (rowRect g).emb (ix2 0 l) from (emb_row g l).symm]
    simp only [sum_roundAdd rowRect _ disj_row g (ix2 0 l)]
    refine (sum_points m c (fun q => q.dLg g l) _ fun t ch => ?_).trans ?_
    · exact dLg_apply (pointIn m c t ch) g l 0
    · rw [emb_row]
      exact (ref_dLg (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) g l).symm
  · refine (Finset.sum_eq_zero fun t _ => sum_roundAdd_off rowRect _ _ fun g hg => ?_).trans ?_
    · have h := (Rect.mem_set_unit.mp hg) 0
      simp [S1x128] at h
      exact hz (Fin.ext (by simpa using h))
    · exact (ref_dLg_rest (m ((c : Thread nD τ).loc main_arg0)) (m ((c : Thread nD τ).loc main_arg1)) (m ((c : Thread nD τ).loc main_arg5)) z (fun h => hz (Fin.ext h)) i).symm

/-- The offset's gradient, whole. -/
theorem final_dlb (c : Dev nD) : (dats m 0 c).arrAt 9 cfg0.N = Cert.ReferenceIdeal.Read.val_main_v174 (F := Ideal) (m ((c : Thread nD τ).loc main_arg0)) (m ((c : Thread nD τ).loc main_arg1)) (m ((c : Thread nD τ).loc main_arg5)) := by
  refine (dats m 0 c).arrAt_eq_of_after_last 9 t0_7 (by decide +kernel) _ fun j => ?_
  blk_simp
  rw [after0_9]
  refine (last_dlb m c _).trans ((zero_add _).trans ?_)
  obtain ⟨z, i, rfl⟩ := ix2_of j
  by_cases hz : z = 0
  · subst hz
    obtain ⟨g, l, rfl⟩ : ∃ g l, i = lane g l :=
      ⟨⟨i.val / 128, by omega⟩, ⟨i.val % 128, by omega⟩, Fin.ext (show i.val = i.val / 128 * 128 + i.val % 128 by omega)⟩
    rw [show (ix2 0 (lane g l) : S8x512.Idx) = (rowRect g).emb (ix2 0 l) from (emb_row g l).symm]
    simp only [sum_roundAdd rowRect _ disj_row g (ix2 0 l)]
    refine (sum_points m c (fun q => q.dLb g l) _ fun t ch => ?_).trans ?_
    · exact dLb_apply (pointIn m c t ch) g l 0
    · rw [emb_row]
      exact (ref_dLb (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) g l).symm
  · refine (Finset.sum_eq_zero fun t _ => sum_roundAdd_off rowRect _ _ fun g hg => ?_).trans ?_
    · have h := (Rect.mem_set_unit.mp hg) 0
      simp [S1x128] at h
      exact hz (Fin.ext (by simpa using h))
    · exact (ref_dLb_rest (m ((c : Thread nD τ).loc main_arg0)) (m ((c : Thread nD τ).loc main_arg1)) (m ((c : Thread nD τ).loc main_arg5)) z (fun h => hz (Fin.ext h)) i).symm

/-- The mixing matrices' gradients, whole. -/
theorem final_dw (c : Dev nD) : (dats m 0 c).arrAt 10 cfg0.N = Cert.ReferenceIdeal.Read.val_main_v104 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_after_last 10 t0_7 (by decide +kernel) _ fun j => ?_
  blk_simp
  rw [after0_10]
  refine (last_dw m c _).trans ((zero_add _).trans ?_)
  obtain ⟨g, i, s, rfl⟩ := ix3_of j
  rw [show (ix3 g i s : S4x128x128.Idx) = (matRect g).emb (ix3 0 i s) from (emb_mat g i s).symm]
  simp only [sum_roundAdd matRect _ disj_mat g (ix3 0 i s)]
  refine (sum_points m c (fun q => if s.val ≤ i.val then q.dW g i s else 0) _ fun t ch => ?_).trans ?_
  · exact dW_apply (pointIn m c t ch) g i s
  · rw [emb_mat]
    refine Eq.trans ?_ (ref_dW (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) g i s).symm
    by_cases h : s.val ≤ i.val
    · simp only [if_pos h]
    · simp only [if_neg h, Finset.sum_const_zero]

/-- The bias's gradient, whole. -/
theorem final_db (c : Dev nD) : (dats m 0 c).arrAt 11 cfg0.N = Cert.ReferenceIdeal.Read.val_main_v175 (F := Ideal) (m ((c : Thread nD τ).loc main_arg0)) (m ((c : Thread nD τ).loc main_arg1)) := by
  refine (dats m 0 c).arrAt_eq_of_after_last 11 t0_7 (by decide +kernel) _ fun j => ?_
  blk_simp
  rw [after0_11]
  refine (last_db m c _).trans ((zero_add _).trans ?_)
  obtain ⟨r, g, rfl⟩ := ix2_of j
  rw [show (ix2 r g : S128x4.Idx) = (colRect g).emb (ix2 r 0) from (emb_col g r).symm]
  simp only [sum_roundAdd colRect _ disj_col g (ix2 r 0)]
  refine (sum_points m c (fun q => q.dB g r) _ fun t ch => ?_).trans ?_
  · exact dB_apply (pointIn m c t ch) g r 0
  · rw [emb_col]
    exact (ref_dB (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) g r).symm

include hR in
/-- The reference's first result at a row and a column of block 2: the chunk's two branches. -/
theorem tile_duv (c : Dev nD) (t : Fin cfg0.N) (y : S512x1024.Idx) (i : Fin 4096) (k : Fin 3072)
    (hi : i.val = t.val * 512 + (y 0).val) (hk : k.val = 2048 + (y 1).val) :
    View.canon (duvPieces (pointIn m c t)) y = Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 i k) := by
  have ht : t.val < 8 := t.isLt
  have hy0 : (y 0).val < 512 := (y 0).isLt
  have hy1 : (y 1).val < 1024 := (y 1).isLt
  refine View.canon_ofFn_unit_eq_of_forall (Val := Elt Ideal) (S := S512x1024) (e := .bf16) (fun k : Fin 32 => duvOff k.rev) S128x128.size (fun k => inb_duv k.rev)
    (fun k => duvTile (pointIn m c t) k.rev) y _ ?_ ?_
  · refine ⟨Fin.rev ⟨(y 0).val / 128 * 8 + (y 1).val % 512 / 128 * 2 + (y 1).val / 512, by omega⟩, fun a => ?_⟩
    rw [Fin.rev_rev]
    have e8 : ((y 0).val / 128 * 8 + (y 1).val % 512 / 128 * 2 + (y 1).val / 512) / 8 = (y 0).val / 128 := by omega
    have e2 : ((y 0).val / 128 * 8 + (y 1).val % 512 / 128 * 2 + (y 1).val / 512) % 2 = (y 1).val / 512 := by omega
    have e4 : ((y 0).val / 128 * 8 + (y 1).val % 512 / 128 * 2 + (y 1).val / 512) % 8 / 2 = (y 1).val % 512 / 128 := by omega
    fin_cases a
    · show 128 * (_ / 8) ≤ (y 0).val ∧ (y 0).val < 128 * (_ / 8) + 128
      rw [e8]; omega
    · show 512 * (_ % 2) + 128 * (_ % 8 / 2) ≤ (y 1).val ∧ (y 1).val < 512 * (_ % 2) + 128 * (_ % 8 / 2) + 128
      rw [e2, e4]; omega
  · intro k' x hx
    generalize k'.rev = j at hx ⊢
    obtain ⟨r, l, rfl⟩ := ix2_of x
    have h0 : (y 0).val = 128 * (j.val / 8) + r.val := hx 0
    have h1 : (y 1).val = 512 * (j.val % 2) + 128 * (j.val % 8 / 2) + l.val := hx 1
    have ei : i = token (seqOf t) (placeOf t ⟨j.val / 8, by omega⟩) r := Fin.ext (show i.val = t.val / 4 * 2048 + ((t.val % 4 * 4 + j.val / 8) * 128 + r.val) by omega)
    unfold duvTile
    by_cases hj : j.val % 2 = 0
    · rw [if_pos hj, dU_apply, plain_pointIn, ei, ← ref_resU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))]
      congr 2
      exact Fin.ext (show 2048 + (j.val % 8 / 2 * 128 + l.val) = k.val by omega)
    · rw [if_neg hj, dV_apply _ _ _ _ (plain_real m hR c t _), plain_pointIn, ei, ← ref_resV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))]
      congr 2
      exact Fin.ext (show 2560 + (j.val % 8 / 2 * 128 + l.val) = k.val by omega)

include hR in
/-- The two branches' gradients beside the columns kept, whole. -/
theorem final_duv (c : Dev nD) : (dats m 0 c).arrAt 7 cfg0.N = Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((dats m 0 c).arrAt_eq_of_coversWhere 7 (Cert.ReferenceIdeal.Read.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (P := fun i : S4096x3072.Idx => 2048 ≤ (i 1).val) (fun β => 2 ≤ β (1 : Fin 2)) (by decide +kernel) (fun t hf y => ?_) (fun j => by blk_simp [Pipeline.Window.cell_apply]; omega)).trans ?_
  · blk_simp
    rw [after0_7]
    rw [show (outsAt0 m c t.val t.isLt).1 = View.canon (duvPieces (pointIn m c t)) from
      if h : t.val % 8 = 0 then out_duv_A m c t h else out_duv_B m c t h]
    obtain ⟨i, k, e⟩ := ix2_of (A := 4096) (B := 3072) ((win0_7.blk t).view.emb y)
    rw [e]
    refine tile_duv m hR c t y i k ?_ ?_
    · have h : i.val = ((win0_7.blk t).view.emb y 0).val := congrArg (fun j : S4096x3072.Idx => (j 0).val) e.symm
      rw [h]; blk_simp [idx t]
    · have h : k.val = ((win0_7.blk t).view.emb y 1).val := congrArg (fun j : S4096x3072.Idx => (j 1).val) e.symm
      rw [h]; blk_simp [idx t]
  · funext i
    by_cases h : 2048 ≤ (i 1).val
    · exact if_pos h
    · refine (if_neg h).trans ?_
      obtain ⟨a, b, rfl⟩ := ix2_of i
      refine Eq.trans ?_ (ref_kept _ _ _ _ _ _ _ a b (Nat.lt_of_not_le h)).symm
      rw [A_eq]
      entry_read
      rfl

end Cert.Mixer

end
-- ==== Proof.Mixer.Pre.lean ====
/- The precondition read: the second branch, the gradient's half of the mixer, the gains and the mixing matrices hold
   real numbers, so every chunk does. -/
module

public import proofs.«01_k».proof.Pre_mixer_inputs_finite
public import proofs.«01_k».proof.Proof.Mixer.RefRead
public import Idealize.ShloMosaic.Lib.ReduceAll

@[expose] public section

set_option maxRecDepth 16384

noncomputable section

namespace Cert.Mixer

open Idealize.ShloMosaic

/-- The shape relations the predicate's operations take. -/
theorem preFacts : Cert.Pre_mixer_inputs_finite.Facts where
  slices_S4096x3072_S4096x1024_0_2048 := by decide
  slices_S4096x1024_S4096x512_0_512 := by decide
  bcast_S_S4096x1024 := by decide
  reducesTo_S4096x1024_S_d0_1 := by decide
  h_S_ := by decide
  bcast_S_S4096x512 := by decide
  reducesTo_S4096x512_S_d0_1 := by decide
  bcast_S_S1x512 := by decide
  reducesTo_S1x512_S_d0_1 := by decide
  bcast_S_S4x128x128 := by decide
  reducesTo_S4x128x128_S_d0_1_2 := by decide

theorem inf_word : (Ideal.ofBits .f32 0x7F800000#32 : EReal) = ⊤ := by
  simp [Ideal.ofBits, Ideal.ieee]

/-- An entry whose absolute value is below infinity is a real number. -/
theorem real_of_abs (x : EReal) (h : Ideal.cmp .olt (max x (-x)) (Ideal.ofBits .f32 0x7F800000#32) = 1#1) : IsReal x := by
  rw [inf_word] at h
  have h' : max x (-x) < ⊤ := by
    by_contra hn
    simp [Ideal.cmp, hn] at h
  refine IsReal.ofFinite (fun e => ?_) (fun e => ?_) <;> subst e <;> simp at h'

theorem and_one (a b : BitVec 1) (h : IntOp.andi a b = 1#1) : a = 1#1 ∧ b = 1#1 := by
  revert h; simp only [IntOp.andi]; revert a b; decide

/-- Every chunk of arguments that meet the precondition holds real numbers. -/
theorem chunk_real [Cert.Pre_mixer_inputs_finite.Facts] (x0 : FVec Ideal Cert.ReferenceIdeal.S4096x3072 .f32) (x1 : FVec Ideal Cert.ReferenceIdeal.S4096x1024 .f32)
    (x2 : FVec Ideal Cert.ReferenceIdeal.S4096x3072 .bf16) (x3 x4 : FVec Ideal Cert.ReferenceIdeal.S1x512 .f32)
    (x5 : FVec Ideal Cert.ReferenceIdeal.S4x128x128 .f32) (x6 : FVec Ideal Cert.ReferenceIdeal.S4x128 .f32)
    (h : Cert.Pre_mixer_inputs_finite.fn (F := Ideal) x0 x1 x2 x3 x4 x5 x6 = fun _ => 1#1) (b : Fin 2) (n : Fin 16) :
    (chunk x0 x1 x3 x4 x5 x6 b n).Real := by
  have e := congrFun h (fun a => a.elim0)
  simp only [Cert.Pre_mixer_inputs_finite.fn, Cert.Pre_mixer_inputs_finite.fn_part1, andi] at e
  obtain ⟨e, e5⟩ := and_one _ _ e
  obtain ⟨e, e3⟩ := and_one _ _ e
  obtain ⟨e0, e1⟩ := and_one _ _ e
  have h0 := Host.reduce_andi_all _ _ _ _ _ e0
  have h1 := Host.reduce_andi_all _ _ _ _ _ e1
  have h3 := Host.reduce_andi_all _ _ _ _ _ e3
  have h5 := Host.reduce_andi_all _ _ _ _ _ e5
  have hx0 (r : Fin 4096) (l : Fin 1024) : IsReal (x0 (ix2 r ⟨2048 + l.val, by omega⟩)) := by
    refine real_of_abs _ (Eq.trans ?_ (h0 (ix2 r l)))
    pointwise
    rfl
  have hx1 (r : Fin 4096) (l : Fin 512) : IsReal (x1 (ix2 r ⟨512 + l.val, by omega⟩)) := by
    refine real_of_abs _ (Eq.trans ?_ (h1 (ix2 r l)))
    pointwise
    rfl
  exact {
    u := fun g r l => hx0 (token b n r) ⟨g.val * 128 + l.val, by omega⟩
    v := fun g r l => by
      have e := hx0 (token b n r) ⟨512 + (g.val * 128 + l.val), by omega⟩
      simp only [← Nat.add_assoc] at e
      simpa only [chunk, ← Nat.add_assoc] using e
    d := fun g r l => hx1 (token b n r) ⟨g.val * 128 + l.val, by omega⟩
    lg := fun g l => real_of_abs _ (h3 (ix2 0 (lane g l)))
    w := fun g t s => real_of_abs _ (h5 (ix3 g t s)) }

end Cert.Mixer

end
-- ==== Proof.Mixer.Equation.lean ====
/- The five claims of the mixer's gradient. -/
module

public import proofs.«01_k».proof.Defs
public import proofs.«01_k».proof.Proof.Mixer.Final
public import proofs.«01_k».proof.Proof.Mixer.Pre
public import proofs.«01_k».proof.Proof.Gen.Kernel.Frame
public import proofs.«01_k».proof.Proof.Gen.ReferenceIdeal.Run
public import Idealize.ShloMosaic.Lib.Claim

@[expose] public section

set_option maxRecDepth 16384

noncomputable section

namespace Cert.Mixer

open Idealize.ShloMosaic Idealize.SL.Sem Idealize.ShloMosaic.StableHlo

attribute [local instance] preFacts

/-- The reference ends with its arguments unchanged; it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun _ h => ⟨fun c => (h c).2.2.2.2.2, funext fun s => nomatch s⟩)
    (Cert.ReferenceIdeal.Value.run m g)

/-- Kernel and reference end with equal results on equal arguments that meet the precondition. -/
theorem algebraic : Cert.algebraic_KernelIdeal_ReferenceIdeal_pre_mixer_inputs_finite := by
  pair_intro
  · run_from Cert.KernelIdeal.Value.run_blocks m g
  · refine (θ_run Cert.ReferenceIdeal.defs _ _).mono (fun r h c => ?_) (Cert.ReferenceIdeal.Value.run (F := Ideal) m' g')
    obtain ⟨a0, a1, a2, a3, a4, a5, a6⟩ := hagree c
    have hR : ∀ (c : Dev Cert.KernelIdeal.nD) b n, (argChunk m c b n).Real := fun c b n => chunk_real _ _ _ _ _ _ _ (hpre c) b n
    obtain ⟨h0, h1, h2, h3, h4, hargs⟩ := h c
    have e0 := h0.trans (Cert.ReferenceIdeal.Read.val_main_v168_eq (launchContents m' c))
    have e1 := h1.trans (Cert.ReferenceIdeal.Read.val_main_v171_eq (launchContents m' c))
    have e2 := h2.trans (Cert.ReferenceIdeal.Read.val_main_v174_eq (launchContents m' c))
    have e3 := h3.trans (Cert.ReferenceIdeal.Read.val_main_v104_eq (launchContents m' c))
    have e4 := h4.trans (Cert.ReferenceIdeal.Read.val_main_v175_eq (launchContents m' c))
    refine ⟨?_, ?_, ?_, ?_, ?_, hargs⟩
    · rw [final_duv m hR c, ← a0, ← a1, ← a2, ← a3, ← a4, ← a5, ← a6]; exact e0
    · rw [final_dlg m c, ← a0, ← a1, ← a5]; exact e1
    · rw [final_dlb m c, ← a0, ← a1, ← a5]; exact e2
    · rw [final_dw m c, ← a0, ← a1, ← a3, ← a4]; exact e3
    · rw [final_db m c, ← a0, ← a1]; exact e4

end Cert.Mixer

end
-- ==== Proof.GradW.Columns.lean ====
/- A 1024x4096 buffer that was stored in eight blocks of 512 columns, each the transpose of 512 rows of one array, read back
   whole: the transpose of the array. -/
module

public import Idealize.ShloMosaic.Lib.Pipeline.ValueKit
public import Idealize.ShloMosaic.Lib.Pipeline.ReadBack
public import Idealize.ShloMosaic.Lib.Ring
public import Idealize.ShloMosaic.Lib.Tactic

@[expose] public section

set_option maxRecDepth 16384

noncomputable section

namespace Cert.GradW

open Idealize.ShloMosaic

abbrev Wide : Shape := ⟨2, ![1024, 4096]⟩
abbrev Tall : Shape := ⟨2, ![4096, 1024]⟩
abbrev Strip : Shape := ⟨2, ![1024, 512]⟩

variable {F : FTy → Type} [FloatOps F]

/-- The strip `p` holds columns `o` to `o + 511` of the transpose of `X`. -/
def IsStrip (X : Vec F Tall .bf16) (o : ℕ) (p : Vec F Strip .bf16) : Prop :=
  ∀ (k : Fin 1024) (t : Fin 512) (h : o + t.val < 4096), p (ix2 k t) = X (ix2 ⟨o + t.val, h⟩ k)

theorem IsStrip.at {X : Vec F Tall .bf16} {o : ℕ} {p : Vec F Strip .bf16} (h : IsStrip X o p)
    (inb : ∀ a, (![0, o] : Fin 2 → ℕ) a + Strip.size a ≤ Wide.size a) (x : (Rect.unit (s := Wide) ![0, o] Strip.size inb).shape.Idx) :
    p x = X (ix2 ((Rect.unit (s := Wide) ![0, o] Strip.size inb).emb x 1) ((Rect.unit (s := Wide) ![0, o] Strip.size inb).emb x 0)) := by
  have i1 : o + 512 ≤ 4096 := inb 1
  have l1 : (x 1).val < 512 := (x 1).isLt
  have e := h ⟨(x 0).val, (x 0).isLt⟩ ⟨(x 1).val, l1⟩ (by show o + (x 1).val < 4096; omega)
  refine (congrArg p ?_).trans (e.trans (congrArg X ?_))
  · funext a; fin_cases a <;> rfl
  · funext a; apply Fin.ext
    match a with
    | ⟨0, _⟩ => show o + (x 1).val = o + 1 * (x 1).val; omega
    | ⟨1, _⟩ => show (x 0).val = 0 + 1 * (x 0).val; omega

section
variable {X : Vec F Tall .bf16}
  {p0 p1 p2 p3 p4 p5 p6 p7 : Vec F Strip .bf16}
  (h0 : IsStrip X 0 p0) (h1 : IsStrip X 512 p1) (h2 : IsStrip X 1024 p2) (h3 : IsStrip X 1536 p3)
  (h4 : IsStrip X 2048 p4) (h5 : IsStrip X 2560 p5) (h6 : IsStrip X 3072 p6) (h7 : IsStrip X 3584 p7)
  (i0 : ∀ a, (![0, 0] : Fin 2 → ℕ) a + Strip.size a ≤ Wide.size a) (i1 : ∀ a, (![0, 512] : Fin 2 → ℕ) a + Strip.size a ≤ Wide.size a)
  (i2 : ∀ a, (![0, 1024] : Fin 2 → ℕ) a + Strip.size a ≤ Wide.size a) (i3 : ∀ a, (![0, 1536] : Fin 2 → ℕ) a + Strip.size a ≤ Wide.size a)
  (i4 : ∀ a, (![0, 2048] : Fin 2 → ℕ) a + Strip.size a ≤ Wide.size a) (i5 : ∀ a, (![0, 2560] : Fin 2 → ℕ) a + Strip.size a ≤ Wide.size a)
  (i6 : ∀ a, (![0, 3072] : Fin 2 → ℕ) a + Strip.size a ≤ Wide.size a) (i7 : ∀ a, (![0, 3584] : Fin 2 → ℕ) a + Strip.size a ≤ Wide.size a)
include h0 h1 h2 h3 h4 h5 h6 h7

/-- Stored in the eight strips, the buffer holds the transpose. -/
theorem canon_strips : View.canon (Val := Elt F) (e := .bf16) (s := Wide)
    [⟨Rect.unit ![0, 3584] Strip.size i7, p7⟩, ⟨Rect.unit ![0, 3072] Strip.size i6, p6⟩, ⟨Rect.unit ![0, 2560] Strip.size i5, p5⟩,
      ⟨Rect.unit ![0, 2048] Strip.size i4, p4⟩, ⟨Rect.unit ![0, 1536] Strip.size i3, p3⟩, ⟨Rect.unit ![0, 1024] Strip.size i2, p2⟩,
      ⟨Rect.unit ![0, 512] Strip.size i1, p1⟩, ⟨Rect.unit ![0, 0] Strip.size i0, p0⟩] = fun y => X (ix2 (y 1) (y 0)) := by
  have cover := View.cover_of_tiledL (Val := Elt F) (e := .bf16) (s := Wide)
    [⟨Rect.unit ![0, 3584] Strip.size i7, p7⟩, ⟨Rect.unit ![0, 3072] Strip.size i6, p6⟩, ⟨Rect.unit ![0, 2560] Strip.size i5, p5⟩,
      ⟨Rect.unit ![0, 2048] Strip.size i4, p4⟩, ⟨Rect.unit ![0, 1536] Strip.size i3, p3⟩, ⟨Rect.unit ![0, 1024] Strip.size i2, p2⟩,
      ⟨Rect.unit ![0, 512] Strip.size i1, p1⟩, ⟨Rect.unit ![0, 0] Strip.size i0, p0⟩] Strip.size (by sl_kernel_rfl)
  have pieces : View.PiecesOf (Val := Elt F) (e := .bf16) (s := Wide) (fun y : Wide.Idx => X (ix2 (y 1) (y 0)))
    [⟨Rect.unit ![0, 3584] Strip.size i7, p7⟩, ⟨Rect.unit ![0, 3072] Strip.size i6, p6⟩, ⟨Rect.unit ![0, 2560] Strip.size i5, p5⟩,
      ⟨Rect.unit ![0, 2048] Strip.size i4, p4⟩, ⟨Rect.unit ![0, 1536] Strip.size i3, p3⟩, ⟨Rect.unit ![0, 1024] Strip.size i2, p2⟩,
      ⟨Rect.unit ![0, 512] Strip.size i1, p1⟩, ⟨Rect.unit ![0, 0] Strip.size i0, p0⟩] :=
    ⟨h7.at i7, h6.at i6, h5.at i5, h4.at i4, h3.at i3, h2.at i2, h1.at i1, h0.at i0, trivial⟩
  funext y
  exact View.canon_append_of_piecesOf _ [] _ pieces y (cover y)

/-- Read back whole, it is the transpose. -/
theorem read_strips {sig : RefSig} {κ : Kind} {sp : Space} (v : View sig κ sp Wide .bf16)
    (i : ∀ a, (![0, 0] : Fin 2 → ℕ) a + Wide.size a ≤ Wide.size a) :
    v.readCov [⟨Rect.unit ![0, 3584] Strip.size i7, p7⟩, ⟨Rect.unit ![0, 3072] Strip.size i6, p6⟩, ⟨Rect.unit ![0, 2560] Strip.size i5, p5⟩,
      ⟨Rect.unit ![0, 2048] Strip.size i4, p4⟩, ⟨Rect.unit ![0, 1536] Strip.size i3, p3⟩, ⟨Rect.unit ![0, 1024] Strip.size i2, p2⟩,
      ⟨Rect.unit ![0, 512] Strip.size i1, p1⟩, ⟨Rect.unit ![0, 0] Strip.size i0, p0⟩] (Rect.unit ![0, 0] Wide.size i).toLoadRect
      = fun y => X (ix2 (y 1) (y 0)) := by
  refine (View.readCov_eq_canon_ld v _ (Rect.unit ![0, 0] Wide.size i) (View.cover_of_tiledL _ Strip.size (by sl_kernel_rfl))).trans ?_
  exact (View.ld_unit_lit' i _ (by decide)).trans (canon_strips h0 h1 h2 h3 h4 h5 h6 h7 i0 i1 i2 i3 i4 i5 i6 i7)

end

/-- The product of the transpose of `a` and `b` at row `p` and column `q`. -/
def cross {k n : ℕ} (a : (⟨2, ![4096, k]⟩ : Shape).Idx → EReal) (b : (⟨2, ![4096, n]⟩ : Shape).Idx → EReal) (p : Fin k) (q : Fin n) : EReal :=
  ∑ t : Fin 4096, a (ix2 t p) * b (ix2 t q)

end Cert.GradW

end
-- ==== Proof.GradW.Ff1.lean ====
/- The gradient of the channel mixer's first weights: the first grid point transposes the activations into a scratch buffer,
   each of the four multiplies them by a panel of the cotangent and stores the product in two halves, one for each owner of
   columns; that is the reference's gradient cut by owner; the claims. -/
module

public import proofs.«01_k».proof.Defs
public import proofs.«01_k».proof.Proof.Gen.Kernel2Ideal.Value
public import proofs.«01_k».proof.Proof.Gen.Reference2Ideal.Read
public import proofs.«01_k».proof.Proof.GradW.Columns
public import Idealize.ShloMosaic.Lib.Pipeline.ValueKit
public import proofs.«01_k».proof.Proof.Gen.Reference2Ideal.Run
public import Idealize.ShloMosaic.Lib.StableHlo.ReadAt
public import Idealize.ShloMosaic.Lib.Claim
public import Idealize.ShloMosaic.Lib.Pointwise

@[expose] public section

set_option maxRecDepth 16384

noncomputable section

namespace Cert.GradW.Ff1

open Idealize.ShloMosaic Idealize.ShloMosaic.StableHlo Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

open Cert.Reference2Ideal.Read (val_main_v13)

variable (c : Dev nD)

/-- The transpose of the block of the first operand, which is the same at every grid point. -/
abbrev columns (t : Fin cfg0.N) : Vec Ideal S1024x4096 .bf16 := fun y => iblk m c 0 t (ix2 (y 1) (y 0))

theorem place_lt (y : S2x1024x512.Idx) : (y 0).val * 512 + (y 2).val < 1024 := by
  have h0 : (y 0).val < 2 := (y 0).isLt
  have h2 : (y 2).val < 512 := (y 2).isLt
  omega

/-- Where in the product an element of the block lies. -/
def place (y : S2x1024x512.Idx) : S1024x1024.Idx :=
  ix2 (⟨(y 1).val, (y 1).isLt⟩ : Fin 1024) (⟨(y 0).val * 512 + (y 2).val, place_lt y⟩ : Fin 1024)

/-- The store of the left half, at an index. -/
theorem left (T : Vec Ideal S1024x4096 .bf16) (b : Vec Ideal S1x4096x1024 .bf16) (x : (Rect.unit (s := S2x1024x512) ![0, 0, 0] ![1, 1024, 512] inb_S2x1024x512_S1x1024x512_0_0_0).shape.Idx) :
    k0_pay5 T b x = k0_pay4 T b (place ((Rect.unit (s := S2x1024x512) ![0, 0, 0] ![1, 1024, 512] inb_S2x1024x512_S1x1024x512_0_0_0).emb x)) := by
  unfold k0_pay5
  generalize k0_pay4 T b = P
  pointwise
  have h0 : (x 0).val < 1 := (x 0).isLt
  refine congrArg P (funext fun a => Fin.ext ?_)
  match a with
  | ⟨0, _⟩ => show (x 1).val = 0 + 1 * (x 1).val; omega
  | ⟨1, _⟩ => show (x 2).val = (0 + 1 * (x 0).val) * 512 + (0 + 1 * (x 2).val); omega

/-- The store of the right half, at an index. -/
theorem right (T : Vec Ideal S1024x4096 .bf16) (b : Vec Ideal S1x4096x1024 .bf16) (x : (Rect.unit (s := S2x1024x512) ![1, 0, 0] ![1, 1024, 512] inb_S2x1024x512_S1x1024x512_1_0_0).shape.Idx) :
    k0_pay6 T b x = k0_pay4 T b (place ((Rect.unit (s := S2x1024x512) ![1, 0, 0] ![1, 1024, 512] inb_S2x1024x512_S1x1024x512_1_0_0).emb x)) := by
  unfold k0_pay6
  generalize k0_pay4 T b = P
  pointwise
  have h0 : (x 0).val < 1 := (x 0).isLt
  refine congrArg P (funext fun a => Fin.ext ?_)
  match a with
  | ⟨0, _⟩ => show (x 1).val = 0 + 1 * (x 1).val; omega
  | ⟨1, _⟩ => show 512 + (x 2).val = (1 + 1 * (x 0).val) * 512 + (0 + 1 * (x 2).val); omega

/-- The two stores of a grid point are the left and the right half of one product. -/
theorem halves {U T : Vec Ideal S1024x4096 .bf16} (e : U = T) (b : Vec Ideal S1x4096x1024 .bf16) :
    View.canon (Val := Elt Ideal) (e := .bf16) (s := S2x1024x512)
      [⟨Rect.unit ![1, 0, 0] ![1, 1024, 512] inb_S2x1024x512_S1x1024x512_1_0_0, k0_pay6 U b⟩,
        ⟨Rect.unit ![0, 0, 0] ![1, 1024, 512] inb_S2x1024x512_S1x1024x512_0_0_0, k0_pay5 U b⟩] = fun y => k0_pay4 T b (place y) := by
  subst e
  have cover := View.cover_of_tiledL (Val := Elt Ideal) (e := .bf16) (s := S2x1024x512)
      [⟨Rect.unit ![1, 0, 0] ![1, 1024, 512] inb_S2x1024x512_S1x1024x512_1_0_0, k0_pay6 U b⟩,
        ⟨Rect.unit ![0, 0, 0] ![1, 1024, 512] inb_S2x1024x512_S1x1024x512_0_0_0, k0_pay5 U b⟩] ![1, 1024, 512] (by sl_kernel_rfl)
  have pieces : View.PiecesOf (Val := Elt Ideal) (e := .bf16) (s := S2x1024x512) (fun y => k0_pay4 U b (place y))
      [⟨Rect.unit ![1, 0, 0] ![1, 1024, 512] inb_S2x1024x512_S1x1024x512_1_0_0, k0_pay6 U b⟩,
        ⟨Rect.unit ![0, 0, 0] ![1, 1024, 512] inb_S2x1024x512_S1x1024x512_0_0_0, k0_pay5 U b⟩] :=
    ⟨right U b, left U b, trivial⟩
  funext y
  exact View.canon_append_of_piecesOf _ [] _ pieces y (cover y)

/-- The first grid point leaves the transpose in the scratch buffer and stores its product. -/
theorem first (t : Fin cfg0.N) (h : t.val % 4 = 0) : (outsAt0 m c t.val t.isLt).2 = columns m c t
    ∧ (outsAt0 m c t.val t.isLt).1 = fun y => k0_pay4 (columns m c t) (iblk m c 1 t) (place y) := by
  have s0 : IsStrip (iblk m c 0 t) 0 (k0_pay7 (View.ld (iblk m c 0 t) (Rect.unit ![0, 0] ![512, 1024] inb_S4096x1024_S512x1024_0_0))) := by
    intro k n h; unfold k0_pay7; pointwise
  have s1 : IsStrip (iblk m c 0 t) 512 (k0_pay8 (View.ld (iblk m c 0 t) (Rect.unit ![512, 0] ![512, 1024] inb_S4096x1024_S512x1024_512_0))) := by
    intro k n h; unfold k0_pay8; pointwise
  have s2 : IsStrip (iblk m c 0 t) 1024 (k0_pay9 (View.ld (iblk m c 0 t) (Rect.unit ![1024, 0] ![512, 1024] inb_S4096x1024_S512x1024_1024_0))) := by
    intro k n h; unfold k0_pay9; pointwise
  have s3 : IsStrip (iblk m c 0 t) 1536 (k0_pay10 (View.ld (iblk m c 0 t) (Rect.unit ![1536, 0] ![512, 1024] inb_S4096x1024_S512x1024_1536_0))) := by
    intro k n h; unfold k0_pay10; pointwise
  have s4 : IsStrip (iblk m c 0 t) 2048 (k0_pay11 (View.ld (iblk m c 0 t) (Rect.unit ![2048, 0] ![512, 1024] inb_S4096x1024_S512x1024_2048_0))) := by
    intro k n h; unfold k0_pay11; pointwise
  have s5 : IsStrip (iblk m c 0 t) 2560 (k0_pay1 (k0_pay12 (View.ld (iblk m c 0 t) (Rect.unit ![2560, 0] ![512, 1024] inb_S4096x1024_S512x1024_2560_0)))) := by
    intro k n h; unfold k0_pay1 k0_pay12; pointwise
  have s6 : IsStrip (iblk m c 0 t) 3072 (k0_pay2 (View.ld (iblk m c 0 t) (Rect.unit ![3072, 0] ![512, 1024] inb_S4096x1024_S512x1024_3072_0))) := by
    intro k n h; unfold k0_pay2; pointwise
  have s7 : IsStrip (iblk m c 0 t) 3584 (k0_pay3 (View.ld (iblk m c 0 t) (Rect.unit ![3584, 0] ![512, 1024] inb_S4096x1024_S512x1024_3584_0))) := by
    intro k n h; unfold k0_pay3; pointwise
  rw [outsAt0_A m c t h]
  constructor
  · frame_out
    exact canon_strips s0 s1 s2 s3 s4 s5 s6 s7 _ _ _ _ _ _ _ _
  · frame_out
    exact halves (read_strips s0 s1 s2 s3 s4 s5 s6 s7 _ _ _ _ _ _ _ _ _ _) _

/-- A later grid point multiplies the columns that it finds. -/
theorem later (t : Fin cfg0.N) (h : ¬t.val % 4 = 0) (T : Vec Ideal S1024x4096 .bf16)
    (hT : (outsAt0 m c (t.val - 1) (Nat.lt_of_le_of_lt (Nat.sub_le _ _) t.isLt)).2 = T) : (outsAt0 m c t.val t.isLt).2 = T
    ∧ (outsAt0 m c t.val t.isLt).1 = fun y => k0_pay4 T (iblk m c 1 t) (place y) := by
  rw [outsAt0_B m c t h, hT]
  constructor
  · rfl
  · frame_out
    exact halves ((Memref.isWhole_whole cc0_scratch0).read_unread T) _

/-- The activations after the norm, as the reference's forward lines compute them. -/
abbrev act : (⟨Cert.Reference2Ideal.S4096x1024, .f32⟩ : BufTy).Contents (Elt Ideal) :=
  val_main_v13 (F := Ideal) (m ((c : Thread nD τ).loc main_arg0)) (m ((c : Thread nD τ).loc main_arg1))

/-- An array cut into four panels of 1024 columns. -/
def panels (A : (⟨S4096x4096, .f32⟩ : BufTy).Contents (Elt Ideal)) : (⟨S4x4096x1024, .bf16⟩ : BufTy).Contents (Elt Ideal) :=
  truncf (F := Ideal) .bf16 (transpose S4x4096x1024 [1, 0, 2] (shapeCast S4096x4x1024 A shapeCasts_S4096x4096_S4096x4x1024) transposes_S4096x4x1024_S4x4096x1024_1_0_2 : FVec Ideal S4x4096x1024 .f32) bitsLt_bf16_f32

theorem panels_at (A : (⟨S4096x4096, .f32⟩ : BufTy).Contents (Elt Ideal)) (s : Fin 4) (x : Fin 4096) (k : Fin 1024) :
    panels A (ix3 s x k) = A (ix2 x ⟨s.val * 1024 + k.val, by omega⟩) := by
  unfold panels
  pointwise

/-- The kernel is launched on the activations and on the panels of the cotangent. -/
theorem entry_a : V m c main_v13 = act m c := by
  unfold_abbrev_sides
  simp only [hostOps0]
  after_reads_simp
  rfl

theorem entry_b : V m c main_v16 = panels (m ((c : Thread nD τ).loc main_arg2)) := by
  unfold_abbrev_sides
  simp only [hostOps0]
  after_reads_simp
  rfl

theorem idx : ∀ t : Fin cfg0.N, win0_0.index t = ![0, 0] ∧ win0_1.index t = ![t.val, 0, 0] ∧ win0_2.index t = ![t.val, 0, 0] :=
  (by decide +kernel : ∀ t : Fin grid0.N, _)

theorem col_lt (t : Fin cfg0.N) (k : Fin 1024) : t.val * 1024 + k.val < 4096 := by have h : t.val < 4 := t.isLt; omega

theorem read_a (t : Fin cfg0.N) (x : Fin 4096) (k : Fin 1024) : iblk m c 0 t (ix2 x k) = act m c (ix2 x k) := by
  have e : iblk m c 0 t (ix2 x k) = V m c main_v13 (ix2 x k) := by
    blk_ext [iblk, idx t]
  rw [e, entry_a]

theorem read_b (t : Fin cfg0.N) (x : Fin 4096) (k : Fin 1024) :
    iblk m c 1 t (ix3 0 x k) = m ((c : Thread nD τ).loc main_arg2) (ix2 x ⟨t.val * 1024 + k.val, col_lt t k⟩) := by
  have e : iblk m c 1 t (ix3 0 x k) = V m c main_v16 (ix3 ⟨t.val, t.isLt⟩ x k) := by
    blk_ext [iblk, idx t]
  rw [e, entry_b, panels_at]

/-- The transposed activations, which the scratch buffer holds from the first grid point on. -/
abbrev turned : Vec Ideal S1024x4096 .bf16 := fun y => act m c (ix2 (y 1) (y 0))

theorem columns_eq (t : Fin cfg0.N) : columns m c t = turned m c := funext fun y => read_a m c t (y 1) (y 0)

/-- What the scratch buffer holds after each grid point, and what the point stores. -/
theorem points : ∀ (n : ℕ) (hn : n < cfg0.N), (outsAt0 m c n hn).2 = turned m c
    ∧ (outsAt0 m c n hn).1 = fun y => k0_pay4 (turned m c) (iblk m c 1 ⟨n, hn⟩) (place y)
  | 0, hn => columns_eq m c ⟨0, hn⟩ ▸ first m c ⟨0, hn⟩ rfl
  | n + 1, hn => later m c ⟨n + 1, hn⟩ (by have h : n + 1 < 4 := hn; show ¬(n + 1) % 4 = 0; omega) _ (points n (Nat.lt_of_succ_lt hn)).1

/-- An element of the product at grid point `t`. -/
theorem stored (t : Fin cfg0.N) (i : S1024x1024.Idx) :
    k0_pay4 (turned m c) (iblk m c 1 t) i
      = cross (act m c) (m ((c : Thread nD τ).loc main_arg2)) (i 0) ⟨t.val * 1024 + (i 1).val, col_lt t (i 1)⟩ := by
  unfold k0_pay4
  pointwise
  exact Finset.sum_congr rfl fun x _ => congrArg₂ (fun p q : EReal => p * q) rfl (read_b m c t x (i 1))

theorem owner_lt (i : Cert.Reference2Ideal.S8x1024x512.Idx) : (i 0).val * 512 + (i 2).val < 4096 := by
  have h0 : (i 0).val < 8 := (i 0).isLt
  have h2 : (i 2).val < 512 := (i 2).isLt
  omega

/-- The reference's gradient at an index. -/
theorem reference_at (x : (⟨Cert.Reference2Ideal.S4096x1024, .f32⟩ : BufTy).Contents (Elt Ideal)) (g : (⟨Cert.Reference2Ideal.S1024, .f32⟩ : BufTy).Contents (Elt Ideal))
    (d : (⟨Cert.Reference2Ideal.S4096x4096, .f32⟩ : BufTy).Contents (Elt Ideal)) (i : Cert.Reference2Ideal.S8x1024x512.Idx) :
    Cert.Reference2Ideal.Read.val_main_v19 (F := Ideal) x g d i = cross (val_main_v13 (F := Ideal) x g) d (i 1) ⟨(i 0).val * 512 + (i 2).val, owner_lt i⟩ := by
  rw [Cert.Reference2Ideal.Read.val_main_v19_apply, Cert.Reference2Ideal.Read.val_main_v18_apply, Cert.Reference2Ideal.Read.val_main_v17_apply,
    Cert.Reference2Ideal.Read.val_main_v16_apply, Cert.Reference2Ideal.Read.val_main_v15_apply]
  have h0 : (i 0).val < 8 := (i 0).isLt
  have h2 : (i 2).val < 512 := (i 2).isLt
  refine Finset.sum_congr rfl fun x _ => ?_
  rw [mul_comm]
  refine congrArg₂ (fun p q : EReal => p * q) (congrArg _ (funext fun a => Fin.ext ?_)) (congrArg d (funext fun a => Fin.ext ?_))
  · match a with
    | ⟨0, _⟩ => rfl
    | ⟨1, _⟩ => show (((i 1).val * 8 + (i 0).val) * 512 + (i 2).val) / 4096 = (i 1).val; omega
  · match a with
    | ⟨0, _⟩ => rfl
    | ⟨1, _⟩ => show (((i 1).val * 8 + (i 0).val) * 512 + (i 2).val) % 4096 = (i 0).val * 512 + (i 2).val; omega

theorem block_lt (t : Fin cfg0.N) (y : S2x1024x512.Idx) : t.val * 2 + (y 0).val < 8 := by
  have h : t.val < 4 := t.isLt
  have h0 : (y 0).val < 2 := (y 0).isLt
  omega

/-- The result array is the reference's gradient. -/
theorem final : (dats m 0 c).arrAt 2 cfg0.N = Cert.Reference2Ideal.Read.val_main_v19 (F := Ideal) (m ((c : Thread nD τ).loc main_arg0))
    (m ((c : Thread nD τ).loc main_arg1)) (m ((c : Thread nD τ).loc main_arg2)) := by
  refine (dats m 0 c).arrAt_eq_of_covers 2 _ (by decide +kernel) fun t hf y => ?_
  blk_simp
  rw [after0_2, (points m c t.val t.isLt).2]
  have e : (win0_2.blk t).view.emb y = ix3 ⟨t.val * 2 + (y 0).val, block_lt t y⟩ (y 1) (y 2) := by blk_ext [idx t]
  refine Eq.trans ?_ (reference_at _ _ _ _).symm
  rw [e]
  refine (stored m c t (place y)).trans (congrArg₂ (cross _ _) rfl (Fin.ext ?_))
  show t.val * 1024 + ((y 0).val * 512 + (y 2).val) = (t.val * 2 + (y 0).val) * 512 + (y 2).val
  omega

/-- The reference ends with its arguments unchanged; it has no semaphore. -/
theorem reference_frame : Cert.quiescent_Reference2Ideal := fun m g _ =>
  (θ_run Cert.Reference2Ideal.defs _ _).mono (fun _ h => ⟨fun c => (h c).2, funext fun s => nomatch s⟩) (Cert.Reference2Ideal.Value.run m g)

/-- Kernel and reference end with equal results on equal arguments. -/
theorem algebraic : Cert.algebraic_Kernel2Ideal_Reference2Ideal := by
  pair_intro
  · run_from Cert.Kernel2Ideal.Value.run_blocks m g
  · refine (θ_run Cert.Reference2Ideal.defs _ _).mono (fun r h c => ?_) (Cert.Reference2Ideal.Value.run (F := Ideal) m' g')
    obtain ⟨a0, a1, a2⟩ := hagree c
    obtain ⟨h0, hargs⟩ := h c
    refine ⟨?_, hargs⟩
    rw [final m c, ← a0, ← a1, ← a2]
    exact h0.trans (Cert.Reference2Ideal.Read.val_main_v19_eq _ _ _)

end Cert.GradW.Ff1

end
-- ==== Proof.GradW.Ff2.lean ====
/- The gradient of the channel mixer's second weights: each of the four grid points stores the product of a transposed panel of
   the activations and the cotangent, which is a band of rows of the reference's gradient; the claims. -/
module

public import proofs.«01_k».proof.Defs
public import proofs.«01_k».proof.Proof.Gen.Kernel3Ideal.Value
public import proofs.«01_k».proof.Proof.Gen.Reference3Ideal.Read
public import proofs.«01_k».proof.Proof.GradW.Columns
public import Idealize.ShloMosaic.Lib.Pipeline.ValueKit
public import proofs.«01_k».proof.Proof.Gen.Reference3Ideal.Run
public import Idealize.ShloMosaic.Lib.StableHlo.ReadAt
public import Idealize.ShloMosaic.Lib.Claim
public import Idealize.ShloMosaic.Lib.Pointwise

@[expose] public section

set_option maxRecDepth 16384

noncomputable section

namespace Cert.GradW.Ff2

open Idealize.ShloMosaic Idealize.ShloMosaic.StableHlo Idealize.ShloMosaic.TcCoe Idealize.SL.Sem Cert.Kernel3Ideal Cert.Kernel3Ideal.Gen
open Idealize.ShloMosaic.Pipeline (Dat)

variable (m : (ℓ : Loc nD τ sig) → Buf (Elt Ideal) ℓ)

open Cert.Reference3Ideal.Read (val_main_v16)

variable (c : Dev nD)

/-- The activations as the reference's forward lines compute them. -/
abbrev act : (⟨Cert.Reference3Ideal.S4096x4096, .f32⟩ : BufTy).Contents (Elt Ideal) :=
  val_main_v16 (F := Ideal) (m ((c : Thread nD τ).loc main_arg0)) (m ((c : Thread nD τ).loc main_arg1)) (m ((c : Thread nD τ).loc main_arg2))

/-- An array cut into four panels of 1024 columns. -/
def panels (A : (⟨S4096x4096, .f32⟩ : BufTy).Contents (Elt Ideal)) : (⟨S4x4096x1024, .bf16⟩ : BufTy).Contents (Elt Ideal) :=
  truncf (F := Ideal) .bf16 (transpose S4x4096x1024 [1, 0, 2] (shapeCast S4096x4x1024 A shapeCasts_S4096x4096_S4096x4x1024) transposes_S4096x4x1024_S4x4096x1024_1_0_2 : FVec Ideal S4x4096x1024 .f32) bitsLt_bf16_f32

theorem panels_at (A : (⟨S4096x4096, .f32⟩ : BufTy).Contents (Elt Ideal)) (s : Fin 4) (x : Fin 4096) (k : Fin 1024) :
    panels A (ix3 s x k) = A (ix2 x ⟨s.val * 1024 + k.val, by omega⟩) := by
  unfold panels
  pointwise

/-- The kernel is launched on the panels of the activations and on the cotangent. -/
theorem entry_a : V m c main_v18 = panels (act m c) := by
  unfold_abbrev_sides
  simp only [hostOps0, hostOps0_1, hostOps0_2, List.flatten_cons, List.flatten_nil, List.cons_append, List.nil_append, List.append_nil]
  after_reads_simp
  rfl

theorem entry_b : V m c main_v19 = m ((c : Thread nD τ).loc main_arg3) := by
  unfold_abbrev_sides
  simp only [hostOps0, hostOps0_1, hostOps0_2, List.flatten_cons, List.flatten_nil, List.cons_append, List.nil_append, List.append_nil]
  after_reads_simp
  rfl

/-- What a grid point stores: the product of the transposed first block and the second. -/
theorem out_at (c : Dev nD) (t : Fin cfg0.N) : outsAt0 m c t = k0_pay4 (fun y => iblk m c 0 t (ix3 0 (y 1) (y 0))) (iblk m c 1 t) := by
  unfold outsAt0
  frame_out
  rw [read_strips (X := fun y => iblk m c 0 t (ix3 0 (y 0) (y 1)))]
  · rfl
  all_goals intro k n h
  · unfold k0_pay5; pointwise
  · unfold k0_pay6; pointwise
  · unfold k0_pay7; pointwise
  · unfold k0_pay8; pointwise
  · unfold k0_pay9; pointwise
  · unfold k0_pay1; pointwise
  · unfold k0_pay2; pointwise
  · unfold k0_pay3; pointwise

theorem idx : ∀ t : Fin cfg0.N, win0_0.index t = ![t.val, 0, 0] ∧ win0_1.index t = ![0, 0] ∧ win0_2.index t = ![t.val, 0] :=
  (by decide +kernel : ∀ t : Fin grid0.N, _)

theorem row_lt (t : Fin cfg0.N) (k : Fin 1024) : t.val * 1024 + k.val < 4096 := by have h : t.val < 4 := t.isLt; omega

theorem read_a (t : Fin cfg0.N) (x : Fin 4096) (k : Fin 1024) :
    iblk m c 0 t (ix3 0 x k) = act m c (ix2 x ⟨t.val * 1024 + k.val, row_lt t k⟩) := by
  have e : iblk m c 0 t (ix3 0 x k) = V m c main_v18 (ix3 ⟨t.val, t.isLt⟩ x k) := by
    blk_ext [iblk, idx t]
  rw [e, entry_a, panels_at]

theorem read_b (t : Fin cfg0.N) (x : Fin 4096) (k : Fin 1024) :
    iblk m c 1 t (ix2 x k) = m ((c : Thread nD τ).loc main_arg3) (ix2 x k) := by
  have e : iblk m c 1 t (ix2 x k) = V m c main_v19 (ix2 x k) := by
    blk_ext [iblk, idx t]
  rw [e, entry_b]

/-- The product that grid point `t` stores at an index. -/
theorem stored (t : Fin cfg0.N) (y : S1024x1024.Idx) :
    k0_pay4 (fun y => iblk m c 0 t (ix3 0 (y 1) (y 0))) (iblk m c 1 t) y
      = cross (act m c) (m ((c : Thread nD τ).loc main_arg3)) ⟨t.val * 1024 + (y 0).val, row_lt t (y 0)⟩ (y 1) := by
  unfold k0_pay4
  pointwise
  exact Finset.sum_congr rfl fun x _ => congrArg₂ (fun p q : EReal => p * q) (read_a m c t x (y 0)) (read_b m c t x (y 1))

/-- The reference's gradient at an index. -/
theorem reference_at (x : (⟨Cert.Reference3Ideal.S4096x1024, .f32⟩ : BufTy).Contents (Elt Ideal)) (g : (⟨Cert.Reference3Ideal.S1024, .f32⟩ : BufTy).Contents (Elt Ideal))
    (w : (⟨Cert.Reference3Ideal.S1024x4096, .f32⟩ : BufTy).Contents (Elt Ideal)) (d : (⟨Cert.Reference3Ideal.S4096x1024, .f32⟩ : BufTy).Contents (Elt Ideal)) (i : Cert.Reference3Ideal.S4096x1024.Idx) :
    Cert.Reference3Ideal.Read.val_main_v20 (F := Ideal) x g w d i = cross (val_main_v16 (F := Ideal) x g w) d (i 0) (i 1) := by
  rw [Cert.Reference3Ideal.Read.val_main_v20_apply, Cert.Reference3Ideal.Read.val_main_v19_apply, Cert.Reference3Ideal.Read.val_main_v18_apply]
  refine Finset.sum_congr rfl fun x _ => ?_
  rw [mul_comm]
  congr 2 <;> (funext q; fin_cases q <;> rfl)

/-- The result array is the reference's gradient. -/
theorem final : (dats m 0 c).arrAt 2 cfg0.N = Cert.Reference3Ideal.Read.val_main_v20 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2, out_at]
  have e : (win0_2.blk t).view.emb y = ix2 ⟨t.val * 1024 + (y 0).val, row_lt t (y 0)⟩ (y 1) := by blk_ext [idx t]
  refine Eq.trans ?_ (reference_at _ _ _ _ _).symm
  rw [e]
  exact stored m c t y

/-- The reference ends with its arguments unchanged; it has no semaphore. -/
theorem reference_frame : Cert.quiescent_Reference3Ideal := fun m g _ =>
  (θ_run Cert.Reference3Ideal.defs _ _).mono (fun _ h => ⟨fun c => (h c).2, funext fun s => nomatch s⟩) (Cert.Reference3Ideal.Value.run m g)

/-- Kernel and reference end with equal results on equal arguments. -/
theorem algebraic : Cert.algebraic_Kernel3Ideal_Reference3Ideal := by
  pair_intro
  · run_from Cert.Kernel3Ideal.Value.run_blocks m g
  · refine (θ_run Cert.Reference3Ideal.defs _ _).mono (fun r h c => ?_) (Cert.Reference3Ideal.Value.run (F := Ideal) m' g')
    obtain ⟨a0, a1, a2, a3⟩ := hagree c
    obtain ⟨h0, hargs⟩ := h c
    refine ⟨?_, hargs⟩
    rw [final m c, ← a0, ← a1, ← a2, ← a3]
    exact h0.trans (Cert.Reference3Ideal.Read.val_main_v20_eq _ _ _ _)

end Cert.GradW.Ff2

end
-- ==== Proof.GradW.In.lean ====
/- The gradient of the input projection's weights: as for the channel mixer's first weights, over 768 columns of the cotangent
   at a grid point; the claims. -/
module

public import proofs.«01_k».proof.Defs
public import proofs.«01_k».proof.Proof.Gen.Kernel4Ideal.Value
public import proofs.«01_k».proof.Proof.Gen.Reference4Ideal.Read
public import proofs.«01_k».proof.Proof.GradW.Columns
public import Idealize.ShloMosaic.Lib.Pipeline.ValueKit
public import proofs.«01_k».proof.Proof.Gen.Reference4Ideal.Run
public import Idealize.ShloMosaic.Lib.StableHlo.ReadAt
public import Idealize.ShloMosaic.Lib.Claim
public import Idealize.ShloMosaic.Lib.Pointwise

@[expose] public section

set_option maxRecDepth 16384

noncomputable section

namespace Cert.GradW.In

open Idealize.ShloMosaic Idealize.ShloMosaic.StableHlo Idealize.ShloMosaic.TcCoe Idealize.SL.Sem Cert.Kernel4Ideal Cert.Kernel4Ideal.Gen
open Idealize.ShloMosaic.Pipeline (Dat)

variable (m : (ℓ : Loc nD τ sig) → Buf (Elt Ideal) ℓ)

open Cert.Reference4Ideal.Read (val_main_v13)

variable (c : Dev nD)

/-- The transpose of the block of the first operand, which is the same at every grid point. -/
abbrev columns (t : Fin cfg0.N) : Vec Ideal S1024x4096 .bf16 := fun y => iblk m c 0 t (ix2 (y 1) (y 0))

theorem place_lt (y : S2x1024x384.Idx) : (y 0).val * 384 + (y 2).val < 768 := by
  have h0 : (y 0).val < 2 := (y 0).isLt
  have h2 : (y 2).val < 384 := (y 2).isLt
  omega

/-- Where in the product an element of the block lies. -/
def place (y : S2x1024x384.Idx) : S1024x768.Idx :=
  ix2 (⟨(y 1).val, (y 1).isLt⟩ : Fin 1024) (⟨(y 0).val * 384 + (y 2).val, place_lt y⟩ : Fin 768)

/-- The store of the left half, at an index. -/
theorem left (T : Vec Ideal S1024x4096 .bf16) (b : Vec Ideal S4096x768 .bf16) (x : (Rect.unit (s := S2x1024x384) ![0, 0, 0] ![1, 1024, 384] inb_S2x1024x384_S1x1024x384_0_0_0).shape.Idx) :
    k0_pay5 T b x = k0_pay4 T b (place ((Rect.unit (s := S2x1024x384) ![0, 0, 0] ![1, 1024, 384] inb_S2x1024x384_S1x1024x384_0_0_0).emb x)) := by
  unfold k0_pay5
  generalize k0_pay4 T b = P
  pointwise
  have h0 : (x 0).val < 1 := (x 0).isLt
  refine congrArg P (funext fun a => Fin.ext ?_)
  match a with
  | ⟨0, _⟩ => show (x 1).val = 0 + 1 * (x 1).val; omega
  | ⟨1, _⟩ => show (x 2).val = (0 + 1 * (x 0).val) * 384 + (0 + 1 * (x 2).val); omega

/-- The store of the right half, at an index. -/
theorem right (T : Vec Ideal S1024x4096 .bf16) (b : Vec Ideal S4096x768 .bf16) (x : (Rect.unit (s := S2x1024x384) ![1, 0, 0] ![1, 1024, 384] inb_S2x1024x384_S1x1024x384_1_0_0).shape.Idx) :
    k0_pay6 T b x = k0_pay4 T b (place ((Rect.unit (s := S2x1024x384) ![1, 0, 0] ![1, 1024, 384] inb_S2x1024x384_S1x1024x384_1_0_0).emb x)) := by
  unfold k0_pay6
  generalize k0_pay4 T b = P
  pointwise
  have h0 : (x 0).val < 1 := (x 0).isLt
  refine congrArg P (funext fun a => Fin.ext ?_)
  match a with
  | ⟨0, _⟩ => show (x 1).val = 0 + 1 * (x 1).val; omega
  | ⟨1, _⟩ => show 384 + (x 2).val = (1 + 1 * (x 0).val) * 384 + (0 + 1 * (x 2).val); omega

/-- The two stores of a grid point are the left and the right half of one product. -/
theorem halves {U T : Vec Ideal S1024x4096 .bf16} (e : U = T) (b : Vec Ideal S4096x768 .bf16) :
    View.canon (Val := Elt Ideal) (e := .bf16) (s := S2x1024x384)
      [⟨Rect.unit ![1, 0, 0] ![1, 1024, 384] inb_S2x1024x384_S1x1024x384_1_0_0, k0_pay6 U b⟩,
        ⟨Rect.unit ![0, 0, 0] ![1, 1024, 384] inb_S2x1024x384_S1x1024x384_0_0_0, k0_pay5 U b⟩] = fun y => k0_pay4 T b (place y) := by
  subst e
  have cover := View.cover_of_tiledL (Val := Elt Ideal) (e := .bf16) (s := S2x1024x384)
      [⟨Rect.unit ![1, 0, 0] ![1, 1024, 384] inb_S2x1024x384_S1x1024x384_1_0_0, k0_pay6 U b⟩,
        ⟨Rect.unit ![0, 0, 0] ![1, 1024, 384] inb_S2x1024x384_S1x1024x384_0_0_0, k0_pay5 U b⟩] ![1, 1024, 384] (by sl_kernel_rfl)
  have pieces : View.PiecesOf (Val := Elt Ideal) (e := .bf16) (s := S2x1024x384) (fun y => k0_pay4 U b (place y))
      [⟨Rect.unit ![1, 0, 0] ![1, 1024, 384] inb_S2x1024x384_S1x1024x384_1_0_0, k0_pay6 U b⟩,
        ⟨Rect.unit ![0, 0, 0] ![1, 1024, 384] inb_S2x1024x384_S1x1024x384_0_0_0, k0_pay5 U b⟩] :=
    ⟨right U b, left U b, trivial⟩
  funext y
  exact View.canon_append_of_piecesOf _ [] _ pieces y (cover y)

/-- The first grid point leaves the transpose in the scratch buffer and stores its product. -/
theorem first (t : Fin cfg0.N) (h : t.val % 4 = 0) : (outsAt0 m c t.val t.isLt).2 = columns m c t
    ∧ (outsAt0 m c t.val t.isLt).1 = fun y => k0_pay4 (columns m c t) (iblk m c 1 t) (place y) := by
  have s0 : IsStrip (iblk m c 0 t) 0 (k0_pay7 (View.ld (iblk m c 0 t) (Rect.unit ![0, 0] ![512, 1024] inb_S4096x1024_S512x1024_0_0))) := by
    intro k n h; unfold k0_pay7; pointwise
  have s1 : IsStrip (iblk m c 0 t) 512 (k0_pay8 (View.ld (iblk m c 0 t) (Rect.unit ![512, 0] ![512, 1024] inb_S4096x1024_S512x1024_512_0))) := by
    intro k n h; unfold k0_pay8; pointwise
  have s2 : IsStrip (iblk m c 0 t) 1024 (k0_pay9 (View.ld (iblk m c 0 t) (Rect.unit ![1024, 0] ![512, 1024] inb_S4096x1024_S512x1024_1024_0))) := by
    intro k n h; unfold k0_pay9; pointwise
  have s3 : IsStrip (iblk m c 0 t) 1536 (k0_pay10 (View.ld (iblk m c 0 t) (Rect.unit ![1536, 0] ![512, 1024] inb_S4096x1024_S512x1024_1536_0))) := by
    intro k n h; unfold k0_pay10; pointwise
  have s4 : IsStrip (iblk m c 0 t) 2048 (k0_pay11 (View.ld (iblk m c 0 t) (Rect.unit ![2048, 0] ![512, 1024] inb_S4096x1024_S512x1024_2048_0))) := by
    intro k n h; unfold k0_pay11; pointwise
  have s5 : IsStrip (iblk m c 0 t) 2560 (k0_pay1 (k0_pay12 (View.ld (iblk m c 0 t) (Rect.unit ![2560, 0] ![512, 1024] inb_S4096x1024_S512x1024_2560_0)))) := by
    intro k n h; unfold k0_pay1 k0_pay12; pointwise
  have s6 : IsStrip (iblk m c 0 t) 3072 (k0_pay2 (View.ld (iblk m c 0 t) (Rect.unit ![3072, 0] ![512, 1024] inb_S4096x1024_S512x1024_3072_0))) := by
    intro k n h; unfold k0_pay2; pointwise
  have s7 : IsStrip (iblk m c 0 t) 3584 (k0_pay3 (View.ld (iblk m c 0 t) (Rect.unit ![3584, 0] ![512, 1024] inb_S4096x1024_S512x1024_3584_0))) := by
    intro k n h; unfold k0_pay3; pointwise
  rw [outsAt0_A m c t h]
  constructor
  · frame_out
    exact canon_strips s0 s1 s2 s3 s4 s5 s6 s7 _ _ _ _ _ _ _ _
  · frame_out
    exact halves (read_strips s0 s1 s2 s3 s4 s5 s6 s7 _ _ _ _ _ _ _ _ _ _) _

/-- A later grid point multiplies the columns that it finds. -/
theorem later (t : Fin cfg0.N) (h : ¬t.val % 4 = 0) (T : Vec Ideal S1024x4096 .bf16)
    (hT : (outsAt0 m c (t.val - 1) (Nat.lt_of_le_of_lt (Nat.sub_le _ _) t.isLt)).2 = T) : (outsAt0 m c t.val t.isLt).2 = T
    ∧ (outsAt0 m c t.val t.isLt).1 = fun y => k0_pay4 T (iblk m c 1 t) (place y) := by
  rw [outsAt0_B m c t h, hT]
  constructor
  · rfl
  · frame_out
    exact halves ((Memref.isWhole_whole cc0_scratch0).read_unread T) _

/-- The activations after the norm, as the reference's forward lines compute them. -/
abbrev act : (⟨Cert.Reference4Ideal.S4096x1024, .f32⟩ : BufTy).Contents (Elt Ideal) :=
  val_main_v13 (F := Ideal) (m ((c : Thread nD τ).loc main_arg0)) (m ((c : Thread nD τ).loc main_arg1))

/-- The kernel is launched on the activations and on the cotangent. -/
theorem entry_a : V m c main_v13 = act m c := by
  unfold_abbrev_sides
  simp only [hostOps0]
  after_reads_simp
  rfl

theorem entry_b : V m c main_v14 = m ((c : Thread nD τ).loc main_arg2) := by
  unfold_abbrev_sides
  simp only [hostOps0]
  after_reads_simp
  rfl

theorem idx : ∀ t : Fin cfg0.N, win0_0.index t = ![0, 0] ∧ win0_1.index t = ![0, t.val] ∧ win0_2.index t = ![t.val, 0, 0] :=
  (by decide +kernel : ∀ t : Fin grid0.N, _)

theorem col_lt (t : Fin cfg0.N) (k : Fin 768) : t.val * 768 + k.val < 3072 := by have h : t.val < 4 := t.isLt; omega

theorem read_a (t : Fin cfg0.N) (x : Fin 4096) (k : Fin 1024) : iblk m c 0 t (ix2 x k) = act m c (ix2 x k) := by
  have e : iblk m c 0 t (ix2 x k) = V m c main_v13 (ix2 x k) := by
    blk_ext [iblk, idx t]
  rw [e, entry_a]

theorem read_b (t : Fin cfg0.N) (x : Fin 4096) (k : Fin 768) :
    iblk m c 1 t (ix2 x k) = m ((c : Thread nD τ).loc main_arg2) (ix2 x ⟨t.val * 768 + k.val, col_lt t k⟩) := by
  have e : iblk m c 1 t (ix2 x k) = V m c main_v14 (ix2 x ⟨t.val * 768 + k.val, col_lt t k⟩) := by
    blk_ext [iblk, idx t]
  rw [e, entry_b]

/-- The transposed activations, which the scratch buffer holds from the first grid point on. -/
abbrev turned : Vec Ideal S1024x4096 .bf16 := fun y => act m c (ix2 (y 1) (y 0))

theorem columns_eq (t : Fin cfg0.N) : columns m c t = turned m c := funext fun y => read_a m c t (y 1) (y 0)

/-- What the scratch buffer holds after each grid point, and what the point stores. -/
theorem points : ∀ (n : ℕ) (hn : n < cfg0.N), (outsAt0 m c n hn).2 = turned m c
    ∧ (outsAt0 m c n hn).1 = fun y => k0_pay4 (turned m c) (iblk m c 1 ⟨n, hn⟩) (place y)
  | 0, hn => columns_eq m c ⟨0, hn⟩ ▸ first m c ⟨0, hn⟩ rfl
  | n + 1, hn => later m c ⟨n + 1, hn⟩ (by have h : n + 1 < 4 := hn; show ¬(n + 1) % 4 = 0; omega) _ (points n (Nat.lt_of_succ_lt hn)).1

/-- An element of the product at grid point `t`. -/
theorem stored (t : Fin cfg0.N) (i : S1024x768.Idx) :
    k0_pay4 (turned m c) (iblk m c 1 t) i
      = cross (act m c) (m ((c : Thread nD τ).loc main_arg2)) (i 0) ⟨t.val * 768 + (i 1).val, col_lt t (i 1)⟩ := by
  unfold k0_pay4
  pointwise
  exact Finset.sum_congr rfl fun x _ => congrArg₂ (fun p q : EReal => p * q) rfl (read_b m c t x (i 1))

theorem owner_lt (i : Cert.Reference4Ideal.S8x1024x384.Idx) : (i 0).val * 384 + (i 2).val < 3072 := by
  have h0 : (i 0).val < 8 := (i 0).isLt
  have h2 : (i 2).val < 384 := (i 2).isLt
  omega

/-- The reference's gradient at an index. -/
theorem reference_at (x : (⟨Cert.Reference4Ideal.S4096x1024, .f32⟩ : BufTy).Contents (Elt Ideal)) (g : (⟨Cert.Reference4Ideal.S1024, .f32⟩ : BufTy).Contents (Elt Ideal))
    (d : (⟨Cert.Reference4Ideal.S4096x3072, .f32⟩ : BufTy).Contents (Elt Ideal)) (i : Cert.Reference4Ideal.S8x1024x384.Idx) :
    Cert.Reference4Ideal.Read.val_main_v19 (F := Ideal) x g d i = cross (val_main_v13 (F := Ideal) x g) d (i 1) ⟨(i 0).val * 384 + (i 2).val, owner_lt i⟩ := by
  rw [Cert.Reference4Ideal.Read.val_main_v19_apply, Cert.Reference4Ideal.Read.val_main_v18_apply, Cert.Reference4Ideal.Read.val_main_v17_apply,
    Cert.Reference4Ideal.Read.val_main_v16_apply, Cert.Reference4Ideal.Read.val_main_v15_apply]
  have h0 : (i 0).val < 8 := (i 0).isLt
  have h2 : (i 2).val < 384 := (i 2).isLt
  refine Finset.sum_congr rfl fun x _ => ?_
  rw [mul_comm]
  refine congrArg₂ (fun p q : EReal => p * q) (congrArg _ (funext fun a => Fin.ext ?_)) (congrArg d (funext fun a => Fin.ext ?_))
  · match a with
    | ⟨0, _⟩ => rfl
    | ⟨1, _⟩ => show (((i 1).val * 8 + (i 0).val) * 384 + (i 2).val) / 3072 = (i 1).val; omega
  · match a with
    | ⟨0, _⟩ => rfl
    | ⟨1, _⟩ => show (((i 1).val * 8 + (i 0).val) * 384 + (i 2).val) % 3072 = (i 0).val * 384 + (i 2).val; omega

theorem block_lt (t : Fin cfg0.N) (y : S2x1024x384.Idx) : t.val * 2 + (y 0).val < 8 := by
  have h : t.val < 4 := t.isLt
  have h0 : (y 0).val < 2 := (y 0).isLt
  omega

/-- The result array is the reference's gradient. -/
theorem final : (dats m 0 c).arrAt 2 cfg0.N = Cert.Reference4Ideal.Read.val_main_v19 (F := Ideal) (m ((c : Thread nD τ).loc main_arg0))
    (m ((c : Thread nD τ).loc main_arg1)) (m ((c : Thread nD τ).loc main_arg2)) := by
  refine (dats m 0 c).arrAt_eq_of_covers 2 _ (by decide +kernel) fun t hf y => ?_
  blk_simp
  rw [after0_2, (points m c t.val t.isLt).2]
  have e : (win0_2.blk t).view.emb y = ix3 ⟨t.val * 2 + (y 0).val, block_lt t y⟩ (y 1) (y 2) := by blk_ext [idx t]
  refine Eq.trans ?_ (reference_at _ _ _ _).symm
  rw [e]
  refine (stored m c t (place y)).trans (congrArg₂ (cross _ _) rfl (Fin.ext ?_))
  show t.val * 768 + ((y 0).val * 384 + (y 2).val) = (t.val * 2 + (y 0).val) * 384 + (y 2).val
  omega

/-- The reference ends with its arguments unchanged; it has no semaphore. -/
theorem reference_frame : Cert.quiescent_Reference4Ideal := fun m g _ =>
  (θ_run Cert.Reference4Ideal.defs _ _).mono (fun _ h => ⟨fun c => (h c).2, funext fun s => nomatch s⟩) (Cert.Reference4Ideal.Value.run m g)

/-- Kernel and reference end with equal results on equal arguments. -/
theorem algebraic : Cert.algebraic_Kernel4Ideal_Reference4Ideal := by
  pair_intro
  · run_from Cert.Kernel4Ideal.Value.run_blocks m g
  · refine (θ_run Cert.Reference4Ideal.defs _ _).mono (fun r h c => ?_) (Cert.Reference4Ideal.Value.run (F := Ideal) m' g')
    obtain ⟨a0, a1, a2⟩ := hagree c
    obtain ⟨h0, hargs⟩ := h c
    refine ⟨?_, hargs⟩
    rw [final m c, ← a0, ← a1, ← a2]
    exact h0.trans (Cert.Reference4Ideal.Read.val_main_v19_eq _ _ _)

end Cert.GradW.In

end
-- ==== Proof.GradW.Out.lean ====
/- The gradient of the output projection's weights: the kernel's one grid point stores the product of the transposed
   activations and the cotangent, which is the reference's gradient; the claims. -/
module

public import proofs.«01_k».proof.Defs
public import proofs.«01_k».proof.Proof.Gen.Kernel5Ideal.Value
public import proofs.«01_k».proof.Proof.Gen.Reference5Ideal.Read
public import proofs.«01_k».proof.Proof.GradW.Columns
public import Idealize.ShloMosaic.Lib.Pipeline.ValueKit
public import proofs.«01_k».proof.Proof.Gen.Reference5Ideal.Run
public import Idealize.ShloMosaic.Lib.Claim
public import Idealize.ShloMosaic.Lib.Pointwise

@[expose] public section

set_option maxRecDepth 16384

noncomputable section

namespace Cert.GradW.Out

open Idealize.ShloMosaic Idealize.ShloMosaic.StableHlo Idealize.ShloMosaic.TcCoe Idealize.SL.Sem Cert.Kernel5Ideal Cert.Kernel5Ideal.Gen
open Idealize.ShloMosaic.Pipeline (Dat)

variable (m : (ℓ : Loc nD τ sig) → Buf (Elt Ideal) ℓ)

/-- What the one grid point stores: the product of the transposed first block and the second. -/
theorem out_at (c : Dev nD) (t : Fin cfg0.N) : outsAt0 m c t = k0_pay4 (fun y => iblk m c 0 t (ix2 (y 1) (y 0))) (iblk m c 1 t) := by
  unfold outsAt0
  frame_out
  rw [read_strips (X := iblk m c 0 t)]
  · rfl
  all_goals intro k n h
  · unfold k0_pay5; pointwise
  · unfold k0_pay6; pointwise
  · unfold k0_pay7; pointwise
  · unfold k0_pay8; pointwise
  · unfold k0_pay9; pointwise
  · unfold k0_pay1 k0_pay10; pointwise
  · unfold k0_pay2; pointwise
  · unfold k0_pay3; pointwise

theorem idx : ∀ t : Fin cfg0.N, win0_0.index t = ![0, 0] ∧ win0_1.index t = ![0, 0] ∧ win0_2.index t = ![0, 0] :=
  (by decide +kernel : ∀ t : Fin grid0.N, _)

theorem read_a (c : Dev nD) (t : Fin cfg0.N) (x : Fin 4096) (k : Fin 1024) :
    iblk m c 0 t (ix2 x k) = m ((c : Thread nD τ).loc main_arg0) (ix2 x k) := by
  blk_ext [iblk, V, idx t]

theorem read_b (c : Dev nD) (t : Fin cfg0.N) (x : Fin 4096) (k : Fin 1024) :
    iblk m c 1 t (ix2 x k) = m ((c : Thread nD τ).loc main_arg1) (ix2 x k) := by
  blk_ext [iblk, V, idx t]

/-- The stored product at an index, from the kernel's arguments. -/
theorem stored (c : Dev nD) (t : Fin cfg0.N) (y : S1024x1024.Idx) :
    k0_pay4 (fun y => iblk m c 0 t (ix2 (y 1) (y 0))) (iblk m c 1 t) y
      = cross (m ((c : Thread nD τ).loc main_arg0)) (m ((c : Thread nD τ).loc main_arg1)) (y 0) (y 1) := by
  unfold k0_pay4
  pointwise
  exact Finset.sum_congr rfl fun x _ => congrArg₂ (fun p q : EReal => p * q) (read_a m c t x (y 0)) (read_b m c t x (y 1))

/-- The reference's gradient at an index. -/
theorem reference_at (a b : (⟨Cert.Reference5Ideal.S4096x1024, .f32⟩ : BufTy).Contents (Elt Ideal)) (i : Cert.Reference5Ideal.S1024x1024.Idx) :
    Cert.Reference5Ideal.Read.val_main_v4 (F := Ideal) a b i = cross a b (i 0) (i 1) := by
  rw [Cert.Reference5Ideal.Read.val_main_v4_apply, Cert.Reference5Ideal.Read.val_main_v3_apply, Cert.Reference5Ideal.Read.val_main_v2_apply]
  refine Finset.sum_congr rfl fun x _ => ?_
  rw [mul_comm]
  congr 2 <;> (funext q; fin_cases q <;> rfl)

/-- The result array is the reference's gradient. -/
theorem final (c : Dev nD) :
    (dats m 0 c).arrAt 2 cfg0.N = Cert.Reference5Ideal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_at]
  have e : (win0_2.blk t).view.emb y = y := by blk_ext [idx t]
  refine Eq.trans ?_ (reference_at _ _ _).symm
  rw [e]
  exact stored m c t y

/-- The reference ends with its arguments unchanged; it has no semaphore. -/
theorem reference_frame : Cert.quiescent_Reference5Ideal := fun m g _ =>
  (θ_run Cert.Reference5Ideal.defs _ _).mono (fun _ h => ⟨fun c => (h c).2, funext fun s => nomatch s⟩) (Cert.Reference5Ideal.Value.run m g)

/-- Kernel and reference end with equal results on equal arguments. -/
theorem algebraic : Cert.algebraic_Kernel5Ideal_Reference5Ideal := by
  pair_intro
  · run_from Cert.Kernel5Ideal.Value.run_blocks m g
  · refine (θ_run Cert.Reference5Ideal.defs _ _).mono (fun r h c => ?_) (Cert.Reference5Ideal.Value.run (F := Ideal) m' g')
    obtain ⟨a0, a1⟩ := hagree c
    obtain ⟨h0, hargs⟩ := h c
    refine ⟨?_, hargs⟩
    rw [final m c, ← a0, ← a1]
    exact h0.trans (Cert.Reference5Ideal.Read.val_main_v4_eq _ _)

end Cert.GradW.Out

end
-- ==== Proof.Ffn.Run.lean ====
/- What one grid point of the channel mixer's forward pass does to its windows: the body at any point, the normalised rows and the
   sum over the hidden channels kept in windows 7 and 6 from the row tile's first point to its last. -/
module

public import proofs.«01_k».proof.Defs
public import proofs.«01_k».proof.Proof.Gen.Kernel6Ideal.Skeleton
public import proofs.«01_k».proof.Proof.Gen.Kernel6Ideal.Frame
public import Idealize.ShloMosaic.Lib.VecWindow
public import Idealize.ShloMosaic.Lib.Pipeline.TableIdle

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-- The point is the first of its row tile. -/
abbrev First (i : grid0.Coords) : Prop := k0_cond1 i = 1#1

/-- The point is the last of its row tile. -/
abbrev Last (i : grid0.Coords) : Prop := k0_cond4 i = 1#1

open Classical in
/-- The normalised rows after a point. -/
def rows (i : grid0.Coords) (x0 : Vec F S1024x1024 .f32) (x1 : Vec F S1x1024 .f32) (y7 : Vec F S1024x1024 .bf16) : Vec F S1024x1024 .bf16 :=
  if First i then k0_pay1 x0 x1 else y7

open Classical in
/-- The sum over the hidden channels after a point, from the normalised rows. -/
def total (i : grid0.Coords) (h : Vec F S1024x1024 .bf16) (x2 x3 : Vec F S1024x1024 .bf16) (y6 : Vec F S1024x1024 .f32) : Vec F S1024x1024 .f32 :=
  if First i then k0_pay4 h x2 x3 else k0_pay5 h x2 x3 y6

open Classical in
/-- The sub-layer's result after a point, from the sum. -/
def result (i : grid0.Coords) (x0 : Vec F S1024x1024 .f32) (x4 : Vec F S1x1024 .f32) (y : Vec F S1024x1024 .f32) (y5 : Vec F S1024x1024 .f32) : Vec F S1024x1024 .f32 :=
  if Last i then k0_pay6 x0 y x4 else y5

set_option maxHeartbeats 4000000 in
/-- The body at any point, on whole staging buffers: the inputs end as they were, the outputs at `rows`, `total`, `result` and the
    squared relu of this step's hidden channels. -/
theorem run     (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S1024x1024 .bf16)
    (harg4 : arg4.IsWhole) (arg5 : Memref sig .tc .vmem S1024x1024 .bf16) (harg5 : arg5.IsWhole)
    (arg6 : Memref sig .tc .vmem S1x1024 .f32) (harg6 : arg6.IsWhole) (arg7 : Memref sig .tc .vmem S1024x1024 .f32)
    (harg7 : arg7.IsWhole) (arg8 : Memref sig .tc .vmem S1024x1024 .f32) (harg8 : arg8.IsWhole)
    (arg9 : Memref sig .tc .vmem S1024x1024 .bf16) (harg9 : arg9.IsWhole) (arg10 : Memref sig .tc .vmem S1x1024x1024 .bf16)
    (harg10 : arg10.IsWhole)
    (hc1 : k0_cond2 i = 1#1 ↔ First i) (hc2 : k0_cond3 i = 1#1 ↔ ¬First i)
    (x0 : Vec F S1024x1024 .f32) (x1 : Vec F S1x1024 .f32) (x2 : Vec F S1024x1024 .bf16) (x3 : Vec F S1024x1024 .bf16) (x4 : Vec F S1x1024 .f32)
    (y5 y6 : Vec F S1024x1024 .f32) (y7 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (result i x0 x4 (total i (rows i x0 x1 y7) x2 x3 y6) y5) ∗ owns (c : Thread nD τ) arg8 fullShare (total i (rows i x0 x1 y7) x2 x3 y6) ∗ owns (c : Thread nD τ) arg9 fullShare (rows i x0 x1 y7) ∗ owns (c : Thread nD τ) arg10 fullShare (k0_pay3 (rows i x0 x1 y7) x2)) -∗ K ⟨⟩))
      ⊢ wp frame (wpE (defs₀ (F := F)) Variants.none c none) E
          (cc0_ffn_fwd_0 i arg2 harg2 arg3 harg3 arg4 harg4 arg5 harg5 arg6 harg6 arg7 harg7 arg8 harg8 arg9 harg9 arg10 harg10) K := by
  simp only [cc0_ffn_fwd_0_eq_skeleton]; unfold cc0_ffn_fwd_0_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  by_cases h0 : First i <;> by_cases h3 : Last i
  all_goals
    first
      | have h1 : k0_cond2 i = 1#1 := hc1.mpr h0
        have h2 : ¬k0_cond3 i = 1#1 := fun h => hc2.mp h h0
      | have h1 : ¬k0_cond2 i = 1#1 := fun h => h0 (hc1.mp h)
        have h2 : k0_cond3 i = 1#1 := hc2.mpr h0
    sl_exec (disch := first | sl_exact h0 | sl_exact h1 | sl_exact h2 | sl_exact h3)
  all_goals
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      try delta run.sl.v28
      try delta run.sl.v28_1
      try delta run.sl.H6_1
      try delta run.sl.H6_1_1
      try delta run.sl.v3
      try delta run.sl.v3_1
      try delta run.sl.H7_1
      try delta run.sl.H7_1_1
      try rw [View.read_writes_full]
      repeat rw [View.readCov_full]
      repeat rw [View.readAt_full]
      simp only [result, total, rows, hf0, hf1, hf2, hf3, hf4, hf5, hf6, hf7]
      repeat first | rw [if_pos h0] | rw [if_neg h0] | rw [if_pos h3] | rw [if_neg h3]
    isplitl [H6]
    · iexists _; isplitr; swap; · iexact H6
      ipureintro
      try delta run.sl.v28
      try delta run.sl.v28_1
      try delta run.sl.H6_1
      try delta run.sl.H6_1_1
      try delta run.sl.v3
      try delta run.sl.v3_1
      try delta run.sl.H7_1
      try delta run.sl.H7_1_1
      try rw [View.read_writes_full]
      repeat rw [View.readCov_full]
      repeat rw [View.readAt_full]
      simp only [result, total, rows, hf0, hf1, hf2, hf3, hf4, hf5, hf6, hf7]
      repeat first | rw [if_pos h0] | rw [if_neg h0] | rw [if_pos h3] | rw [if_neg h3]
    isplitl [H7]
    · iexists _; isplitr; swap; · iexact H7
      ipureintro
      try delta run.sl.v28
      try delta run.sl.v28_1
      try delta run.sl.H6_1
      try delta run.sl.H6_1_1
      try delta run.sl.v3
      try delta run.sl.v3_1
      try delta run.sl.H7_1
      try delta run.sl.H7_1_1
      try rw [View.read_writes_full]
      repeat rw [View.readCov_full]
      repeat rw [View.readAt_full]
      simp only [result, total, rows, hf0, hf1, hf2, hf3, hf4, hf5, hf6, hf7]
      repeat first | rw [if_pos h0] | rw [if_neg h0] | rw [if_pos h3] | rw [if_neg h3]
    iexists _; isplitr; swap; · iexact H8
    ipureintro
    try delta run.sl.v28
    try delta run.sl.v28_1
    try delta run.sl.H6_1
    try delta run.sl.H6_1_1
    try delta run.sl.v3
    try delta run.sl.v3_1
    try delta run.sl.H7_1
    try delta run.sl.H7_1_1
    try rw [View.read_writes_full]
    repeat rw [View.readCov_full]
    repeat rw [View.readAt_full]
    simp only [result, total, rows, hf0, hf1, hf2, hf3, hf4, hf5, hf6, hf7]
    repeat first | rw [if_pos h0] | rw [if_neg h0] | rw [if_pos h3] | rw [if_neg h3]

end Cert.Ffn

end
-- ==== Proof.Ffn.Frame.lean ====
/- The run of the channel mixer's forward pass (custom_call 0 of Kernel6Ideal): what each point leaves in the windows, the body at
   every grid point, the run, and from it both frames, at any float values. -/
module

public import proofs.«01_k».proof.Proof.Ffn.Run
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at the grid's points -/

/-- Point `t` is the first of its row tile when it is ≡ 0 (mod 4), -/
theorem first_iff : ∀ t : Fin cfg0.N, First (grid0.coords t) ↔ t.val % 4 = 0 :=
  (by decide +kernel : ∀ t : Fin grid0.N, First (grid0.coords t) ↔ t.val % 4 = 0)
/-- and the last when it is ≡ 3. -/
theorem last_iff : ∀ t : Fin cfg0.N, Last (grid0.coords t) ↔ t.val % 4 = 3 :=
  (by decide +kernel : ∀ t : Fin grid0.N, Last (grid0.coords t) ↔ t.val % 4 = 3)
theorem cond2_iff : ∀ t : Fin cfg0.N, k0_cond2 (grid0.coords t) = 1#1 ↔ First (grid0.coords t) :=
  (by decide +kernel : ∀ t : Fin grid0.N, k0_cond2 (grid0.coords t) = 1#1 ↔ First (grid0.coords t))
theorem cond3_iff : ∀ t : Fin cfg0.N, k0_cond3 (grid0.coords t) = 1#1 ↔ ¬First (grid0.coords t) :=
  (by decide +kernel : ∀ t : Fin grid0.N, k0_cond3 (grid0.coords t) = 1#1 ↔ ¬First (grid0.coords t))

/-- The sub-layer's result is stored at a row tile's last point only, -/
theorem idle_5 : ∀ t : Fin cfg0.N, cfg0.idle 5 (grid0.coords t) = !decide (t.val % 4 = 3) :=
  (by decide +kernel : ∀ t : Fin grid0.N, idle0 5 (grid0.coords t) = !decide (t.val % 4 = 3))
/-- the sum over the hidden channels at every point, -/
theorem idle_6 : ∀ t : Fin cfg0.N, cfg0.idle 6 (grid0.coords t) = false :=
  (by decide +kernel : ∀ t : Fin grid0.N, idle0 6 (grid0.coords t) = false)
/-- the normalised rows at the first point only, -/
theorem idle_7 : ∀ t : Fin cfg0.N, cfg0.idle 7 (grid0.coords t) = !decide (t.val % 4 = 0) :=
  (by decide +kernel : ∀ t : Fin grid0.N, idle0 7 (grid0.coords t) = !decide (t.val % 4 = 0))
/-- the hidden channels at every point. -/
theorem idle_8 : ∀ t : Fin cfg0.N, cfg0.idle 8 (grid0.coords t) = false :=
  (by decide +kernel : ∀ t : Fin grid0.N, idle0 8 (grid0.coords t) = false)

/-! ## What each point leaves -/

/-- The normalised rows after point `n`. -/
def held (c : Dev nD) : (n : ℕ) → n < cfg0.N → Vec F S1024x1024 .bf16
  | 0, h => k0_pay1 (iblk m c 0 ⟨0, h⟩) (iblk m c 1 ⟨0, h⟩)
  | n + 1, h => rows (grid0.coords ⟨n + 1, h⟩) (iblk m c 0 ⟨n + 1, h⟩) (iblk m c 1 ⟨n + 1, h⟩) (held c n (by omega))

/-- The sum over the hidden channels after point `n`. -/
def summed (c : Dev nD) : (n : ℕ) → n < cfg0.N → Vec F S1024x1024 .f32
  | 0, h => k0_pay4 (held m c 0 h) (iblk m c 2 ⟨0, h⟩) (iblk m c 3 ⟨0, h⟩)
  | n + 1, h => total (grid0.coords ⟨n + 1, h⟩) (held m c (n + 1) h) (iblk m c 2 ⟨n + 1, h⟩) (iblk m c 3 ⟨n + 1, h⟩) (summed c n (by omega))

theorem held_first (c : Dev nD) (t : Fin cfg0.N) (h : t.val % 4 = 0) : held m c t.val t.isLt = k0_pay1 (iblk m c 0 t) (iblk m c 1 t) := by
  obtain ⟨n, hn⟩ := t
  cases n with
  | zero => rfl
  | succ n => exact if_pos ((first_iff ⟨n + 1, hn⟩).mpr h)

theorem held_next (c : Dev nD) (t : Fin cfg0.N) (h : ¬t.val % 4 = 0) :
    held m c t.val t.isLt = held m c (t.val - 1) (Nat.lt_of_le_of_lt (Nat.sub_le _ _) t.isLt) := by
  obtain ⟨n, hn⟩ := t
  cases n with
  | zero => exact absurd (Nat.zero_mod _) h
  | succ n => exact if_neg fun h' => h ((first_iff ⟨n + 1, hn⟩).mp h')

theorem summed_first (c : Dev nD) (t : Fin cfg0.N) (h : t.val % 4 = 0) :
    summed m c t.val t.isLt = k0_pay4 (held m c t.val t.isLt) (iblk m c 2 t) (iblk m c 3 t) := by
  obtain ⟨n, hn⟩ := t
  cases n with
  | zero => rfl
  | succ n => exact if_pos ((first_iff ⟨n + 1, hn⟩).mpr h)

theorem summed_next (c : Dev nD) (t : Fin cfg0.N) (h : ¬t.val % 4 = 0) :
    summed m c t.val t.isLt = k0_pay5 (held m c t.val t.isLt) (iblk m c 2 t) (iblk m c 3 t)
      (summed m c (t.val - 1) (Nat.lt_of_le_of_lt (Nat.sub_le _ _) t.isLt)) := by
  obtain ⟨n, hn⟩ := t
  cases n with
  | zero => exact absurd (Nat.zero_mod _) h
  | succ n => exact if_neg fun h' => h ((first_iff ⟨n + 1, hn⟩).mp h')

/-- The proof data: the arrays as the region finds them; after each point the inputs at their blocks, the outputs at `held`,
    `summed`, the result from them and the squared relu of the point's hidden channels. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay6 (iblk m c 0 t) (summed m c t.val t.isLt) (iblk m c 4 t)
    | ⟨6, _⟩ => summed m c t.val t.isLt
    | ⟨7, _⟩ => held m c t.val t.isLt
    | ⟨8, _⟩ => k0_pay3 (held m c t.val t.isLt) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = k0_pay6 (iblk m c 0 t) (summed m c t.val t.isLt) (iblk m c 4 t) := by dsimp only [dats]
theorem after_6 (c : Dev nD) (t : Fin cfg0.N) : (dats m 0 c).after 6 t = summed m c t.val t.isLt := by dsimp only [dats]
theorem after_7 (c : Dev nD) (t : Fin cfg0.N) : (dats m 0 c).after 7 t = held m c t.val t.isLt := by dsimp only [dats]
theorem after_8 (c : Dev nD) (t : Fin cfg0.N) : (dats m 0 c).after 8 t = k0_pay3 (held m c t.val t.isLt) (iblk m c 2 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Windows 6 and 7 hold a row tile's values from its first point on: their buffers are fresh at the first point only. -/
theorem fresh_6 (n : ℕ) (h : n ≤ cfg0.N) : cfg0.fresh 6 n = decide (n % 4 = 0) :=
  Pipeline.Cfg.fresh_tab cfg0 6 (fun n => decide (n % 4 = 0)) (by decide) (fun t => by
    rw [idle_6]
    have := flush0_6 t
    cases hf : (cfg0.win 6).flush t
    · rw [hf] at this; simp only [Bool.false_eq_true, false_iff] at this
      simp only [Bool.false_and, Bool.or_false, decide_eq_false_iff_not]; omega
    · have := this.mp hf
      simp only [Bool.true_or, decide_eq_true_eq]; omega) n h

theorem fresh_7 (n : ℕ) (h : n ≤ cfg0.N) : cfg0.fresh 7 n = decide (n % 4 = 0) :=
  Pipeline.Cfg.fresh_tab cfg0 7 (fun n => decide (n % 4 = 0)) (by decide) (fun t => by
    rw [idle_7]
    have := flush0_7 t
    cases hf : (cfg0.win 7).flush t
    · rw [hf] at this; simp only [Bool.false_eq_true, false_iff] at this
      rw [Bool.not_and_self]; simp only [Bool.or_false, decide_eq_false_iff_not]; omega
    · have := this.mp hf
      simp only [Bool.true_or, decide_eq_true_eq]; omega) n h

theorem before_6 (c : Dev nD) (t : Fin cfg0.N) (h : ¬t.val % 4 = 0) (d) :
    (dats m 0 c).before 6 t d = summed m c (t.val - 1) (Nat.lt_of_le_of_lt (Nat.sub_le _ _) t.isLt) := by
  rw [Dat.before_out_traj _ 6 rfl (fun _ _ => rfl) (fun t _ hi _ => by rw [idle_6 t] at hi; exact absurd hi Bool.false_ne_true) t.val t rfl d,
    if_neg (by rw [fresh_6 t.val (Nat.le_of_lt t.isLt)]; simpa using h), after_6]

theorem before_7 (c : Dev nD) (t : Fin cfg0.N) (h : ¬t.val % 4 = 0) (d) :
    (dats m 0 c).before 7 t d = held m c (t.val - 1) (Nat.lt_of_le_of_lt (Nat.sub_le _ _) t.isLt) := by
  rw [Dat.before_out_traj _ 7 rfl (fun _ _ => rfl) (fun t _ hi _ => by
      rw [idle_7 t] at hi; rw [after_7, after_7]; exact held_next m c t (by simpa using hi)) t.val t rfl d,
    if_neg (by rw [fresh_7 t.val (Nat.le_of_lt t.isLt)]; simpa using h), after_7]

/-- The body's normalised rows are `held`, -/
theorem rows_eq (c : Dev nD) (t : Fin cfg0.N) (d) :
    rows (grid0.coords t) (iblk m c 0 t) (iblk m c 1 t) ((dats m 0 c).before 7 t d) = held m c t.val t.isLt := by
  by_cases h : t.val % 4 = 0
  · rw [held_first m c t h]; exact if_pos ((first_iff t).mpr h)
  · rw [held_next m c t h, before_7 m c t h]; exact if_neg fun h' => h ((first_iff t).mp h')

/-- and its sums `summed`. -/
theorem total_eq (c : Dev nD) (t : Fin cfg0.N) (d) :
    total (grid0.coords t) (held m c t.val t.isLt) (iblk m c 2 t) (iblk m c 3 t) ((dats m 0 c).before 6 t d) = summed m c t.val t.isLt := by
  by_cases h : t.val % 4 = 0
  · rw [summed_first m c t h]; exact if_pos ((first_iff t).mpr h)
  · rw [summed_next m c t h, before_6 m c t h]; exact if_neg fun h' => h ((first_iff t).mp h')

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

/-- An output at its named contents is what a live point, or a point that is written back, leaves. -/
theorem leaves_live (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases hi : cfg0.idle w (cfg0.grid.coords t)
    · rfl
    · rw [h]

/-- The result's window after a point, -/
theorem leaves_5 (c : Dev nD) (t : Fin cfg0.N) (d) :
    owns (c : Thread nD τ) (win0_5.stage (cfg0.slots t 5)) fullShare (result (grid0.coords t) (iblk m c 0 t) (iblk m c 4 t) (summed m c t.val t.isLt) ((dats m 0 c).before 5 t d))
      ⊢ ((dats m 0 c).leavesExact 5 t : sProp 𝕄) := by
  by_cases h : t.val % 4 = 3
  · rw [leaves_live m c 5 t (.inl (by rw [idle_5 t]; simpa using h)), after_5,
      show result (grid0.coords t) (iblk m c 0 t) (iblk m c 4 t) (summed m c t.val t.isLt) ((dats m 0 c).before 5 t d)
        = k0_pay6 (iblk m c 0 t) (summed m c t.val t.isLt) (iblk m c 4 t) from if_pos ((last_iff t).mpr h)]
  · rw [Dat.leavesExact_idle (dats m 0 c) 5 t (by rw [idle_5 t]; simpa using h) (Bool.eq_false_iff.mpr fun h' => h ((flush0_5 t).mp h')),
      show result (grid0.coords t) (iblk m c 0 t) (iblk m c 4 t) (summed m c t.val t.isLt) ((dats m 0 c).before 5 t d)
        = (dats m 0 c).before 5 t d from if_neg fun h' => h ((last_iff t).mp h')]
    iintro H; iexists _; iexact H

/-- and the normalised rows'. -/
theorem leaves_7 (c : Dev nD) (t : Fin cfg0.N) (d : (cfg0.win 7).block.Idx → Elt F (cfg0.win 7).elt) :
    owns (c : Thread nD τ) (win0_7.stage (cfg0.slots t 7)) fullShare (held m c t.val t.isLt) ⊢ ((dats m 0 c).leavesExact 7 t : sProp 𝕄) := by
  by_cases h : t.val % 4 = 0
  · rw [leaves_live m c 7 t (.inl (by rw [idle_7 t]; simpa using h)), after_7]
  · by_cases h3 : t.val % 4 = 3
    · rw [leaves_live m c 7 t (.inr ((flush0_7 t).mpr h3)), after_7]
    · rw [Dat.leavesExact_idle (dats m 0 c) 7 t (by rw [idle_7 t]; simpa using h) (Bool.eq_false_iff.mpr fun h' => h3 ((flush0_7 t).mp h')),
        held_next m c t h]
      iintro H; iexists d; rw [before_7 m c t h d]; iexact H

set_option maxHeartbeats 4000000 in
/-- The body at any point: the inputs hold their blocks, windows 6 and 7 what the point before left, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = (dats m 0 c).Φ t.castSucc from rfl]
  rw [leaves_live m c 6 t (.inl (idle_6 t)), leaves_live m c 8 t (.inl (idle_8 t)), after_6, after_8]
  iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
  iapply (run c (grid0.coords t) _ _ _ _ _ _ _ _ _ _ _ _ _ _ _ _ _ _ (cond2_iff t) (cond3_iff t)
    (iblk m c 0 t) (iblk m c 1 t) (iblk m c 2 t) (iblk m c 3 t) (iblk m c 4 t)
    ((dats m 0 c).before 5 t e5) ((dats m 0 c).before 6 t e6) ((dats m 0 c).before 7 t e7))
  rw [rows_eq, total_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (leaves_5 m c t e5); iexact H5
  isplitl [H6]; · iexact H6
  isplitl [H7]; · iapply (leaves_7 m c t e7); iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Ffn

end
-- ==== Proof.Ffn.Frames.lean ====
module

public import proofs.«01_k».proof.Defs
public import proofs.«01_k».proof.Proof.Gen.Kernel6
public import proofs.«01_k».proof.Proof.Gen.Kernel6Ideal
public import proofs.«01_k».proof.Proof.Ffn.Frame

/-!
# The frame claims of the channel mixer's forward pass

The program and its ideal have the same text. Their bodies and their pipelines are equal, so the one
run of `Proof.Ffn.Frame`, which holds over any float values, gives both frames.
-/

set_option maxRecDepth 100000

public section

open Idealize Idealize.ShloMosaic

namespace Cert.Ffn

/-- The two programs' kernel bodies are the same. -/
theorem bodies_eq : Kernel6.defs₀ (F := Bits) = Kernel6Ideal.defs₀ (F := Bits) := by
  unfold Kernel6.defs₀ Kernel6Ideal.defs₀
  congr 1
  funext l a
  match l, a with
  | 0, (t, s) => rfl

/-- The two programs' pipelines are the same. -/
theorem defs_eq : Kernel6.defs (F := Bits) = Kernel6Ideal.defs (F := Bits) := by
  unfold Kernel6.defs Kernel6Ideal.defs
  exact congrArg _ bodies_eq

/-- The ideal program leaves its arguments as they are and no semaphore raised. -/
theorem frame_ideal : Cert.quiescent_Kernel6Ideal := fun m ρ _ => frame m ρ

/-- The program leaves its arguments as they are and no semaphore raised. -/
theorem frame_kernel : Cert.quiescent_Kernel6 := fun m ρ _ => by
  rw [defs_eq]
  exact frame (F := Bits) m ρ

end Cert.Ffn

end
-- ==== Proof.Ffn.Tile.lean ====
/- One tile of the channel mixer's forward pass: what the kernel's values on blocks are in terms of the arrays that the reference
   computes over the extended reals. -/
module

public import proofs.«01_k».proof.Proof.Gen.Kernel6Ideal.Skeleton
public import proofs.«01_k».proof.Proof.Gen.Reference6Ideal.Read
public import Idealize.ShloMosaic.Lib.Pipeline.ValueKit
public import Idealize.ShloMosaic.Lib.Pointwise

@[expose] public section

set_option maxRecDepth 16384

noncomputable section

namespace Cert.Ffn

open Idealize.ShloMosaic Cert.Kernel6Ideal Cert.Kernel6Ideal.Gen
open Cert.Reference6Ideal.Read

/-- Entry `p` of block `i` of 1024. -/
abbrev at_ (i : Fin 4) (p : Fin 1024) : Fin 4096 := ⟨i.val * 1024 + p.val, by omega⟩

variable (x : (⟨S4096x1024, .f32⟩ : BufTy).Contents (Elt Ideal)) (g g' : (⟨S1x1024, .f32⟩ : BufTy).Contents (Elt Ideal))
  (w1 : (⟨S1024x4096, .f32⟩ : BufTy).Contents (Elt Ideal)) (w2 : (⟨S4096x1024, .f32⟩ : BufTy).Contents (Elt Ideal))
  (i j : Fin 4)

/-- The block holds rows of the array. -/
def IsRows (a : (⟨S4096x1024, .f32⟩ : BufTy).Contents (Elt Ideal)) (b : Vec Ideal S1024x1024 .f32) : Prop :=
  ∀ p q : Fin 1024, b (ix2 p q) = a (ix2 (at_ i p) q)

/-- A row divided by its root mean square and multiplied by the gain. -/
def normed (b : Fin 1024 → EReal) (q : Fin 1024) (g : EReal) : EReal :=
  b q * Ideal.rsqrt (Ideal.div (∑ k, b k * b k) (Ideal.ofBits .f32 0x44800000#32) + Ideal.ofBits .f32 0x358637BD#32) * g

/-- The reference's normalised rows, -/
theorem reference_rows (r : Fin 4096) (q : Fin 1024) :
    val_main_v13 (F := Ideal) x g (ix2 r q) = normed (fun k => x (ix2 r k)) q (g (ix2 0 q)) := by
  rw [val_main_v13_apply, val_main_v10_apply, val_main_v9_apply, val_main_v8_apply, val_main_v7_apply, val_main_v5_apply, val_main_v3_apply,
    val_main_v2_apply, val_main_v12_apply, val_main_v11_apply, val_main_v0_apply, val_main_v4_apply, val_main_v6_apply]
  rw [val_main_cst_apply, val_main_cst_0_apply, val_main_cst_1_apply]
  simp only [val_main_v1_apply, Ideal.mulf_def, Ideal.addf_def, Ideal.hostDivf_def, Ideal.hostUnary_rsqrt_def, Ideal.ofBits_def, Ideal.ofBits_zero_f32, zero_add]
  have e1 : idx_main_v0 (idx_main_v11 (idx_main_v12 (ix2 r q))) = ix2 0 q := by
    funext a; fin_cases a
    · rfl
    · exact Fin.ext (Nat.mod_eq_of_lt q.isLt)
  have e2 : ∀ k, idx_main_v2 (idx_main_v3 (idx_main_v9 (ix2 r q))) k = ix2 r k := fun k => by funext a; fin_cases a <;> rfl
  rw [e1]
  simp only [e2]
  rfl

/-- The normalised rows. -/
theorem rows_at (b : Vec Ideal S1024x1024 .f32) (hb : IsRows i x b) (p q : Fin 1024) :
    k0_pay1 b g (ix2 p q) = val_main_v13 (F := Ideal) x g (ix2 (at_ i p) q) := by
  rw [reference_rows, ← funext (hb p)]
  unfold k0_pay1
  pointwise
  rfl

/-- The reference's hidden channels, -/
theorem reference_hidden (r s : Fin 4096) :
    val_main_v16 (F := Ideal) x g w1 (ix2 r s)
      = (max (∑ k : Fin 1024, (val_main_v13 (F := Ideal) x g (ix2 r k) : EReal) * w1 (ix2 k s)) 0 * max (∑ k : Fin 1024, (val_main_v13 (F := Ideal) x g (ix2 r k) : EReal) * w1 (ix2 k s)) 0 : EReal) := by
  rw [val_main_v16_apply, val_main_v15_apply, val_main_v14_apply, val_main_call0_v0_apply, val_main_call0_cst_apply]
  have e1 : ∀ k, lidx_main_v14 (ix2 r s) k = ix2 r k := fun k => by funext a; fin_cases a <;> rfl
  have e2 : ∀ k, ridx_main_v14 (ix2 r s) k = ix2 k s := fun k => by funext a; fin_cases a <;> rfl
  simp only [e1, e2, Ideal.mulf_def, Ideal.maximumf_def, Ideal.ofBits_def, Ideal.ofBits_zero_f32]

/-- The hidden channels. -/
theorem hidden_at (h : Vec Ideal S1024x1024 .bf16) (hh : ∀ p q : Fin 1024, h (ix2 p q) = val_main_v13 (F := Ideal) x g (ix2 (at_ i p) q))
    (w : Vec Ideal S1024x1024 .bf16) (hw : ∀ p q : Fin 1024, w (ix2 p q) = w1 (ix2 p (at_ j q))) (p q : Fin 1024) :
    k0_pay2 h w (ix2 p q) = val_main_v16 (F := Ideal) x g w1 (ix2 (at_ i p) (at_ j q)) := by
  rw [reference_hidden]
  unfold k0_pay2
  pointwise
  simp only [hh, hw]

/-- Block `j` of the sum over the hidden channels. -/
def part (r : Fin 4096) (q : Fin 1024) (j : Fin 4) : EReal :=
  ∑ k : Fin 1024, (val_main_v16 (F := Ideal) x g w1 (ix2 r (at_ j k)) : EReal) * w2 (ix2 (at_ j k) q)

/-- The product with a block of the second weights. -/
theorem part_at (h : Vec Ideal S1024x1024 .bf16) (hh : ∀ p q : Fin 1024, h (ix2 p q) = val_main_v13 (F := Ideal) x g (ix2 (at_ i p) q))
    (w : Vec Ideal S1024x1024 .bf16) (hw : ∀ p q : Fin 1024, w (ix2 p q) = w1 (ix2 p (at_ j q)))
    (v : Vec Ideal S1024x1024 .bf16) (hv : ∀ p q : Fin 1024, v (ix2 p q) = w2 (ix2 (at_ j p) q)) (p q : Fin 1024) :
    k0_pay4 h w v (ix2 p q) = part x g w1 w2 (at_ i p) q j := by
  unfold k0_pay4
  pointwise
  exact Finset.sum_congr rfl fun k _ => congrArg₂ (fun a b : EReal => a * b) (hidden_at x g w1 i j h hh w hw p k) (hv k q)

/-- The running sum and the next block's product. -/
theorem add_at (h w v : Vec Ideal S1024x1024 .bf16) (y : Vec Ideal S1024x1024 .f32) (p q : Fin 1024) :
    k0_pay5 h w v y (ix2 p q) = (y (ix2 p q) + k0_pay4 h w v (ix2 p q) : EReal) := by
  unfold k0_pay5
  pointwise

/-- The sum over the hidden channels is that of the four blocks. -/
theorem reference_sum (r : Fin 4096) (q : Fin 1024) :
    val_main_v17 (F := Ideal) x g w1 w2 (ix2 r q) = ∑ j : Fin 4, part x g w1 w2 r q j := by
  rw [val_main_v17_apply]
  have e1 : ∀ k, lidx_main_v17 (ix2 r q) k = ix2 r k := fun k => by funext a; fin_cases a <;> rfl
  have e2 : ∀ k, ridx_main_v17 (ix2 r q) k = ix2 k q := fun k => by funext a; fin_cases a <;> rfl
  simp only [e1, e2]
  unfold part
  rw [← Fintype.sum_prod_type' (f := fun (j : Fin 4) (k : Fin 1024) => (val_main_v16 (F := Ideal) x g w1 (ix2 r (at_ j k)) : EReal) * w2 (ix2 (at_ j k) q))]
  refine (Fintype.sum_equiv (finProdFinEquiv (m := 4) (n := 1024)) _ _ fun a => ?_).symm
  have e : finProdFinEquiv a = at_ a.1 a.2 := Fin.ext (by show a.2.val + 1024 * a.1.val = a.1.val * 1024 + a.2.val; omega)
  rw [e]

/-- The reference's result of the sub-layer. -/
theorem reference_result (r : Fin 4096) (q : Fin 1024) :
    val_main_v32 (F := Ideal) x g w1 w2 g' (ix2 r q)
      = (x (ix2 r q) + normed (fun k => val_main_v17 (F := Ideal) x g w1 w2 (ix2 r k)) q (g' (ix2 0 q)) : EReal) := by
  rw [val_main_v32_apply, val_main_v31_apply, val_main_v28_apply, val_main_v27_apply, val_main_v26_apply, val_main_v25_apply,
    val_main_v23_apply, val_main_v21_apply, val_main_v20_apply, val_main_v30_apply, val_main_v29_apply, val_main_v18_apply, val_main_v22_apply,
    val_main_v24_apply]
  rw [val_main_cst_2_apply, val_main_cst_3_apply, val_main_cst_4_apply]
  simp only [val_main_v19_apply, Ideal.mulf_def, Ideal.addf_def, Ideal.hostDivf_def, Ideal.hostUnary_rsqrt_def, Ideal.ofBits_def, Ideal.ofBits_zero_f32, zero_add]
  have e1 : idx_main_v18 (idx_main_v29 (idx_main_v30 (ix2 r q))) = ix2 0 q := by
    funext a; fin_cases a
    · rfl
    · exact Fin.ext (Nat.mod_eq_of_lt q.isLt)
  have e2 : ∀ k, idx_main_v20 (idx_main_v21 (idx_main_v27 (ix2 r q))) k = ix2 r k := fun k => by funext a; fin_cases a <;> rfl
  rw [e1]
  simp only [e2]
  rfl

/-- The sub-layer's result from the sum over the hidden channels. -/
theorem result_at (b y : Vec Ideal S1024x1024 .f32) (hb : IsRows i x b) (hy : IsRows i (val_main_v17 (F := Ideal) x g w1 w2) y) (p q : Fin 1024) :
    k0_pay6 b y g' (ix2 p q) = val_main_v32 (F := Ideal) x g w1 w2 g' (ix2 (at_ i p) q) := by
  rw [reference_result, ← funext (hy p), ← hb p q]
  unfold k0_pay6
  pointwise
  rfl

/-- The reference's hidden channels, four planes of 1024. -/
theorem reference_planes (s : Fin 4) (r : Fin 4096) (q : Fin 1024) :
    val_main_v36 (F := Ideal) x g w1 (ix3 s r q) = val_main_v16 (F := Ideal) x g w1 (ix2 r (at_ s q)) := by
  rw [val_main_v36_apply, val_main_v35_apply, val_main_v34_apply]
  have e : idx_main_v34 (idx_main_v35 (ix3 s r q)) = ix2 r (at_ s q) := by
    funext a; fin_cases a
    · exact Fin.ext (by show ((r.val * 4 + s.val) * 1024 + q.val) / 4096 = r.val; omega)
    · exact Fin.ext (by show ((r.val * 4 + s.val) * 1024 + q.val) % 4096 = s.val * 1024 + q.val; omega)
  rw [e]
  rfl

/-- The hidden channels as a plane. -/
theorem plane_at (h w : Vec Ideal S1024x1024 .bf16) (p q : Fin 1024) : k0_pay3 h w (ix3 0 p q) = k0_pay2 h w (ix2 p q) := by
  unfold k0_pay3
  pointwise

/-! ## The grid's points -/

/-- The row tile of point `n`, -/
def row (n : ℕ) (hn : n < 16) : Fin 4 := ⟨n / 4, by omega⟩
/-- and its block of hidden channels. -/
def col (n : ℕ) : Fin 4 := ⟨n % 4, by omega⟩

variable (held : (n : ℕ) → n < 16 → Vec Ideal S1024x1024 .bf16) (summed : (n : ℕ) → n < 16 → Vec Ideal S1024x1024 .f32)
  (bx : (n : ℕ) → n < 16 → Vec Ideal S1024x1024 .f32) (bw bv : (n : ℕ) → n < 16 → Vec Ideal S1024x1024 .bf16)

/-- Rows that are normalised at a row tile's first point and kept afterwards are the reference's. -/
theorem held_at (hx : ∀ n hn, IsRows (row n hn) x (bx n hn))
    (first : ∀ n hn, n % 4 = 0 → held n hn = k0_pay1 (bx n hn) g)
    (next : ∀ n hn, ¬n % 4 = 0 → held n hn = held (n - 1) (Nat.lt_of_le_of_lt (Nat.sub_le _ _) hn)) :
    ∀ n hn (p q : Fin 1024), held n hn (ix2 p q) = val_main_v13 (F := Ideal) x g (ix2 (at_ (row n hn) p) q) := by
  intro n
  induction n with
  | zero => intro hn p q; rw [first 0 hn rfl]; exact rows_at x g _ _ (hx 0 hn) p q
  | succ n ih =>
    intro hn p q
    by_cases h : (n + 1) % 4 = 0
    · rw [first _ hn h]; exact rows_at x g _ _ (hx _ hn) p q
    · rw [next _ hn h, show row (n + 1) hn = row n (by omega) from Fin.ext (by show (n + 1) / 4 = n / 4; omega)]
      exact ih (by omega) p q

/-- The first `k + 1` blocks of the sum over the hidden channels. -/
def upto (f : Fin 4 → EReal) (k : Fin 4) : EReal := ∑ j : Fin 4, if j.val ≤ k.val then f j else 0

theorem upto_first (f : Fin 4 → EReal) : upto f 0 = f 0 := by
  simp [upto, Fin.sum_univ_four]

theorem upto_next (f : Fin 4 → EReal) (k l : Fin 4) (h : k.val + 1 = l.val) : upto f l = upto f k + f l := by
  unfold upto
  rw [Fin.sum_univ_four, Fin.sum_univ_four]
  match k, l, h with
  | 0, 1, _ => simp
  | 1, 2, _ => simp
  | 2, 3, _ => simp

theorem upto_last (f : Fin 4 → EReal) : upto f 3 = ∑ j, f j := by
  simp [upto, Fin.sum_univ_four]

/-- The kernel's running sum, over the blocks of a row tile up to the point's. -/
theorem summed_at (hh : ∀ n hn (p q : Fin 1024), held n hn (ix2 p q) = val_main_v13 (F := Ideal) x g (ix2 (at_ (row n hn) p) q))
    (hw : ∀ n hn (p q : Fin 1024), bw n hn (ix2 p q) = w1 (ix2 p (at_ (col n) q)))
    (hv : ∀ n hn (p q : Fin 1024), bv n hn (ix2 p q) = w2 (ix2 (at_ (col n) p) q))
    (first : ∀ n hn, n % 4 = 0 → summed n hn = k0_pay4 (held n hn) (bw n hn) (bv n hn))
    (next : ∀ n hn, ¬n % 4 = 0 → summed n hn
      = k0_pay5 (held n hn) (bw n hn) (bv n hn) (summed (n - 1) (Nat.lt_of_le_of_lt (Nat.sub_le _ _) hn))) :
    ∀ n hn (p q : Fin 1024), summed n hn (ix2 p q) = upto (part x g w1 w2 (at_ (row n hn) p) q) (col n) := by
  have start : ∀ n hn, n % 4 = 0 → ∀ p q : Fin 1024, summed n hn (ix2 p q) = upto (part x g w1 w2 (at_ (row n hn) p) q) (col n) := by
    intro n hn h p q
    rw [first n hn h, part_at x g w1 w2 (row n hn) (col n) _ (hh n hn) _ (hw n hn) _ (hv n hn), show col n = 0 from Fin.ext h, upto_first]
  intro n
  induction n with
  | zero => intro hn p q; exact start 0 hn rfl p q
  | succ n ih =>
    intro hn p q
    by_cases h : (n + 1) % 4 = 0
    · exact start _ hn h p q
    · rw [next _ hn h, add_at, part_at x g w1 w2 (row (n + 1) hn) (col (n + 1)) _ (hh _ hn) _ (hw _ hn) _ (hv _ hn),
        upto_next _ (col n) (col (n + 1)) (by show n % 4 + 1 = (n + 1) % 4; omega)]
      refine congrArg (fun a : EReal => a + _) ((ih (by omega) p q).trans ?_)
      rw [show row (n + 1) hn = row n (by omega) from Fin.ext (by show (n + 1) / 4 = n / 4; omega)]

/-- After a row tile's last point the running sum is the reference's. -/
theorem summed_last (h : ∀ n hn (p q : Fin 1024), summed n hn (ix2 p q) = upto (part x g w1 w2 (at_ (row n hn) p) q) (col n))
    (n : ℕ) (hn : n < 16) (hl : n % 4 = 3) : IsRows (row n hn) (val_main_v17 (F := Ideal) x g w1 w2) (summed n hn) := by
  intro p q
  rw [h n hn p q, show col n = 3 from Fin.ext hl, upto_last, reference_sum]

end Cert.Ffn

end
-- ==== Proof.Ffn.Value.lean ====
/- The results of the channel mixer's forward pass: the four arrays that the kernel writes are the reference's; the claims. -/
module

public import proofs.«01_k».proof.Defs
public import proofs.«01_k».proof.Proof.Ffn.Frame
public import proofs.«01_k».proof.Proof.Ffn.Tile
public import proofs.«01_k».proof.Proof.Gen.Reference6Ideal.Run
public import Idealize.ShloMosaic.Lib.StableHlo.ReadAt

@[expose] public section

set_option maxRecDepth 16384

noncomputable section

namespace Cert.Ffn

open Idealize.ShloMosaic Idealize.ShloMosaic.StableHlo Idealize.ShloMosaic.TcCoe Idealize.SL.Sem Cert.Kernel6Ideal Cert.Kernel6Ideal.Gen
open Idealize.ShloMosaic.Pipeline (Dat)
open Cert.Reference6Ideal.Read

variable (m : (ℓ : Loc nD τ sig) → Buf (Elt Ideal) ℓ) (c : Dev nD)

/-! ## The blocks that the points read -/

/-- The weights that the kernel is launched on are the arguments: a conversion leaves extended reals as they are. -/
theorem entry_w : V m c main_v0 = m ((c : Thread nD τ).loc main_arg2) := by
  unfold_abbrev_sides
  simp only [hostOps0]
  after_reads_simp
  rfl

theorem entry_v : V m c main_v1 = m ((c : Thread nD τ).loc main_arg3) := by
  unfold_abbrev_sides
  simp only [hostOps0]
  after_reads_simp
  rfl

theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] ∧ win0_6.index t = ![t.val / 4, 0]
    ∧ win0_7.index t = ![t.val / 4, 0] ∧ win0_8.index t = ![t.val % 4, t.val / 4, 0] :=
  (by decide +kernel : ∀ t : Fin grid0.N, _)

theorem read_x (t : Fin cfg0.N) : IsRows (row t.val t.isLt) (m ((c : Thread nD τ).loc main_arg0)) (iblk m c 0 t) := by
  intro p q
  rw [← V_main_arg0 m c]
  blk_ext [iblk, idx t, row]

theorem read_g (t : Fin cfg0.N) : iblk m c 1 t = m ((c : Thread nD τ).loc main_arg1) := by
  rw [← V_main_arg1 m c]
  funext y
  blk_ext [iblk, idx t]

theorem read_w (t : Fin cfg0.N) (p q : Fin 1024) :
    iblk m c 2 t (ix2 p q) = m ((c : Thread nD τ).loc main_arg2) (ix2 p (at_ (col t.val) q)) := by
  rw [← entry_w m c]
  blk_ext [iblk, idx t, col]

theorem read_v (t : Fin cfg0.N) (p q : Fin 1024) :
    iblk m c 3 t (ix2 p q) = m ((c : Thread nD τ).loc main_arg3) (ix2 (at_ (col t.val) p) q) := by
  rw [← entry_v m c]
  blk_ext [iblk, idx t, col]

theorem read_g' (t : Fin cfg0.N) : iblk m c 4 t = m ((c : Thread nD τ).loc main_arg4) := by
  rw [← V_main_arg4 m c]
  funext y
  blk_ext [iblk, idx t]

/-! ## What the points leave -/

theorem held_eq (t : Fin cfg0.N) (p q : Fin 1024) : held m c t.val t.isLt (ix2 p q)
    = val_main_v13 (F := Ideal) (m ((c : Thread nD τ).loc main_arg0)) (m ((c : Thread nD τ).loc main_arg1)) (ix2 (at_ (row t.val t.isLt) p) q) :=
  held_at _ _ (held m c) (fun n hn => iblk m c 0 ⟨n, hn⟩) (fun n hn => read_x m c ⟨n, hn⟩)
    (fun n hn h => (held_first m c ⟨n, hn⟩ h).trans (congrArg _ (read_g m c ⟨n, hn⟩))) (fun n hn h => held_next m c ⟨n, hn⟩ h) t.val t.isLt p q

theorem summed_eq (t : Fin cfg0.N) (h : t.val % 4 = 3) : IsRows (row t.val t.isLt)
    (val_main_v17 (F := Ideal) (m ((c : Thread nD τ).loc main_arg0)) (m ((c : Thread nD τ).loc main_arg1)) (m ((c : Thread nD τ).loc main_arg2)) (m ((c : Thread nD τ).loc main_arg3)))
    (summed m c t.val t.isLt) :=
  summed_last _ _ _ _ (summed m c)
    (summed_at _ _ _ _ (held m c) (summed m c) (fun n hn => iblk m c 2 ⟨n, hn⟩) (fun n hn => iblk m c 3 ⟨n, hn⟩)
      (fun n hn => held_eq m c ⟨n, hn⟩) (fun n hn => read_w m c ⟨n, hn⟩) (fun n hn => read_v m c ⟨n, hn⟩)
      (fun n hn h => summed_first m c ⟨n, hn⟩ h) (fun n hn h => summed_next m c ⟨n, hn⟩ h))
    t.val t.isLt h

/-! ## The result arrays -/

theorem final_5 : (dats m 0 c).arrAt 5 cfg0.N = val_main_v32 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after_5, read_g']
  have e : (win0_5.blk t).view.emb y = ix2 (at_ (row t.val t.isLt) (y 0)) (y 1) := by blk_ext [idx t, row]
  rw [e]
  exact (congrArg _ (eq_ix2 y)).trans (result_at _ _ _ _ _ _ _ _ (read_x m c t) (summed_eq m c t ((flush0_5 t).mp hf)) (y 0) (y 1))

theorem final_6 : (dats m 0 c).arrAt 6 cfg0.N = val_main_v17 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after_6]
  have e : (win0_6.blk t).view.emb y = ix2 (at_ (row t.val t.isLt) (y 0)) (y 1) := by blk_ext [idx t, row]
  rw [e]
  exact (congrArg _ (eq_ix2 y)).trans (summed_eq m c t ((flush0_6 t).mp hf) (y 0) (y 1))

theorem final_7 : (dats m 0 c).arrAt 7 cfg0.N = val_main_v33 (F := Ideal) (m ((c : Thread nD τ).loc main_arg0)) (m ((c : Thread nD τ).loc main_arg1)) := by
  refine (dats m 0 c).arrAt_eq_of_covers 7 _ (by decide +kernel) fun t hf y => ?_
  blk_simp
  rw [after_7]
  have e : (win0_7.blk t).view.emb y = ix2 (at_ (row t.val t.isLt) (y 0)) (y 1) := by blk_ext [idx t, row]
  rw [e]
  exact (congrArg _ (eq_ix2 y)).trans (held_eq m c t (y 0) (y 1))

theorem final_8 : (dats m 0 c).arrAt 8 cfg0.N = val_main_v36 (F := Ideal) (m ((c : Thread nD τ).loc main_arg0)) (m ((c : Thread nD τ).loc main_arg1))
    (m ((c : Thread nD τ).loc main_arg2)) := by
  refine (dats m 0 c).arrAt_eq_of_covers 8 _ (by decide +kernel) fun t hf y => ?_
  blk_simp
  rw [after_8]
  have e : (win0_8.blk t).view.emb y = ix3 (col t.val) (at_ (row t.val t.isLt) (y 1)) (y 2) := by blk_ext [idx t, row, col]
  rw [e]
  refine Eq.trans ?_ (reference_planes _ _ _ _ _ _).symm
  have ey : y = ix3 0 (y 1) (y 2) := by
    funext a; fin_cases a
    · exact Fin.ext (Nat.lt_one_iff.mp (y 0).isLt)
    · rfl
    · rfl
  exact (congrArg _ ey).trans ((plane_at _ _ _ _).trans (hidden_at _ _ _ _ _ _ (held_eq m c t) _ (read_w m c t) (y 1) (y 2)))

/-- The run with each result array named, the arguments unchanged. -/
theorem run_arrays (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_v2_2) = (dats m 0 c).arrAt 7 cfg0.N
      ∧ r.2.mem ((c.tc : Thread nD τ).loc main_v2_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, h.2 c⟩)
    (θ_run_and (run_main m ρ) (frame_of m ρ (dats m) (A_eq m) (run_main m ρ)))

/-- The reference ends with its arguments unchanged; it has no semaphore. -/
theorem reference_frame : Cert.quiescent_Reference6Ideal := fun m g _ =>
  (θ_run Cert.Reference6Ideal.defs _ _).mono (fun _ h => ⟨fun c => (h c).2.2.2.2, funext fun s => nomatch s⟩) (Cert.Reference6Ideal.Value.run m g)

/-- Kernel and reference end with equal results on equal arguments. -/
theorem algebraic : Cert.algebraic_Kernel6Ideal_Reference6Ideal := by
  pair_intro
  · run_from run_arrays m g
  · refine (θ_run Cert.Reference6Ideal.defs _ _).mono (fun r h c => ?_) (Cert.Reference6Ideal.Value.run (F := Ideal) m' g')
    obtain ⟨a0, a1, a2, a3, a4⟩ := hagree c
    obtain ⟨h0, h1, h2, h3, hargs⟩ := h c
    refine ⟨?_, ?_, ?_, ?_, hargs⟩
    · rw [final_5 m c, ← a0, ← a1, ← a2, ← a3, ← a4]
      exact h0.trans (val_main_v32_eq _ _)
    · rw [final_6 m c, ← a0, ← a1, ← a2, ← a3]
      exact h1.trans (val_main_v17_eq _ _ _ _)
    · rw [final_7 m c, ← a0, ← a1]
      exact h2.trans (val_main_v33_eq _ _)
    · rw [final_8 m c, ← a0, ← a1, ← a2]
      exact h3.trans (val_main_v36_eq _ _ _)

end Cert.Ffn

end
-- ==== Proof.FfnLoss.Run.lean ====
/- What one grid point of the last channel mixer's forward pass does to its windows: the body at any point, the normalised rows and
   the sum over the hidden channels kept in windows 8 and 7 from the row tile's first point to its last, the partial sums of the
   loss in window 10 from the first row tile's last point on. -/
module

public import proofs.«01_k».proof.Defs
public import proofs.«01_k».proof.Proof.Gen.Kernel7Ideal.Skeleton
public import proofs.«01_k».proof.Proof.Gen.Kernel7Ideal.Frame
public import Idealize.ShloMosaic.Lib.VecWindow
public import Idealize.ShloMosaic.Lib.Pipeline.TableIdle

@[expose] public section

set_option maxRecDepth 16384

noncomputable section

namespace Cert.FfnLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- The point is the first of its row tile. -/
abbrev First (i : grid0.Coords) : Prop := k0_cond1 i = 1#1

/-- The point is the last of its row tile. -/
abbrev Last (i : grid0.Coords) : Prop := k0_cond4 i = 1#1

/-- The point is one of the first row tile. -/
abbrev Start (i : grid0.Coords) : Prop := k0_cond5 i = 1#1

open Classical in
/-- The normalised rows after a point. -/
def rows (i : grid0.Coords) (x0 : Vec F S1024x1024 .f32) (x1 : Vec F S1x1024 .f32) (y8 : Vec F S1024x1024 .bf16) : Vec F S1024x1024 .bf16 :=
  if First i then k0_pay1 x0 x1 else y8

open Classical in
/-- The sum over the hidden channels after a point, from the normalised rows. -/
def total (i : grid0.Coords) (h : Vec F S1024x1024 .bf16) (x2 x3 : Vec F S1024x1024 .bf16) (y7 : Vec F S1024x1024 .f32) : Vec F S1024x1024 .f32 :=
  if First i then k0_pay4 h x2 x3 else k0_pay5 h x2 x3 y7

open Classical in
/-- The cotangent after a point, from the sum. -/
def result (i : grid0.Coords) (x0 : Vec F S1024x1024 .f32) (x4 : Vec F S1x1024 .f32) (x5 y y6 : Vec F S1024x1024 .f32) : Vec F S1024x1024 .f32 :=
  if Last i then k0_pay7 x0 y x4 x5 else y6

open Classical in
/-- The partial sums of the loss after a point, from the sum over the hidden channels. -/
def losses (i : grid0.Coords) (x0 : Vec F S1024x1024 .f32) (x4 : Vec F S1x1024 .f32) (x5 y : Vec F S1024x1024 .f32) (y10 : Vec F S8x1024 .f32) :
    Vec F S8x1024 .f32 :=
  if Last i then (if Start i then k0_pay8 x0 y x4 x5 else k0_pay9 x0 y x4 x5 y10) else y10

set_option maxHeartbeats 8000000 in
/-- The body at any point, on whole staging buffers: the inputs end as they were, the outputs at `rows`, `total`, `result`, `losses`
    and the squared relu of this step's hidden channels. -/
theorem run (c : Dev nD) (i : grid0.Coords)
    (arg2 : Memref sig .tc .vmem S1024x1024 .f32) (harg2 : arg2.IsWhole)
    (arg3 : Memref sig .tc .vmem S1x1024 .f32) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S1024x1024 .f32) (harg7 : arg7.IsWhole)
    (arg8 : Memref sig .tc .vmem S1024x1024 .f32) (harg8 : arg8.IsWhole)
    (arg9 : Memref sig .tc .vmem S1024x1024 .f32) (harg9 : arg9.IsWhole)
    (arg10 : Memref sig .tc .vmem S1024x1024 .bf16) (harg10 : arg10.IsWhole)
    (arg11 : Memref sig .tc .vmem S1x1024x1024 .bf16) (harg11 : arg11.IsWhole)
    (arg12 : Memref sig .tc .vmem S8x1024 .f32) (harg12 : arg12.IsWhole)
    (hc1 : k0_cond2 i = 1#1 ↔ First i) (hc2 : k0_cond3 i = 1#1 ↔ ¬First i) (hc6 : k0_cond6 i = 1#1 ↔ ¬Start i)
    (x0 : Vec F S1024x1024 .f32) (x1 : Vec F S1x1024 .f32) (x2 x3 : Vec F S1024x1024 .bf16) (x4 : Vec F S1x1024 .f32) (x5 : Vec F S1024x1024 .f32)
    (y6 y7 : Vec F S1024x1024 .f32) (y8 : Vec F S1024x1024 .bf16) (y10 : Vec F S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7 ∗ owns (c : Thread nD τ) arg10 fullShare y8 ∗ (∃ d, owns (c : Thread nD τ) arg11 fullShare d) ∗ owns (c : Thread nD τ) arg12 fullShare y10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (result i x0 x4 x5 (total i (rows i x0 x1 y8) x2 x3 y7) y6)
            ∗ owns (c : Thread nD τ) arg9 fullShare (total i (rows i x0 x1 y8) x2 x3 y7)
            ∗ owns (c : Thread nD τ) arg10 fullShare (rows i x0 x1 y8)
            ∗ owns (c : Thread nD τ) arg11 fullShare (k0_pay3 (rows i x0 x1 y8) x2)
            ∗ owns (c : Thread nD τ) arg12 fullShare (losses i x0 x4 x5 (total i (rows i x0 x1 y8) x2 x3 y7) y10)) -∗ K ⟨⟩))
      ⊢ wp frame (wpE (defs₀ (F := F)) Variants.none c none) E
          (cc0_ffn_fwd_1 i arg2 harg2 arg3 harg3 arg4 harg4 arg5 harg5 arg6 harg6 arg7 harg7 arg8 harg8 arg9 harg9 arg10 harg10 arg11 harg11 arg12 harg12) K := by
  simp only [cc0_ffn_fwd_1_eq_skeleton]; unfold cc0_ffn_fwd_1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  obtain rfl := harg10.eq_unread hf8; obtain rfl := harg12.eq_unread hf10
  by_cases h0 : First i <;> by_cases h3 : Last i <;> by_cases h4 : Start i
  all_goals
    first
      | have h1 : k0_cond2 i = 1#1 := hc1.mpr h0
        have h2 : ¬k0_cond3 i = 1#1 := fun h => hc2.mp h h0
      | have h1 : ¬k0_cond2 i = 1#1 := fun h => h0 (hc1.mp h)
        have h2 : k0_cond3 i = 1#1 := hc2.mpr h0
    first
      | have h5 : ¬k0_cond6 i = 1#1 := fun h => hc6.mp h h4
      | have h5 : k0_cond6 i = 1#1 := hc6.mpr h4
    sl_exec (disch := first | sl_exact h0 | sl_exact h1 | sl_exact h2 | sl_exact h3 | sl_exact h4 | sl_exact h5)
  all_goals
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; rotate_left
    isplitl [H7]; rotate_left
    isplitl [H8]; rotate_left
    isplitl [H9]; rotate_left
    all_goals
      iexists _; isplitr; swap
      first | iexact H6 | iexact H7 | iexact H8 | iexact H9 | iexact H10
      ipureintro
      try delta run.sl.v28
      try delta run.sl.v28_1
      try delta run.sl.v28_2
      try delta run.sl.v28_3
      try delta run.sl.H7_1
      try delta run.sl.H7_1_1
      try delta run.sl.H7_1_2
      try delta run.sl.H7_1_3
      try delta run.sl.v3
      try delta run.sl.v3_1
      try delta run.sl.v3_2
      try delta run.sl.v3_3
      try delta run.sl.H8_1
      try delta run.sl.H8_1_1
      try delta run.sl.H8_1_2
      try delta run.sl.H8_1_3
      try rw [View.read_writes_full]
      repeat rw [View.readCov_full]
      repeat rw [View.readAt_full]
      simp only [result, losses, total, rows, hf0, hf1, hf2, hf3, hf4, hf5, hf6, hf7, hf8, hf10]
      repeat first | rw [if_pos h0] | rw [if_neg h0] | rw [if_pos h3] | rw [if_neg h3] | rw [if_pos h4] | rw [if_neg h4]

end Cert.FfnLoss

end
-- ==== Proof.FfnLoss.Frame.lean ====
/- The run of the last channel mixer's forward pass (custom_call 0 of Kernel7Ideal): what each point leaves in the windows, the body at
   every grid point, the run, and from it both frames, at any float values. -/
module

public import proofs.«01_k».proof.Proof.FfnLoss.Run
public import Idealize.ShloMosaic.Lib.Claim

@[expose] public section

set_option maxRecDepth 16384

noncomputable section

namespace Cert.FfnLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at the grid's points -/

/-- Point `t` is the first of its row tile when it is ≡ 0 (mod 4), -/
theorem first_iff : ∀ t : Fin cfg0.N, First (grid0.coords t) ↔ t.val % 4 = 0 :=
  (by decide +kernel : ∀ t : Fin grid0.N, First (grid0.coords t) ↔ t.val % 4 = 0)
/-- and the last when it is ≡ 3. -/
theorem last_iff : ∀ t : Fin cfg0.N, Last (grid0.coords t) ↔ t.val % 4 = 3 :=
  (by decide +kernel : ∀ t : Fin grid0.N, Last (grid0.coords t) ↔ t.val % 4 = 3)
/-- The first row tile is the first four points. -/
theorem start_iff : ∀ t : Fin cfg0.N, Start (grid0.coords t) ↔ t.val < 4 :=
  (by decide +kernel : ∀ t : Fin grid0.N, Start (grid0.coords t) ↔ t.val < 4)
theorem cond6_iff : ∀ t : Fin cfg0.N, k0_cond6 (grid0.coords t) = 1#1 ↔ ¬Start (grid0.coords t) :=
  (by decide +kernel : ∀ t : Fin grid0.N, k0_cond6 (grid0.coords t) = 1#1 ↔ ¬Start (grid0.coords t))
theorem cond2_iff : ∀ t : Fin cfg0.N, k0_cond2 (grid0.coords t) = 1#1 ↔ First (grid0.coords t) :=
  (by decide +kernel : ∀ t : Fin grid0.N, k0_cond2 (grid0.coords t) = 1#1 ↔ First (grid0.coords t))
theorem cond3_iff : ∀ t : Fin cfg0.N, k0_cond3 (grid0.coords t) = 1#1 ↔ ¬First (grid0.coords t) :=
  (by decide +kernel : ∀ t : Fin grid0.N, k0_cond3 (grid0.coords t) = 1#1 ↔ ¬First (grid0.coords t))

/-- The sub-layer's result is stored at a row tile's last point only, -/
theorem idle_6 : ∀ t : Fin cfg0.N, cfg0.idle 6 (grid0.coords t) = !decide (t.val % 4 = 3) :=
  (by decide +kernel : ∀ t : Fin grid0.N, idle0 6 (grid0.coords t) = !decide (t.val % 4 = 3))
/-- the sum over the hidden channels at every point, -/
theorem idle_7 : ∀ t : Fin cfg0.N, cfg0.idle 7 (grid0.coords t) = false :=
  (by decide +kernel : ∀ t : Fin grid0.N, idle0 7 (grid0.coords t) = false)
/-- the normalised rows at the first point only, -/
theorem idle_8 : ∀ t : Fin cfg0.N, cfg0.idle 8 (grid0.coords t) = !decide (t.val % 4 = 0) :=
  (by decide +kernel : ∀ t : Fin grid0.N, idle0 8 (grid0.coords t) = !decide (t.val % 4 = 0))
/-- the hidden channels at every point. -/
theorem idle_9 : ∀ t : Fin cfg0.N, cfg0.idle 9 (grid0.coords t) = false :=
  (by decide +kernel : ∀ t : Fin grid0.N, idle0 9 (grid0.coords t) = false)

/-- The partial sums of the loss are stored at a row tile's last point only. -/
theorem idle_10 : ∀ t : Fin cfg0.N, cfg0.idle 10 (grid0.coords t) = !decide (t.val % 4 = 3) :=
  (by decide +kernel : ∀ t : Fin grid0.N, idle0 10 (grid0.coords t) = !decide (t.val % 4 = 3))

/-! ## What each point leaves -/

/-- The normalised rows after point `n`. -/
def held (c : Dev nD) : (n : ℕ) → n < cfg0.N → Vec F S1024x1024 .bf16
  | 0, h => k0_pay1 (iblk m c 0 ⟨0, h⟩) (iblk m c 1 ⟨0, h⟩)
  | n + 1, h => rows (grid0.coords ⟨n + 1, h⟩) (iblk m c 0 ⟨n + 1, h⟩) (iblk m c 1 ⟨n + 1, h⟩) (held c n (by omega))

/-- The sum over the hidden channels after point `n`. -/
def summed (c : Dev nD) : (n : ℕ) → n < cfg0.N → Vec F S1024x1024 .f32
  | 0, h => k0_pay4 (held m c 0 h) (iblk m c 2 ⟨0, h⟩) (iblk m c 3 ⟨0, h⟩)
  | n + 1, h => total (grid0.coords ⟨n + 1, h⟩) (held m c (n + 1) h) (iblk m c 2 ⟨n + 1, h⟩) (iblk m c 3 ⟨n + 1, h⟩) (summed c n (by omega))

/-- The partial sums of the loss after point `n`; before a row tile is finished nothing is stored yet. -/
def lost (c : Dev nD) : (n : ℕ) → n < cfg0.N → Vec F S8x1024 .f32
  | 0, h => k0_pay8 (iblk m c 0 ⟨0, h⟩) (summed m c 0 h) (iblk m c 4 ⟨0, h⟩) (iblk m c 5 ⟨0, h⟩)
  | n + 1, h => losses (grid0.coords ⟨n + 1, h⟩) (iblk m c 0 ⟨n + 1, h⟩) (iblk m c 4 ⟨n + 1, h⟩) (iblk m c 5 ⟨n + 1, h⟩) (summed m c (n + 1) h)
      (lost c n (by omega))

theorem held_first (c : Dev nD) (t : Fin cfg0.N) (h : t.val % 4 = 0) : held m c t.val t.isLt = k0_pay1 (iblk m c 0 t) (iblk m c 1 t) := by
  obtain ⟨n, hn⟩ := t
  cases n with
  | zero => rfl
  | succ n => exact if_pos ((first_iff ⟨n + 1, hn⟩).mpr h)

theorem held_next (c : Dev nD) (t : Fin cfg0.N) (h : ¬t.val % 4 = 0) :
    held m c t.val t.isLt = held m c (t.val - 1) (Nat.lt_of_le_of_lt (Nat.sub_le _ _) t.isLt) := by
  obtain ⟨n, hn⟩ := t
  cases n with
  | zero => exact absurd (Nat.zero_mod _) h
  | succ n => exact if_neg fun h' => h ((first_iff ⟨n + 1, hn⟩).mp h')

theorem summed_first (c : Dev nD) (t : Fin cfg0.N) (h : t.val % 4 = 0) :
    summed m c t.val t.isLt = k0_pay4 (held m c t.val t.isLt) (iblk m c 2 t) (iblk m c 3 t) := by
  obtain ⟨n, hn⟩ := t
  cases n with
  | zero => rfl
  | succ n => exact if_pos ((first_iff ⟨n + 1, hn⟩).mpr h)

theorem summed_next (c : Dev nD) (t : Fin cfg0.N) (h : ¬t.val % 4 = 0) :
    summed m c t.val t.isLt = k0_pay5 (held m c t.val t.isLt) (iblk m c 2 t) (iblk m c 3 t)
      (summed m c (t.val - 1) (Nat.lt_of_le_of_lt (Nat.sub_le _ _) t.isLt)) := by
  obtain ⟨n, hn⟩ := t
  cases n with
  | zero => exact absurd (Nat.zero_mod _) h
  | succ n => exact if_neg fun h' => h ((first_iff ⟨n + 1, hn⟩).mp h')

theorem lost_next (c : Dev nD) (t : Fin cfg0.N) (h0 : t.val ≠ 0) (h : ¬t.val % 4 = 3) :
    lost m c t.val t.isLt = lost m c (t.val - 1) (Nat.lt_of_le_of_lt (Nat.sub_le _ _) t.isLt) := by
  obtain ⟨n, hn⟩ := t
  cases n with
  | zero => exact absurd rfl h0
  | succ n => exact if_neg fun h' => h ((last_iff ⟨n + 1, hn⟩).mp h')

/-- The proof data: the arrays as the region finds them; after each point the inputs at their blocks, the outputs at `held`,
    `summed`, the result from them and the squared relu of the point's hidden channels. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay7 (iblk m c 0 t) (summed m c t.val t.isLt) (iblk m c 4 t) (iblk m c 5 t)
    | ⟨7, _⟩ => summed m c t.val t.isLt
    | ⟨8, _⟩ => held m c t.val t.isLt
    | ⟨9, _⟩ => k0_pay3 (held m c t.val t.isLt) (iblk m c 2 t)
    | ⟨10, _⟩ => lost m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_10 (c : Dev nD) (t : Fin cfg0.N) : (dats m 0 c).after 10 t = lost m c t.val t.isLt := by dsimp only [dats]
theorem after_6 (c : Dev nD) (t : Fin cfg0.N) :
    (dats m 0 c).after 6 t = k0_pay7 (iblk m c 0 t) (summed m c t.val t.isLt) (iblk m c 4 t) (iblk m c 5 t) := by dsimp only [dats]
theorem after_7 (c : Dev nD) (t : Fin cfg0.N) : (dats m 0 c).after 7 t = summed m c t.val t.isLt := by dsimp only [dats]
theorem after_8 (c : Dev nD) (t : Fin cfg0.N) : (dats m 0 c).after 8 t = held m c t.val t.isLt := by dsimp only [dats]
theorem after_9 (c : Dev nD) (t : Fin cfg0.N) : (dats m 0 c).after 9 t = k0_pay3 (held m c t.val t.isLt) (iblk m c 2 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem before_5 (c : Dev nD) (t : Fin cfg0.N) (d) : (dats m 0 c).before 5 t d = iblk m c 5 t :=
  before0_5_of m (dats m 0 c) (A_eq m c 5) (after_5 m c) t d

/-- Windows 7 and 8 hold a row tile's values from its first point on: their buffers are fresh at the first point only. -/
theorem fresh_7 (n : ℕ) (h : n ≤ cfg0.N) : cfg0.fresh 7 n = decide (n % 4 = 0) :=
  Pipeline.Cfg.fresh_tab cfg0 7 (fun n => decide (n % 4 = 0)) (by decide) (fun t => by
    rw [idle_7]
    have := flush0_7 t
    cases hf : (cfg0.win 7).flush t
    · rw [hf] at this; simp only [Bool.false_eq_true, false_iff] at this
      simp only [Bool.false_and, Bool.or_false, decide_eq_false_iff_not]; omega
    · have := this.mp hf
      simp only [Bool.true_or, decide_eq_true_eq]; omega) n h

theorem fresh_8 (n : ℕ) (h : n ≤ cfg0.N) : cfg0.fresh 8 n = decide (n % 4 = 0) :=
  Pipeline.Cfg.fresh_tab cfg0 8 (fun n => decide (n % 4 = 0)) (by decide) (fun t => by
    rw [idle_8]
    have := flush0_8 t
    cases hf : (cfg0.win 8).flush t
    · rw [hf] at this; simp only [Bool.false_eq_true, false_iff] at this
      rw [Bool.not_and_self]; simp only [Bool.or_false, decide_eq_false_iff_not]; omega
    · have := this.mp hf
      simp only [Bool.true_or, decide_eq_true_eq]; omega) n h

/-- Window 10 holds the partial sums of the loss from the first row tile's last point on. -/
theorem fresh_10 (n : ℕ) (h : n ≤ cfg0.N) : cfg0.fresh 10 n = decide (n < 4 ∨ n = 16) :=
  Pipeline.Cfg.fresh_tab cfg0 10 (fun n => decide (n < 4 ∨ n = 16)) (by decide)
    (by decide +kernel : ∀ t : Fin grid0.N, decide (t.val + 1 < 4 ∨ t.val + 1 = 16)
      = ((win0 10).flush t || (idle0 10 (grid0.coords t) && decide (t.val < 4 ∨ t.val = 16)))) n h

theorem before_7 (c : Dev nD) (t : Fin cfg0.N) (h : ¬t.val % 4 = 0) (d) :
    (dats m 0 c).before 7 t d = summed m c (t.val - 1) (Nat.lt_of_le_of_lt (Nat.sub_le _ _) t.isLt) := by
  rw [Dat.before_out_traj _ 7 rfl (fun _ _ => rfl) (fun t _ hi _ => by rw [idle_7 t] at hi; exact absurd hi Bool.false_ne_true) t.val t rfl d,
    if_neg (by rw [fresh_7 t.val (Nat.le_of_lt t.isLt)]; simpa using h), after_7]

theorem before_8 (c : Dev nD) (t : Fin cfg0.N) (h : ¬t.val % 4 = 0) (d) :
    (dats m 0 c).before 8 t d = held m c (t.val - 1) (Nat.lt_of_le_of_lt (Nat.sub_le _ _) t.isLt) := by
  rw [Dat.before_out_traj _ 8 rfl (fun _ _ => rfl) (fun t _ hi _ => by
      rw [idle_8 t] at hi; rw [after_8, after_8]; exact held_next m c t (by simpa using hi)) t.val t rfl d,
    if_neg (by rw [fresh_8 t.val (Nat.le_of_lt t.isLt)]; simpa using h), after_8]

theorem before_10 (c : Dev nD) (t : Fin cfg0.N) (h : ¬t.val < 4) (d) :
    (dats m 0 c).before 10 t d = lost m c (t.val - 1) (Nat.lt_of_le_of_lt (Nat.sub_le _ _) t.isLt) := by
  have hn : t.val < 16 := t.isLt
  rw [Dat.before_out_traj _ 10 rfl (fun _ _ => rfl) (fun t h0 hi _ => by
      rw [idle_10 t] at hi; rw [after_10, after_10]; exact lost_next m c t h0 (by simpa using hi)) t.val t rfl d,
    if_neg (by rw [fresh_10 t.val (Nat.le_of_lt t.isLt), decide_eq_true_eq]; omega), after_10]

/-- The body's normalised rows are `held`, -/
theorem rows_eq (c : Dev nD) (t : Fin cfg0.N) (d) :
    rows (grid0.coords t) (iblk m c 0 t) (iblk m c 1 t) ((dats m 0 c).before 8 t d) = held m c t.val t.isLt := by
  by_cases h : t.val % 4 = 0
  · rw [held_first m c t h]; exact if_pos ((first_iff t).mpr h)
  · rw [held_next m c t h, before_8 m c t h]; exact if_neg fun h' => h ((first_iff t).mp h')

/-- and its sums `summed`. -/
theorem total_eq (c : Dev nD) (t : Fin cfg0.N) (d) :
    total (grid0.coords t) (held m c t.val t.isLt) (iblk m c 2 t) (iblk m c 3 t) ((dats m 0 c).before 7 t d) = summed m c t.val t.isLt := by
  by_cases h : t.val % 4 = 0
  · rw [summed_first m c t h]; exact if_pos ((first_iff t).mpr h)
  · rw [summed_next m c t h, before_7 m c t h]; exact if_neg fun h' => h ((first_iff t).mp h')

/-- At a row tile's last point the body's partial sums of the loss are `lost`. -/
theorem losses_eq (c : Dev nD) (t : Fin cfg0.N) (h : t.val % 4 = 3) (d) :
    losses (grid0.coords t) (iblk m c 0 t) (iblk m c 4 t) (iblk m c 5 t) (summed m c t.val t.isLt) ((dats m 0 c).before 10 t d)
      = lost m c t.val t.isLt := by
  by_cases h4 : t.val < 4
  · obtain ⟨n, hn⟩ := t
    cases n with
    | zero => exact absurd (show 0 % 4 = 3 from h) (by decide)
    | succ n =>
      unfold lost losses
      rw [if_pos ((last_iff ⟨n + 1, hn⟩).mpr h), if_pos ((start_iff ⟨n + 1, hn⟩).mpr h4)]
      exact ((if_pos ((last_iff ⟨n + 1, hn⟩).mpr h)).trans (if_pos ((start_iff ⟨n + 1, hn⟩).mpr h4))).symm
  · rw [before_10 m c t h4]
    obtain ⟨n, hn⟩ := t
    cases n with
    | zero => exact absurd (show 0 % 4 = 3 from h) (by decide)
    | succ n => rfl

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t    ∗ (dats m 0 c).leavesExact 7 t ∗ (dats m 0 c).leavesExact 8 t ∗ (dats m 0 c).leavesExact 9 t
    ∗ (dats m 0 c).leavesExact 10 t)

/-- An output at its named contents is what a live point, or a point that is written back, leaves. -/
theorem leaves_live (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases hi : cfg0.idle w (cfg0.grid.coords t)
    · rfl
    · rw [h]

/-- The cotangent's window after a point, -/
theorem leaves_6 (c : Dev nD) (t : Fin cfg0.N) (d) :
    owns (c : Thread nD τ) (win0_6.stage (cfg0.slots t 6)) fullShare (result (grid0.coords t) (iblk m c 0 t) (iblk m c 4 t) (iblk m c 5 t) (summed m c t.val t.isLt) ((dats m 0 c).before 6 t d))
      ⊢ ((dats m 0 c).leavesExact 6 t : sProp 𝕄) := by
  by_cases h : t.val % 4 = 3
  · rw [leaves_live m c 6 t (.inl (by rw [idle_6 t]; simpa using h)), after_6,
      show result (grid0.coords t) (iblk m c 0 t) (iblk m c 4 t) (iblk m c 5 t) (summed m c t.val t.isLt) ((dats m 0 c).before 6 t d)
        = k0_pay7 (iblk m c 0 t) (summed m c t.val t.isLt) (iblk m c 4 t) (iblk m c 5 t) from if_pos ((last_iff t).mpr h)]
  · rw [Dat.leavesExact_idle (dats m 0 c) 6 t (by rw [idle_6 t]; simpa using h) (Bool.eq_false_iff.mpr fun h' => h ((flush0_6 t).mp h')),
      show result (grid0.coords t) (iblk m c 0 t) (iblk m c 4 t) (iblk m c 5 t) (summed m c t.val t.isLt) ((dats m 0 c).before 6 t d)
        = (dats m 0 c).before 6 t d from if_neg fun h' => h ((last_iff t).mp h')]
    iintro H; iexists _; iexact H

/-- and the normalised rows'. -/
theorem leaves_8 (c : Dev nD) (t : Fin cfg0.N) (d : (cfg0.win 8).block.Idx → Elt F (cfg0.win 8).elt) :
    owns (c : Thread nD τ) (win0_8.stage (cfg0.slots t 8)) fullShare (held m c t.val t.isLt) ⊢ ((dats m 0 c).leavesExact 8 t : sProp 𝕄) := by
  by_cases h : t.val % 4 = 0
  · rw [leaves_live m c 8 t (.inl (by rw [idle_8 t]; simpa using h)), after_8]
  · by_cases h3 : t.val % 4 = 3
    · rw [leaves_live m c 8 t (.inr ((flush0_8 t).mpr h3)), after_8]
    · rw [Dat.leavesExact_idle (dats m 0 c) 8 t (by rw [idle_8 t]; simpa using h) (Bool.eq_false_iff.mpr fun h' => h3 ((flush0_8 t).mp h')),
        held_next m c t h]
      iintro H; iexists d; rw [before_8 m c t h d]; iexact H

/-- The partial sums of the loss after a point. -/
theorem leaves_10 (c : Dev nD) (t : Fin cfg0.N) (d) :
    owns (c : Thread nD τ) (win0_10.stage (cfg0.slots t 10)) fullShare (losses (grid0.coords t) (iblk m c 0 t) (iblk m c 4 t) (iblk m c 5 t)
        (summed m c t.val t.isLt) ((dats m 0 c).before 10 t d))
      ⊢ ((dats m 0 c).leavesExact 10 t : sProp 𝕄) := by
  by_cases h : t.val % 4 = 3
  · rw [leaves_live m c 10 t (.inl (by rw [idle_10 t]; simpa using h)), after_10, losses_eq m c t h]
  · rw [Dat.leavesExact_idle (dats m 0 c) 10 t (by rw [idle_10 t]; simpa using h)
        (Bool.eq_false_iff.mpr fun h' => h (by have := (flush0_10 t).mp h'; omega)),
      show losses (grid0.coords t) (iblk m c 0 t) (iblk m c 4 t) (iblk m c 5 t) (summed m c t.val t.isLt) ((dats m 0 c).before 10 t d)
        = (dats m 0 c).before 10 t d from if_neg fun h' => h ((last_iff t).mp h')]
    iintro H; iexists _; iexact H

set_option maxHeartbeats 4000000 in
/-- The body at any point: the inputs hold their blocks, windows 7, 8 and 10 what the point before left, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = (dats m 0 c).Φ t.castSucc from rfl]
  rw [leaves_live m c 7 t (.inl (idle_7 t)), leaves_live m c 9 t (.inl (idle_9 t)), after_7, after_9]
  iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
  iapply (run c (grid0.coords t) _ _ _ _ _ _ _ _ _ _ _ _ _ _ _ _ _ _ _ _ _ _ (cond2_iff t) (cond3_iff t) (cond6_iff t)
    (iblk m c 0 t) (iblk m c 1 t) (iblk m c 2 t) (iblk m c 3 t) (iblk m c 4 t) (iblk m c 5 t)
    ((dats m 0 c).before 6 t e6) ((dats m 0 c).before 7 t e7) ((dats m 0 c).before 8 t e8) ((dats m 0 c).before 10 t e10))
  rw [rows_eq, total_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m c t e6); iexact H6
  isplitl [H7]; · iexact H7
  isplitl [H8]; · iapply (leaves_8 m c t e8); iexact H8
  isplitl [H9]; · iexact H9
  iapply (leaves_10 m c t e10); iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnLoss

end
-- ==== Proof.FfnLoss.Frames.lean ====
module

public import proofs.«01_k».proof.Defs
public import proofs.«01_k».proof.Proof.Gen.Kernel7
public import proofs.«01_k».proof.Proof.Gen.Kernel7Ideal
public import proofs.«01_k».proof.Proof.FfnLoss.Frame

/-!
# The frame claims of the last channel mixer's forward pass

The program and its ideal have the same text. Their bodies and their pipelines are equal, so the one
run of `Proof.FfnLoss.Frame`, which holds over any float values, gives both frames.
-/

set_option maxRecDepth 100000

public section

open Idealize Idealize.ShloMosaic

namespace Cert.FfnLoss

/-- The two programs' kernel bodies are the same. -/
theorem bodies_eq : Kernel7.defs₀ (F := Bits) = Kernel7Ideal.defs₀ (F := Bits) := by
  unfold Kernel7.defs₀ Kernel7Ideal.defs₀
  congr 1
  funext l a
  match l, a with
  | 0, (t, s) => rfl

/-- The two programs' pipelines are the same. -/
theorem defs_eq : Kernel7.defs (F := Bits) = Kernel7Ideal.defs (F := Bits) := by
  unfold Kernel7.defs Kernel7Ideal.defs
  exact congrArg _ bodies_eq

/-- The ideal program leaves its arguments as they are and no semaphore raised. -/
theorem frame_ideal : Cert.quiescent_Kernel7Ideal := fun m ρ _ => frame m ρ

/-- The program leaves its arguments as they are and no semaphore raised. -/
theorem frame_kernel : Cert.quiescent_Kernel7 := fun m ρ _ => by
  rw [defs_eq]
  exact frame (F := Bits) m ρ

end Cert.FfnLoss

end
-- ==== Proof.FfnLoss.Value.lean ====
/- The channel mixer's forward pass with the loss: the four arrays that the kernel writes are the gradient of the loss and what the
   forward pass saves, as the reference computes them; the claims. -/
module

public import proofs.«01_k».proof.Defs
public import proofs.«01_k».proof.Proof.FfnLoss.Frame
public import proofs.«01_k».proof.Proof.Ffn.Tile
public import proofs.«01_k».proof.Proof.Gen.Reference7Ideal.Run
public import proofs.«01_k».proof.Proof.Gen.Reference7Ideal.Read
public import Idealize.ShloMosaic.Lib.StableHlo.ReadAt

@[expose] public section

set_option maxRecDepth 16384

noncomputable section

namespace Cert.FfnLoss

open Idealize.ShloMosaic Idealize.ShloMosaic.StableHlo Idealize.ShloMosaic.TcCoe Idealize.SL.Sem Cert.Kernel7Ideal Cert.Kernel7Ideal.Gen
open Idealize.ShloMosaic.Pipeline (Dat)
open Cert.Reference7Ideal.Read
open Cert.Ffn (IsRows at_ row col)

/-- The reference's result of the sub-layer is that of the pass without the loss. -/
theorem val_32 : @val_main_v32 Ideal _ = @Cert.Reference6Ideal.Read.val_main_v32 Ideal _ := rfl

/-! ## The gradient of the loss -/

theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num

/-- Half of the mean of 1024 squares has the derivative `d / 1024`. -/
theorem derivative (d : EReal) :
    Ideal.div (Ideal.ofBits .f32 0x3F000000#32 * Ideal.ofBits .f32 0x3F800000#32) (Ideal.ofBits .f32 0x44800000#32)
      * (Ideal.ofBits .f32 0x40000000#32 * d) = d * Ideal.ofBits .f32 0x3A800000#32 := by
  rw [lit_half, lit_two, lit_1024, lit_inv1024, Ideal.ofBits_one_f32, mul_one, Ideal.div_coe (by norm_num), ← mul_assoc, mul_comm d]
  rw [← EReal.coe_mul, ← EReal.coe_mul]
  congr 2
  norm_num

section
variable (x t : (⟨S4096x1024, .f32⟩ : BufTy).Contents (Elt Ideal)) (g g' : (⟨S1x1024, .f32⟩ : BufTy).Contents (Elt Ideal))
  (w1 : (⟨S1024x4096, .f32⟩ : BufTy).Contents (Elt Ideal)) (w2 : (⟨S4096x1024, .f32⟩ : BufTy).Contents (Elt Ideal))
  (i : Fin 4)

/-- The reference's gradient of the loss. -/
theorem reference_gradient (j : S4096x1024.Idx) :
    val_main_v51 (F := Ideal) x g w1 w2 g' t j
      = ((val_main_v32 (F := Ideal) x g w1 w2 g' j - t j) * Ideal.ofBits .f32 0x3A800000#32 : EReal) := by
  rw [val_main_v51_apply, val_main_v50_apply, val_main_v49_apply, val_main_v48_apply, val_main_v47_apply, val_main_v46_apply, val_main_v40_apply,
    val_main_v39_apply, val_main_v37_apply, val_main_cst_5_apply, val_main_cst_10_apply, val_main_cst_11_apply, val_main_cst_12_apply]
  exact derivative _

/-- The kernel's difference to the target, -/
theorem difference_at (b y d : Vec Ideal S1024x1024 .f32) (p q : Fin 1024) :
    k0_pay6 b y g' d (ix2 p q) = (Cert.Kernel6Ideal.Gen.k0_pay6 b y g' (ix2 p q) - d (ix2 p q) : EReal) := rfl

/-- and its gradient. -/
theorem gradient_at (b y d : Vec Ideal S1024x1024 .f32) (hb : IsRows i x b) (hy : IsRows i (Cert.Reference6Ideal.Read.val_main_v17 (F := Ideal) x g w1 w2) y)
    (hd : IsRows i t d) (p q : Fin 1024) :
    k0_pay7 b y g' d (ix2 p q) = val_main_v51 (F := Ideal) x g w1 w2 g' t (ix2 (at_ i p) q) := by
  rw [reference_gradient, val_32, ← Cert.Ffn.result_at x g g' w1 w2 i b y hb hy p q, ← hd p q, ← difference_at]
  rfl

end

variable (m : (ℓ : Loc nD τ sig) → Buf (Elt Ideal) ℓ) (c : Dev nD)

/-! ## The blocks that the points read -/

/-- The weights that the kernel is launched on are the arguments: a conversion leaves extended reals as they are. -/
theorem entry_w : V m c main_v0 = m ((c : Thread nD τ).loc main_arg2) := by
  unfold_abbrev_sides
  simp only [hostOps0]
  after_reads_simp
  rfl

theorem entry_v : V m c main_v1 = m ((c : Thread nD τ).loc main_arg3) := by
  unfold_abbrev_sides
  simp only [hostOps0]
  after_reads_simp
  rfl

theorem idx : ∀ t : Fin cfg0.N, win0_0.index t = ![t.val / 4, 0] ∧ win0_1.index t = ![0, 0] ∧ win0_2.index t = ![0, t.val % 4]
    ∧ win0_3.index t = ![t.val % 4, 0] ∧ win0_4.index t = ![0, 0] ∧ win0_5.index t = ![t.val / 4, 0] ∧ win0_6.index t = ![t.val / 4, 0]
    ∧ win0_7.index t = ![t.val / 4, 0] ∧ win0_8.index t = ![t.val / 4, 0] ∧ win0_9.index t = ![t.val % 4, t.val / 4, 0] :=
  (by decide +kernel : ∀ t : Fin grid0.N, _)

theorem read_x (t : Fin cfg0.N) : IsRows (row t.val t.isLt) (m ((c : Thread nD τ).loc main_arg0)) (iblk m c 0 t) := by
  intro p q
  rw [← V_main_arg0 m c]
  blk_ext [iblk, idx t, row]

theorem read_g (t : Fin cfg0.N) : iblk m c 1 t = m ((c : Thread nD τ).loc main_arg1) := by
  rw [← V_main_arg1 m c]
  funext y
  blk_ext [iblk, idx t]

theorem read_w (t : Fin cfg0.N) (p q : Fin 1024) :
    iblk m c 2 t (ix2 p q) = m ((c : Thread nD τ).loc main_arg2) (ix2 p (at_ (col t.val) q)) := by
  rw [← entry_w m c]
  blk_ext [iblk, idx t, col]

theorem read_v (t : Fin cfg0.N) (p q : Fin 1024) :
    iblk m c 3 t (ix2 p q) = m ((c : Thread nD τ).loc main_arg3) (ix2 (at_ (col t.val) p) q) := by
  rw [← entry_v m c]
  blk_ext [iblk, idx t, col]

theorem read_g' (t : Fin cfg0.N) : iblk m c 4 t = m ((c : Thread nD τ).loc main_arg4) := by
  rw [← V_main_arg4 m c]
  funext y
  blk_ext [iblk, idx t]

theorem read_t (t : Fin cfg0.N) : IsRows (row t.val t.isLt) (m ((c : Thread nD τ).loc main_arg5)) (iblk m c 5 t) := by
  intro p q
  rw [← V_main_arg5 m c]
  blk_ext [iblk, idx t, row]

/-! ## What the points leave -/

theorem held_eq (t : Fin cfg0.N) (p q : Fin 1024) : held m c t.val t.isLt (ix2 p q)
    = val_main_v13 (F := Ideal) (m ((c : Thread nD τ).loc main_arg0)) (m ((c : Thread nD τ).loc main_arg1)) (ix2 (at_ (row t.val t.isLt) p) q) :=
  Cert.Ffn.held_at _ _ (held m c) (fun n hn => iblk m c 0 ⟨n, hn⟩) (fun n hn => read_x m c ⟨n, hn⟩)
    (fun n hn h => (held_first m c ⟨n, hn⟩ h).trans (congrArg _ (read_g m c ⟨n, hn⟩))) (fun n hn h => held_next m c ⟨n, hn⟩ h) t.val t.isLt p q

theorem summed_eq (t : Fin cfg0.N) (h : t.val % 4 = 3) : IsRows (row t.val t.isLt)
    (val_main_v17 (F := Ideal) (m ((c : Thread nD τ).loc main_arg0)) (m ((c : Thread nD τ).loc main_arg1)) (m ((c : Thread nD τ).loc main_arg2)) (m ((c : Thread nD τ).loc main_arg3)))
    (summed m c t.val t.isLt) :=
  Cert.Ffn.summed_last _ _ _ _ (summed m c)
    (Cert.Ffn.summed_at _ _ _ _ (held m c) (summed m c) (fun n hn => iblk m c 2 ⟨n, hn⟩) (fun n hn => iblk m c 3 ⟨n, hn⟩)
      (fun n hn => held_eq m c ⟨n, hn⟩) (fun n hn => read_w m c ⟨n, hn⟩) (fun n hn => read_v m c ⟨n, hn⟩)
      (fun n hn h => summed_first m c ⟨n, hn⟩ h) (fun n hn h => summed_next m c ⟨n, hn⟩ h))
    t.val t.isLt h

/-! ## The result arrays -/

theorem final_6 : (dats m 0 c).arrAt 6 cfg0.N = val_main_v51 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after_6, read_g']
  have e : (win0_6.blk t).view.emb y = ix2 (at_ (row t.val t.isLt) (y 0)) (y 1) := by blk_ext [idx t, row]
  rw [e]
  exact (congrArg _ (eq_ix2 y)).trans (gradient_at _ _ _ _ _ _ _ _ _ _ (read_x m c t) (summed_eq m c t ((flush0_6 t).mp hf)) (read_t m c t) (y 0) (y 1))

theorem final_7 : (dats m 0 c).arrAt 7 cfg0.N = val_main_v17 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after_7]
  have e : (win0_7.blk t).view.emb y = ix2 (at_ (row t.val t.isLt) (y 0)) (y 1) := by blk_ext [idx t, row]
  rw [e]
  exact (congrArg _ (eq_ix2 y)).trans (summed_eq m c t ((flush0_7 t).mp hf) (y 0) (y 1))

theorem final_8 : (dats m 0 c).arrAt 8 cfg0.N = val_main_v33 (F := Ideal) (m ((c : Thread nD τ).loc main_arg0)) (m ((c : Thread nD τ).loc main_arg1)) := by
  refine (dats m 0 c).arrAt_eq_of_covers 8 _ (by decide +kernel) fun t hf y => ?_
  blk_simp
  rw [after_8]
  have e : (win0_8.blk t).view.emb y = ix2 (at_ (row t.val t.isLt) (y 0)) (y 1) := by blk_ext [idx t, row]
  rw [e]
  exact (congrArg _ (eq_ix2 y)).trans (held_eq m c t (y 0) (y 1))

theorem final_9 : (dats m 0 c).arrAt 9 cfg0.N = val_main_v36 (F := Ideal) (m ((c : Thread nD τ).loc main_arg0)) (m ((c : Thread nD τ).loc main_arg1))
    (m ((c : Thread nD τ).loc main_arg2)) := by
  refine (dats m 0 c).arrAt_eq_of_covers 9 _ (by decide +kernel) fun t hf y => ?_
  blk_simp
  rw [after_9]
  have e : (win0_9.blk t).view.emb y = ix3 (col t.val) (at_ (row t.val t.isLt) (y 1)) (y 2) := by blk_ext [idx t, row, col]
  rw [e]
  refine Eq.trans ?_ (Cert.Ffn.reference_planes _ _ _ _ _ _).symm
  have ey : y = ix3 0 (y 1) (y 2) := by
    funext a; fin_cases a
    · exact Fin.ext (Nat.lt_one_iff.mp (y 0).isLt)
    · rfl
    · rfl
  exact (congrArg _ ey).trans ((Cert.Ffn.plane_at _ _ _ _).trans (Cert.Ffn.hidden_at _ _ _ _ _ _ (held_eq m c t) _ (read_w m c t) (y 1) (y 2)))

/-- The run with each result array named, the arguments unchanged. -/
theorem run_arrays (ρ : Dev nD → PrngReg) : θ_run defs (onTc (τ := τ) (main (F := Ideal))) ⟨m, fun _ => 0, ρ⟩ (fun r => ∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_v2_2) = (dats m 0 c).arrAt 8 cfg0.N
      ∧ r.2.mem ((c.tc : Thread nD τ).loc main_v2_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 6, (h.1 c).1 7, (h.1 c).1 8, (h.1 c).1 9, h.2 c⟩)
    (θ_run_and (run_main m ρ) (frame_of m ρ (dats m) (A_eq m) (run_main m ρ)))

/-- The reference ends with its arguments unchanged; it has no semaphore. -/
theorem reference_frame : Cert.quiescent_Reference7Ideal := fun m g _ =>
  (θ_run Cert.Reference7Ideal.defs _ _).mono (fun _ h => ⟨fun c => (h c).2.2.2.2, funext fun s => nomatch s⟩) (Cert.Reference7Ideal.Value.run m g)

/-- Kernel and reference end with equal results on equal arguments. -/
theorem algebraic : Cert.algebraic_Kernel7Ideal_Reference7Ideal := by
  pair_intro
  · run_from run_arrays m g
  · refine (θ_run Cert.Reference7Ideal.defs _ _).mono (fun r h c => ?_) (Cert.Reference7Ideal.Value.run (F := Ideal) m' g')
    obtain ⟨a0, a1, a2, a3, a4, a5⟩ := hagree c
    obtain ⟨h0, h1, h2, h3, hargs⟩ := h c
    refine ⟨?_, ?_, ?_, ?_, hargs⟩
    · rw [final_6 m c, ← a0, ← a1, ← a2, ← a3, ← a4, ← a5]
      exact h0.trans (val_main_v51_eq _ _)
    · rw [final_7 m c, ← a0, ← a1, ← a2, ← a3]
      exact h1.trans (val_main_v17_eq _ _ _ _)
    · rw [final_8 m c, ← a0, ← a1]
      exact h2.trans (val_main_v33_eq _ _)
    · rw [final_9 m c, ← a0, ← a1, ← a2]
      exact h3.trans (val_main_v36_eq _ _ _)

end Cert.FfnLoss

end
-- ==== Proof.Proj.In.lean ====
/- The normalised rows and their product with the input weights: each row tile holds the reference's rows; the claims. -/
module

public import proofs.«01_k».proof.Defs
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run
public import proofs.«01_k».proof.Proof.Ffn.Tile
public import Idealize.ShloMosaic.Lib.Pipeline.ValueKit
public import Idealize.ShloMosaic.Lib.StableHlo.ReadAt
public import Idealize.ShloMosaic.Lib.Claim
public import Idealize.ShloMosaic.Lib.Pointwise

@[expose] public section

set_option maxRecDepth 16384

noncomputable section

namespace Cert.Proj.In

open Idealize.ShloMosaic Idealize.ShloMosaic.StableHlo Idealize.ShloMosaic.TcCoe Idealize.SL.Sem Cert.Kernel9Ideal Cert.Kernel9Ideal.Gen
open Idealize.ShloMosaic.Pipeline (Dat)
open Cert.Reference9Ideal.Read
open Cert.Ffn (normed)

/-- Entry `p` of block `i` of 512. -/
abbrev at_ (i : Fin 8) (p : Fin 512) : Fin 4096 := ⟨i.val * 512 + p.val, by omega⟩

variable (m : (ℓ : Loc nD τ sig) → Buf (Elt Ideal) ℓ) (c : Dev nD)

/-! ## The blocks that the points read -/

/-- The weights that the kernel is launched on are the argument: a conversion leaves extended reals as they are. -/
theorem entry_w : V m c main_v0 = m ((c : Thread nD τ).loc main_arg2) := by
  unfold_abbrev_sides
  simp only [hostOps0]
  after_reads_simp
  rfl

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem read_x (t : Fin cfg0.N) (p : Fin 512) (q : Fin 1024) :
    iblk m c 0 t (ix2 p q) = m ((c : Thread nD τ).loc main_arg0) (ix2 (at_ t p) q) := by
  rw [← V_main_arg0 m c]
  blk_ext [iblk, idx t]

theorem read_g (t : Fin cfg0.N) : iblk m c 1 t = m ((c : Thread nD τ).loc main_arg1) := by
  rw [← V_main_arg1 m c]
  funext y
  blk_ext [iblk, idx t]

theorem read_w (t : Fin cfg0.N) : iblk m c 2 t = m ((c : Thread nD τ).loc main_arg2) := by
  rw [← entry_w m c]
  funext y
  blk_ext [iblk, idx t]

/-! ## The values -/

section
variable (x : (⟨S4096x1024, .f32⟩ : BufTy).Contents (Elt Ideal)) (g : (⟨S1x1024, .f32⟩ : BufTy).Contents (Elt Ideal))
  (w : (⟨S1024x3072, .f32⟩ : BufTy).Contents (Elt Ideal)) (i : Fin 8)

/-- The reference's normalised rows, -/
theorem reference_rows (r : Fin 4096) (q : Fin 1024) :
    val_main_v13 (F := Ideal) x g (ix2 r q) = normed (fun k => x (ix2 r k)) q (g (ix2 0 q)) := by
  rw [val_main_v13_apply, val_main_v10_apply, val_main_v9_apply, val_main_v8_apply, val_main_v7_apply, val_main_v5_apply, val_main_v3_apply,
    val_main_v2_apply, val_main_v12_apply, val_main_v11_apply, val_main_v0_apply, val_main_v4_apply, val_main_v6_apply]
  rw [val_main_cst_apply, val_main_cst_0_apply, val_main_cst_1_apply]
  simp only [val_main_v1_apply, Ideal.mulf_def, Ideal.addf_def, Ideal.hostDivf_def, Ideal.hostUnary_rsqrt_def, Ideal.ofBits_def, Ideal.ofBits_zero_f32, zero_add]
  have e1 : idx_main_v0 (idx_main_v11 (idx_main_v12 (ix2 r q))) = ix2 0 q := by
    funext a; fin_cases a
    · rfl
    · exact Fin.ext (Nat.mod_eq_of_lt q.isLt)
  have e2 : ∀ k, idx_main_v2 (idx_main_v3 (idx_main_v9 (ix2 r q))) k = ix2 r k := fun k => by funext a; fin_cases a <;> rfl
  rw [e1]
  simp only [e2]
  rfl

/-- the kernel's, -/
theorem rows_at (b : Vec Ideal S512x1024 .f32) (hb : ∀ (p : Fin 512) (q : Fin 1024), b (ix2 p q) = x (ix2 (at_ i p) q)) (p : Fin 512) (q : Fin 1024) :
    k0_pay1 b g (ix2 p q) = val_main_v13 (F := Ideal) x g (ix2 (at_ i p) q) := by
  rw [reference_rows, ← funext (hb p)]
  unfold k0_pay1
  pointwise
  rfl

/-- and their product with the weights. -/
theorem product_at (h : Vec Ideal S512x1024 .bf16) (hh : ∀ (p : Fin 512) (q : Fin 1024), h (ix2 p q) = val_main_v13 (F := Ideal) x g (ix2 (at_ i p) q))
    (p : Fin 512) (q : Fin 3072) : k0_pay2 h w (ix2 p q) = val_main_v14 (F := Ideal) x g w (ix2 (at_ i p) q) := by
  rw [val_main_v14_apply]
  unfold k0_pay2
  pointwise
  refine Finset.sum_congr rfl fun k _ => congrArg₂ (fun a b : EReal => a * b) ((hh p k).trans (congrArg (val_main_v13 (F := Ideal) x g) ?_)) (congrArg w ?_) <;>
    (funext a; fin_cases a <;> rfl)

end

/-! ## What a point leaves -/

theorem out_rows (t : Fin cfg0.N) : (outsAt0 m c t).2 = k0_pay1 (iblk m c 0 t) (m ((c : Thread nD τ).loc main_arg1)) := by
  rw [← read_g m c t]
  unfold outsAt0
  frame_out

theorem out_product (t : Fin cfg0.N) : (outsAt0 m c t).1
    = k0_pay2 (k0_pay1 (iblk m c 0 t) (m ((c : Thread nD τ).loc main_arg1))) (m ((c : Thread nD τ).loc main_arg2)) := by
  rw [← read_g m c t, ← read_w m c t]
  unfold outsAt0
  frame_out

/-! ## The result arrays -/

theorem final_3 : (dats m 0 c).arrAt 3 cfg0.N = val_main_v14 (F := Ideal) (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3, out_product]
  have e : (win0_3.blk t).view.emb y = ix2 (at_ t (y 0)) (y 1) := by blk_ext [idx t]
  rw [e]
  exact (congrArg _ (eq_ix2 y)).trans (product_at _ _ _ _ _ (rows_at _ _ _ _ (read_x m c t)) (y 0) (y 1))

theorem final_4 : (dats m 0 c).arrAt 4 cfg0.N = val_main_v15 (F := Ideal) (m ((c : Thread nD τ).loc main_arg0)) (m ((c : Thread nD τ).loc main_arg1)) := by
  refine (dats m 0 c).arrAt_eq_of_covers 4 _ (by decide +kernel) fun t hf y => ?_
  blk_simp
  rw [after0_4, out_rows]
  have e : (win0_4.blk t).view.emb y = ix2 (at_ t (y 0)) (y 1) := by blk_ext [idx t]
  rw [e]
  exact (congrArg _ (eq_ix2 y)).trans (rows_at _ _ _ _ (read_x m c t) (y 0) (y 1))

/-- The reference ends with its arguments unchanged; it has no semaphore. -/
theorem reference_frame : Cert.quiescent_Reference9Ideal := fun m g _ =>
  (θ_run Cert.Reference9Ideal.defs _ _).mono (fun _ h => ⟨fun c => (h c).2.2, funext fun s => nomatch s⟩) (Cert.Reference9Ideal.Value.run m g)

/-- Kernel and reference end with equal results on equal arguments. -/
theorem algebraic : Cert.algebraic_Kernel9Ideal_Reference9Ideal := by
  pair_intro
  · run_from Cert.Kernel9Ideal.Value.run_blocks m g
  · refine (θ_run Cert.Reference9Ideal.defs _ _).mono (fun r h c => ?_) (Cert.Reference9Ideal.Value.run (F := Ideal) m' g')
    obtain ⟨a0, a1, a2⟩ := hagree c
    obtain ⟨h0, h1, hargs⟩ := h c
    refine ⟨?_, ?_, hargs⟩
    · rw [final_3 m c, ← a0, ← a1, ← a2]
      exact h0.trans (val_main_v14_eq _ _ _)
    · rw [final_4 m c, ← a0, ← a1]
      exact h1.trans (val_main_v15_eq _ _)

end Cert.Proj.In

end
-- ==== Proof.Proj.Out.lean ====
/- The output projection: the product with the weights is the reference's, and so is its normalised sum with the sub-layer's
   input; the claims. -/
module

public import proofs.«01_k».proof.Defs
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run
public import proofs.«01_k».proof.Proof.Ffn.Tile
public import Idealize.ShloMosaic.Lib.Pipeline.ValueKit
public import Idealize.ShloMosaic.Lib.StableHlo.ReadAt
public import Idealize.ShloMosaic.Lib.Claim
public import Idealize.ShloMosaic.Lib.Pointwise

@[expose] public section

set_option maxRecDepth 16384

noncomputable section

namespace Cert.Proj.Out

open Idealize.ShloMosaic Idealize.ShloMosaic.StableHlo Idealize.ShloMosaic.TcCoe Idealize.SL.Sem Cert.Kernel10Ideal Cert.Kernel10Ideal.Gen
open Idealize.ShloMosaic.Pipeline (Dat)
open Cert.Reference10Ideal.Read
open Cert.Ffn (at_ normed)

variable (m : (ℓ : Loc nD τ sig) → Buf (Elt Ideal) ℓ) (c : Dev nD)

/-! ## The blocks that the points read -/

/-- The arrays that the kernel is launched on are the arguments: a conversion leaves extended reals as they are. -/
theorem entry_a : V m c main_v0 = m ((c : Thread nD τ).loc main_arg0) := by
  unfold_abbrev_sides
  simp only [hostOps0]
  after_reads_simp
  rfl

theorem entry_w : V m c main_v1 = m ((c : Thread nD τ).loc main_arg1) := by
  unfold_abbrev_sides
  simp only [hostOps0]
  after_reads_simp
  rfl

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem read_a (t : Fin cfg0.N) (p q : Fin 1024) : iblk m c 0 t (ix2 p q) = m ((c : Thread nD τ).loc main_arg0) (ix2 (at_ t p) q) := by
  rw [← entry_a m c]
  blk_ext [iblk, idx t]

theorem read_w (t : Fin cfg0.N) (p q : Fin 1024) : iblk m c 1 t (ix2 p q) = m ((c : Thread nD τ).loc main_arg1) (ix2 p q) := by
  rw [← entry_w m c]
  blk_ext [iblk, idx t]

theorem read_x (t : Fin cfg0.N) (p q : Fin 1024) : iblk m c 2 t (ix2 p q) = m ((c : Thread nD τ).loc main_arg2) (ix2 (at_ t p) q) := by
  rw [← V_main_arg2 m c]
  blk_ext [iblk, idx t]

theorem read_g (t : Fin cfg0.N) : iblk m c 3 t = m ((c : Thread nD τ).loc main_arg3) := by
  rw [← V_main_arg3 m c]
  funext y
  blk_ext [iblk, idx t]

/-! ## The values -/

section
variable (a : (⟨S4096x1024, .f32⟩ : BufTy).Contents (Elt Ideal)) (w : (⟨S1024x1024, .f32⟩ : BufTy).Contents (Elt Ideal))
  (x : (⟨S4096x1024, .f32⟩ : BufTy).Contents (Elt Ideal)) (g : (⟨S1x1024, .f32⟩ : BufTy).Contents (Elt Ideal)) (i : Fin 4)

/-- The product. -/
theorem product_at (b v : Vec Ideal S1024x1024 .bf16) (hb : ∀ p q : Fin 1024, b (ix2 p q) = a (ix2 (at_ i p) q))
    (hv : ∀ p q : Fin 1024, v (ix2 p q) = w (ix2 p q)) (p q : Fin 1024) :
    k0_pay1 b v (ix2 p q) = val_main_v0 (F := Ideal) a w (ix2 (at_ i p) q) := by
  rw [val_main_v0_apply]
  unfold k0_pay1
  pointwise
  refine Finset.sum_congr rfl fun k _ => congrArg₂ (fun a b : EReal => a * b) ((hb p k).trans (congrArg a ?_)) ((hv k q).trans (congrArg w ?_)) <;>
    (funext a; fin_cases a <;> rfl)

/-- The reference's result. -/
theorem reference_result (r : Fin 4096) (q : Fin 1024) :
    val_main_v15 (F := Ideal) a w x g (ix2 r q)
      = (x (ix2 r q) + normed (fun k => val_main_v0 (F := Ideal) a w (ix2 r k)) q (g (ix2 0 q)) : EReal) := by
  rw [val_main_v15_apply, val_main_v14_apply, val_main_v11_apply, val_main_v10_apply, val_main_v9_apply, val_main_v8_apply,
    val_main_v6_apply, val_main_v4_apply, val_main_v3_apply, val_main_v13_apply, val_main_v12_apply, val_main_v1_apply, val_main_v5_apply,
    val_main_v7_apply]
  rw [val_main_cst_apply, val_main_cst_0_apply, val_main_cst_1_apply]
  simp only [val_main_v2_apply, Ideal.mulf_def, Ideal.addf_def, Ideal.hostDivf_def, Ideal.hostUnary_rsqrt_def, Ideal.ofBits_def, Ideal.ofBits_zero_f32, zero_add]
  have e1 : idx_main_v1 (idx_main_v12 (idx_main_v13 (ix2 r q))) = ix2 0 q := by
    funext a; fin_cases a
    · rfl
    · exact Fin.ext (Nat.mod_eq_of_lt q.isLt)
  have e2 : ∀ k, idx_main_v3 (idx_main_v4 (idx_main_v10 (ix2 r q))) k = ix2 r k := fun k => by funext a; fin_cases a <;> rfl
  rw [e1]
  simp only [e2]
  rfl

/-- The sub-layer's result. -/
theorem result_at (b v : Vec Ideal S1024x1024 .bf16) (y : Vec Ideal S1024x1024 .f32) (hb : ∀ p q : Fin 1024, b (ix2 p q) = a (ix2 (at_ i p) q))
    (hv : ∀ p q : Fin 1024, v (ix2 p q) = w (ix2 p q)) (hy : ∀ p q : Fin 1024, y (ix2 p q) = x (ix2 (at_ i p) q)) (p q : Fin 1024) :
    k0_pay2 b v y g (ix2 p q) = val_main_v15 (F := Ideal) a w x g (ix2 (at_ i p) q) := by
  rw [reference_result, ← funext (product_at a w i b v hb hv p), ← hy p q]
  unfold k0_pay2
  pointwise
  rfl

end

/-! ## The result arrays -/

theorem final_4 : (dats m 0 c).arrAt 4 cfg0.N = val_main_v15 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, read_g]
  have e : (win0_4.blk t).view.emb y = ix2 (at_ t (y 0)) (y 1) := by blk_ext [idx t]
  rw [e]
  unfold out0_4
  frame_out
  exact (congrArg _ (eq_ix2 y)).trans (result_at _ _ _ _ _ _ _ _ (read_a m c t) (read_w m c t) (read_x m c t) (y 0) (y 1))

theorem final_5 : (dats m 0 c).arrAt 5 cfg0.N = val_main_v0 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have e : (win0_5.blk t).view.emb y = ix2 (at_ t (y 0)) (y 1) := by blk_ext [idx t]
  rw [e]
  unfold out0_5
  frame_out
  exact (congrArg _ (eq_ix2 y)).trans (product_at _ _ _ _ _ (read_a m c t) (read_w m c t) (y 0) (y 1))

/-- The reference ends with its arguments unchanged; it has no semaphore. -/
theorem reference_frame : Cert.quiescent_Reference10Ideal := fun m g _ =>
  (θ_run Cert.Reference10Ideal.defs _ _).mono (fun _ h => ⟨fun c => (h c).2.2, funext fun s => nomatch s⟩) (Cert.Reference10Ideal.Value.run m g)

/-- Kernel and reference end with equal results on equal arguments. -/
theorem algebraic : Cert.algebraic_Kernel10Ideal_Reference10Ideal := by
  pair_intro
  · run_from Cert.Kernel10Ideal.Value.run_blocks m g
  · refine (θ_run Cert.Reference10Ideal.defs _ _).mono (fun r h c => ?_) (Cert.Reference10Ideal.Value.run (F := Ideal) m' g')
    obtain ⟨a0, a1, a2, a3⟩ := hagree c
    obtain ⟨h0, h1, hargs⟩ := h c
    refine ⟨?_, ?_, hargs⟩
    · rw [final_4 m c, ← a0, ← a1, ← a2, ← a3]
      exact h0.trans (val_main_v15_eq _ _ _ _)
    · rw [final_5 m c, ← a0, ← a1]
      exact h1.trans (val_main_v0_eq _ _)

end Cert.Proj.Out

end
-- ==== Proof.FfnGrad.Norm.lean ====
/- The gradient of a row's normalisation over finite numbers: the reference's form and the kernel's agree, and stay finite. -/
module

public import proofs.«01_k».proof.Proof.Mixer.Scalars

@[expose] public section

noncomputable section

namespace Cert.FfnGrad

open Idealize.ShloMosaic
open Cert.Mixer (IsReal)

/-- The mean square of a row and what keeps it from zero, -/
def meanSq (b : Fin 1024 → EReal) : EReal := Ideal.div (∑ k, b k * b k) (Ideal.ofBits .f32 0x44800000#32) + Ideal.ofBits .f32 0x358637BD#32

/-- the reciprocal of its root, -/
def inv (b : Fin 1024 → EReal) : EReal := Ideal.rsqrt (meanSq b)

/-- the factor of a row in its gradient, -/
def coef (b d : Fin 1024 → EReal) : EReal :=
  Ideal.div ((∑ k, b k * d k) * (Ideal.ofBits .f32 0xBF000000#32 * Ideal.div (inv b) (meanSq b))) (Ideal.ofBits .f32 0x44800000#32)

/-- and the gradient of the normalisation of row `b` at cotangent `d`. -/
def grad (b d : Fin 1024 → EReal) (q : Fin 1024) : EReal := d q * inv b + b q * coef b d + coef b d * b q

theorem lit_1024 : Ideal.ofBits .f32 0x44800000#32 = ((1024 : ℝ) : EReal) := by
  simp [Ideal.ofBits, Ideal.ieee, -EReal.coe_mul]; norm_num

theorem lit_negHalf : Ideal.ofBits .f32 0xBF000000#32 = ((-(1 / 2) : ℝ) : EReal) := by
  simp [Ideal.ofBits, Ideal.ieee, -EReal.coe_mul, -EReal.coe_neg]; norm_num

theorem lit_two : Ideal.ofBits .f32 0x40000000#32 = ((2 : ℝ) : EReal) := by
  simp [Ideal.ofBits, Ideal.ieee, -EReal.coe_mul]
  norm_cast
  norm_num

theorem sum_coe {n : ℕ} (f : Fin n → ℝ) : (∑ i, (f i : EReal)) = ((∑ i, f i : ℝ) : EReal) :=
  (map_sum (⟨⟨((↑) : ℝ → EReal), rfl⟩, EReal.coe_add⟩ : ℝ →+ EReal) f Finset.univ).symm

section
variable {b d : Fin 1024 → EReal} (hb : ∀ k, IsReal (b k)) (hd : ∀ k, IsReal (d k))

include hb

theorem meanSq_pos : ∃ a : ℝ, 0 < a ∧ meanSq b = a := by
  obtain ⟨e, he, hE⟩ := Cert.Mixer.eps_pos
  choose c hc using hb
  refine ⟨(∑ k, c k * c k) * (1 / 1024) + e, ?_, ?_⟩
  · have : 0 ≤ ∑ k, c k * c k := Finset.sum_nonneg fun k _ => mul_self_nonneg _
    positivity
  · rw [meanSq, show Ideal.ofBits .f32 0x358637BD#32 = (e : EReal) from hE, lit_1024, Ideal.div_coe (by norm_num)]
    simp only [hc, ← EReal.coe_mul, sum_coe, ← EReal.coe_add]

theorem inv_eq {a : ℝ} (ha : 0 < a) (e : meanSq b = a) : inv b = (((Real.sqrt a)⁻¹ : ℝ) : EReal) := by
  rw [inv, e, Ideal.rsqrt_coe, if_neg ha.le.not_gt, if_neg ha.ne']

theorem inv_real : IsReal (inv b) := by
  obtain ⟨a, ha, e⟩ := meanSq_pos hb
  exact ⟨_, inv_eq hb ha e⟩

include hd

theorem coef_real : IsReal (coef b d) := by
  obtain ⟨a, ha, e⟩ := meanSq_pos hb
  unfold coef
  rw [lit_1024, lit_negHalf, e]
  exact ((IsReal.sum fun k => (hb k).mul (hd k)).mul (IsReal.mul ⟨_, rfl⟩ ((inv_real hb).div ha.ne'))).div (by norm_num)

theorem grad_real (q : Fin 1024) : IsReal (grad b d q) :=
  (((hd q).mul (inv_real hb)).add ((hb q).mul (coef_real hb hd))).add ((coef_real hb hd).mul (hb q))

/-- The kernel's form of the gradient. -/
theorem grad_eq (q : Fin 1024) :
    inv b * d q - b q * (inv b * inv b * inv b) * Ideal.div (∑ k, b k * d k) (Ideal.ofBits .f32 0x44800000#32) = grad b d q := by
  obtain ⟨a, ha, e⟩ := meanSq_pos hb
  unfold grad coef
  rw [inv_eq hb ha e, e, lit_1024, lit_negHalf, Ideal.div_coe (by norm_num), Ideal.div_coe (by norm_num), Ideal.div_coe ha.ne']
  choose β hβ using hb
  choose δ hδ using hd
  simp only [hβ, hδ, ← EReal.coe_mul, sum_coe, ← EReal.coe_add, ← EReal.coe_sub]
  congr 1
  have h : 1 / a = (Real.sqrt a)⁻¹ * (Real.sqrt a)⁻¹ := by
    rw [← mul_inv, Real.mul_self_sqrt ha.le, one_div]
  rw [h]
  ring

end

/-! ## The squared relu -/

theorem coe_relu (x : ℝ) : max (x : EReal) 0 = ((max x 0 : ℝ) : EReal) :=
  (EReal.coe_strictMono.monotone.map_max (a := x) (b := 0)).symm

/-- The root of a squared relu. -/
theorem sqrt_relu {a : EReal} (h : IsReal a) : Ideal.sqrt (max a 0 * max a 0) = max a 0 := by
  obtain ⟨x, rfl⟩ := h
  rw [coe_relu, ← EReal.coe_mul, Ideal.sqrt_coe, if_neg (mul_self_nonneg _).not_gt, Real.sqrt_mul_self (le_max_right _ _)]

/-- The gradient of the squared relu, chosen by the sign or not. -/
theorem select_relu (a d l : EReal) : Scalar.select (Ideal.cmp .ogt a 0) (d * (l * max a 0)) 0 = d * (l * max a 0) := by
  by_cases h : 0 < a
  · simp [Scalar.select, Ideal.cmp, h]
  · rw [max_eq_right (not_lt.mp h), mul_zero, mul_zero]
    exact ite_self _

theorem relu_real {a : EReal} (h : IsReal a) : IsReal (max a 0) := by
  obtain ⟨x, rfl⟩ := h
  exact ⟨max x 0, coe_relu x⟩

end Cert.FfnGrad

end
-- ==== Proof.Proj.OutGrad.lean ====
/- The gradient of the output projection: the product's cotangent is the reference's, and so is that of the concatenated heads,
   where the inputs are finite; the claims. -/
module

public import proofs.«01_k».proof.Defs
public import proofs.«01_k».proof.Pre_projection_inputs_finite
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run
public import proofs.«01_k».proof.Proof.FfnGrad.Norm
public import proofs.«01_k».proof.Proof.Mixer.Pre
public import proofs.«01_k».proof.Proof.Ffn.Tile
public import Idealize.ShloMosaic.Lib.Pipeline.ValueKit
public import Idealize.ShloMosaic.Lib.StableHlo.ReadAt
public import Idealize.ShloMosaic.Lib.Claim
public import Idealize.ShloMosaic.Lib.Pointwise

@[expose] public section

set_option maxRecDepth 16384

noncomputable section

namespace Cert.Proj.OutGrad

open Idealize.ShloMosaic Idealize.ShloMosaic.StableHlo Idealize.ShloMosaic.TcCoe Idealize.SL.Sem Cert.Kernel11Ideal Cert.Kernel11Ideal.Gen
open Idealize.ShloMosaic.Pipeline (Dat)
open Cert.Reference11Ideal.Read
open Cert.Ffn (at_)
open Cert.Mixer (IsReal and_one real_of_abs)
open Cert.FfnGrad (meanSq inv coef grad grad_eq)

/-! ## The precondition -/

/-- The shape relations the predicate's operations take. -/
theorem preFacts : Cert.Pre_projection_inputs_finite.Facts where
  bcast_S_S4096x1024 := by decide
  reducesTo_S4096x1024_S_d0_1 := by decide
  h_S_ := by decide
  bcast_S_S1x1024 := by decide
  reducesTo_S1x1024_S_d0_1 := by decide
  bcast_S_S1024x1024 := by decide
  reducesTo_S1024x1024_S_d0_1 := by decide

attribute [local instance] preFacts

/-- Every input is finite. -/
structure Finite (dx a : FVec Ideal S4096x1024 .f32) (g : FVec Ideal S1x1024 .f32) (w : FVec Ideal S1024x1024 .f32) : Prop where
  dx : ∀ i, IsReal (dx i)
  a : ∀ i, IsReal (a i)
  g : ∀ i, IsReal (g i)
  w : ∀ i, IsReal (w i)

/-- Arguments that meet the precondition are finite. -/
theorem finite (dx a : FVec Ideal S4096x1024 .f32) (g : FVec Ideal S1x1024 .f32) (w : FVec Ideal S1024x1024 .f32)
    (h : Cert.Pre_projection_inputs_finite.fn (F := Ideal) dx a g w = fun _ => 1#1) : Finite dx a g w := by
  have e := congrFun h (fun a => a.elim0)
  simp only [Cert.Pre_projection_inputs_finite.fn, Cert.Pre_projection_inputs_finite.fn_part1, andi] at e
  obtain ⟨e, e3⟩ := and_one _ _ e
  obtain ⟨e, e2⟩ := and_one _ _ e
  obtain ⟨e0, e1⟩ := and_one _ _ e
  exact {
    dx := fun i => real_of_abs _ (Host.reduce_andi_all _ _ _ _ _ e0 i)
    a := fun i => real_of_abs _ (Host.reduce_andi_all _ _ _ _ _ e1 i)
    g := fun i => real_of_abs _ (Host.reduce_andi_all _ _ _ _ _ e2 i)
    w := fun i => real_of_abs _ (Host.reduce_andi_all _ _ _ _ _ e3 i) }

/-! ## The blocks that the points read -/

section
variable (m : (ℓ : Loc nD τ sig) → Buf (Elt Ideal) ℓ) (c : Dev nD)

/-- The host computes the product, -/
theorem entry_y : V m c main_v0 = val_main_v0 (F := Ideal) (m ((c : Thread nD τ).loc main_arg1)) (m ((c : Thread nD τ).loc main_arg3)) := by
  unfold_abbrev_sides
  simp only [hostOps0]
  after_reads_simp
  rfl

/-- and converts the weights. -/
theorem entry_w : V m c main_v1 = m ((c : Thread nD τ).loc main_arg3) := by
  unfold_abbrev_sides
  simp only [hostOps0]
  after_reads_simp
  rfl

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem read_dx (t : Fin cfg0.N) (p q : Fin 1024) : iblk m c 0 t (ix2 p q) = m ((c : Thread nD τ).loc main_arg0) (ix2 (at_ t p) q) := by
  rw [← V_main_arg0 m c]
  blk_ext [iblk, idx t]

theorem read_y (t : Fin cfg0.N) (p q : Fin 1024) : iblk m c 1 t (ix2 p q)
    = val_main_v0 (F := Ideal) (m ((c : Thread nD τ).loc main_arg1)) (m ((c : Thread nD τ).loc main_arg3)) (ix2 (at_ t p) q) := by
  rw [← entry_y m c]
  blk_ext [iblk, idx t]

theorem read_g (t : Fin cfg0.N) : iblk m c 2 t = m ((c : Thread nD τ).loc main_arg2) := by
  rw [← V_main_arg2 m c]
  funext y
  blk_ext [iblk, idx t]

theorem read_w (t : Fin cfg0.N) (p q : Fin 1024) : iblk m c 3 t (ix2 p q) = m ((c : Thread nD τ).loc main_arg3) (ix2 p q) := by
  rw [← entry_w m c]
  blk_ext [iblk, idx t]

/-! ## What the points leave, the first and the later -/

theorem after_4 (t : Fin cfg0.N) : (outsAt0 m c t.val t.isLt).1 = k0_pay6 (iblk m c 1 t) (iblk m c 2 t) (iblk m c 0 t) (iblk m c 3 t) := by
  by_cases h : 1 ≤ t.val
  · rw [outsAt0_B m c t (fun e => by have : t.val < 4 := t.isLt; omega) h]
    dsimp only
    unfold out0_B_4
    frame_out
  · rw [outsAt0_A m c t (by omega) h]
    dsimp only
    unfold out0_A_4
    frame_out

theorem after_5 (t : Fin cfg0.N) : (outsAt0 m c t.val t.isLt).2.1 = k0_pay5 (iblk m c 1 t) (iblk m c 2 t) (iblk m c 0 t) := by
  by_cases h : 1 ≤ t.val
  · rw [outsAt0_B m c t (fun e => by have : t.val < 4 := t.isLt; omega) h]
    dsimp only
    unfold out0_B_5
    frame_out
  · rw [outsAt0_A m c t (by omega) h]
    dsimp only
    unfold out0_A_5
    frame_out

end

/-! ## The values -/

section
variable (dx a : (⟨S4096x1024, .f32⟩ : BufTy).Contents (Elt Ideal)) (g : (⟨S1x1024, .f32⟩ : BufTy).Contents (Elt Ideal))
  (w : (⟨S1024x1024, .f32⟩ : BufTy).Contents (Elt Ideal)) (i : Fin 4)

/-- Row `r` of the product, -/
abbrev row (r : Fin 4096) (k : Fin 1024) : EReal := val_main_v0 (F := Ideal) a w (ix2 r k)
/-- and of its normalisation's cotangent. -/
abbrev cot (r : Fin 4096) (k : Fin 1024) : EReal := (dx (ix2 r k) : EReal) * g (ix2 0 k)

theorem reference_meanSq (i : Cert.Reference11Ideal.S4096x1.Idx) : val_main_v8 (F := Ideal) a w i = meanSq (row a w (i 0)) := by
  rw [val_main_v8_apply, val_main_v6_apply, val_main_v4_apply, val_main_v3_apply, val_main_v5_apply, val_main_v7_apply,
    val_main_cst_apply, val_main_cst_0_apply, val_main_cst_1_apply]
  have e : ∀ k, idx_main_v3 (idx_main_v4 i) k = ix2 (i 0) k := fun k => by funext a; fin_cases a <;> rfl
  simp only [e, val_main_v2_apply, Ideal.mulf_def, Ideal.addf_def, Ideal.hostDivf_def, Ideal.ofBits_def, Ideal.ofBits_zero_f32, zero_add]
  rfl

theorem reference_cot (r : Fin 4096) (q : Fin 1024) : val_main_v19 (F := Ideal) dx g (ix2 r q) = cot dx g r q := by
  rw [val_main_v19_apply, val_main_v18_apply, val_main_v15_apply, val_main_v1_apply]
  have e : idx_main_v1 (idx_main_v15 (idx_main_v18 (ix2 r q))) = ix2 0 q := by
    funext a; fin_cases a
    · rfl
    · exact Fin.ext (Nat.mod_eq_of_lt q.isLt)
  rw [e]; rfl

theorem reference_coef (r : Fin 4096) (q : Fin 1024) : val_main_v29 (F := Ideal) dx a g w (ix2 r q) = coef (row a w r) (cot dx g r) := by
  rw [val_main_v29_apply, val_main_v28_apply, val_main_cst_5_apply, Fin.sum_univ_one, val_main_v27_apply, val_main_v25_apply, val_main_v22_apply,
    val_main_v21_apply, val_main_v12_apply, val_main_v11_apply, val_main_v10_apply, val_main_v9_apply, val_main_v26_apply,
    val_main_cst_2_apply, val_main_cst_3_apply, val_main_cst_4_apply, reference_meanSq]
  have e : ∀ k, idx_main_v21 (idx_main_v22 (idx_main_v28 (idx_main_v29 (ix2 r q)) 0)) k = ix2 r k := fun k => by
    funext a; fin_cases a
    · exact Fin.ext (by show r.val * 1 + 0 = r.val; omega)
    · rfl
  simp only [e, val_main_v20_apply, reference_cot, Ideal.mulf_def, Ideal.addf_def, Ideal.hostDivf_def, Ideal.hostUnary_rsqrt_def, Ideal.ofBits_def, Ideal.ofBits_zero_f32, zero_add]
  rfl

/-- The product's cotangent. -/
theorem reference_grad (r : Fin 4096) (q : Fin 1024) : val_main_v33 (F := Ideal) dx a g w (ix2 r q) = grad (row a w r) (cot dx g r) q := by
  rw [val_main_v33_apply, val_main_v31_apply, val_main_v24_apply, val_main_v30_apply, val_main_v32_apply, val_main_v23_apply, val_main_v9_apply,
    reference_coef, reference_cot, reference_meanSq]
  simp only [Ideal.mulf_def, Ideal.addf_def, Ideal.hostUnary_rsqrt_def]
  rfl

variable {dx a g w} (H : Finite dx a g w)
include H

theorem row_real (r : Fin 4096) (k : Fin 1024) : IsReal (row a w r k) := by
  unfold row
  rw [val_main_v0_apply]
  exact IsReal.sum fun s => (H.a _).mul (H.w _)

theorem grad_at (by_ bd : Vec Ideal S1024x1024 .f32) (hy : ∀ p q : Fin 1024, by_ (ix2 p q) = val_main_v0 (F := Ideal) a w (ix2 (at_ i p) q))
    (hd : ∀ p q : Fin 1024, bd (ix2 p q) = dx (ix2 (at_ i p) q)) (p q : Fin 1024) :
    k0_pay5 by_ g bd (ix2 p q) = val_main_v33 (F := Ideal) dx a g w (ix2 (at_ i p) q) := by
  rw [reference_grad, ← grad_eq (row_real H _) (fun k => (H.dx _).mul (H.g _))]
  unfold k0_pay5 k0_pay4 k0_pay3
  pointwise
  simp only [hy p, hd p]
  rfl

theorem heads_at (by_ bd : Vec Ideal S1024x1024 .f32) (v : Vec Ideal S1024x1024 .bf16)
    (hy : ∀ p q : Fin 1024, by_ (ix2 p q) = val_main_v0 (F := Ideal) a w (ix2 (at_ i p) q))
    (hd : ∀ p q : Fin 1024, bd (ix2 p q) = dx (ix2 (at_ i p) q)) (hv : ∀ p q : Fin 1024, v (ix2 p q) = w (ix2 p q)) (p q : Fin 1024) :
    k0_pay6 by_ g bd v (ix2 p q) = val_main_v34 (F := Ideal) dx a g w (ix2 (at_ i p) q) := by
  rw [val_main_v34_apply]
  unfold k0_pay6
  pointwise
  refine Finset.sum_congr rfl fun k _ => congrArg₂ (fun a b : EReal => a * b) ((grad_at i H by_ bd hy hd p k).trans (congrArg _ ?_))
    ((hv q k).trans (congrArg w ?_)) <;> (funext a; fin_cases a <;> rfl)

end

/-! ## The result arrays -/

section
variable {m : (ℓ : Loc nD τ sig) → Buf (Elt Ideal) ℓ} {c : Dev nD} (H : Finite (m ((c : Thread nD τ).loc main_arg0)) (m ((c : Thread nD τ).loc main_arg1))
    (m ((c : Thread nD τ).loc main_arg2)) (m ((c : Thread nD τ).loc main_arg3)))
include H

theorem final_4 : (dats m 0 c).arrAt 4 cfg0.N = val_main_v34 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, after_4, read_g]
  have e : (win0_4.blk t).view.emb y = ix2 (at_ t (y 0)) (y 1) := by blk_ext [idx t]
  rw [e]
  exact (congrArg _ (eq_ix2 y)).trans (heads_at t H _ _ _ (read_y m c t) (read_dx m c t) (read_w m c t) (y 0) (y 1))

theorem final_5 : (dats m 0 c).arrAt 5 cfg0.N = val_main_v35 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5, after_5, read_g]
  have e : (win0_5.blk t).view.emb y = ix2 (at_ t (y 0)) (y 1) := by blk_ext [idx t]
  rw [e]
  exact (congrArg _ (eq_ix2 y)).trans (grad_at t H _ _ (read_y m c t) (read_dx m c t) (y 0) (y 1))

end

/-- The reference ends with its arguments unchanged; it has no semaphore. -/
theorem reference_frame : Cert.quiescent_Reference11Ideal := fun m g _ =>
  (θ_run Cert.Reference11Ideal.defs _ _).mono (fun _ h => ⟨fun c => (h c).2.2, funext fun s => nomatch s⟩) (Cert.Reference11Ideal.Value.run m g)

/-- The run with the two results named; the third, the gain's gradient, is not compared. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = (dats m 0 c).arrAt 4 cfg0.N
      ∧ r.2.mem ((c.tc : Thread nD τ).loc main_v2_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2.1, (h c).2.2.2⟩) (Cert.Kernel11Ideal.Value.run_blocks m ρ)

/-- Kernel and reference end with equal results on equal arguments that meet the precondition. -/
theorem algebraic : Cert.algebraic_Kernel11Ideal_Reference11Ideal_pre_projection_inputs_finite := by
  pair_intro
  · run_from run_arrays m g
  · refine (θ_run Cert.Reference11Ideal.defs _ _).mono (fun r h c => ?_) (Cert.Reference11Ideal.Value.run (F := Ideal) m' g')
    obtain ⟨a0, a1, a2, a3⟩ := hagree c
    have H := finite _ _ _ _ (hpre c)
    obtain ⟨h0, h1, hargs⟩ := h c
    refine ⟨?_, ?_, hargs⟩
    · rw [final_4 H, ← a0, ← a1, ← a2, ← a3]
      exact h0.trans (val_main_v34_eq _ _)
    · rw [final_5 H, ← a0, ← a1, ← a2, ← a3]
      exact h1.trans (val_main_v35_eq _ _)

end Cert.Proj.OutGrad

end
-- ==== Proof.FfnGrad.Run.lean ====
/- What one grid point of the channel mixer's gradient does to its windows and to its scratch buffer: the body at any point, the
   product's cotangent kept in window 9 and the normalised rows' cotangent summed in the scratch buffer from the row tile's first
   point to its last, the gains' partial sums in windows 11 and 12. -/
module

public import proofs.«01_k».proof.Defs
public import proofs.«01_k».proof.Proof.Gen.Kernel8Ideal.Skeleton
public import proofs.«01_k».proof.Proof.Gen.Kernel8Ideal.Frame
public import Idealize.ShloMosaic.Lib.VecWindow
public import Idealize.ShloMosaic.Lib.Pipeline.TableIdle

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

/-- The point is the first of its row tile. -/
abbrev First (i : grid0.Coords) : Prop := k0_cond1 i = 1#1

/-- The point is the last of its row tile. -/
abbrev Last (i : grid0.Coords) : Prop := k0_cond6 i = 1#1

/-- The point is one of the first row tile. -/
abbrev Start (i : grid0.Coords) : Prop := k0_cond2 i = 1#1

open Classical in
/-- The cotangent of the second product after a point. -/
def cot (i : grid0.Coords) (x0 x2 : Vec F S512x1024 .f32) (x7 : Vec F S1x1024 .f32) (y9 : Vec F S512x1024 .bf16) : Vec F S512x1024 .bf16 :=
  if First i then k0_pay4 x2 x7 x0 else y9

open Classical in
/-- The cotangent of the normalised rows after a point, from that of the second product. -/
def back (i : grid0.Coords) (d : Vec F S512x1024 .bf16) (x3 : Vec F S1x512x1024 .bf16) (x5 x6 : Vec F S1024x1024 .bf16)
    (y13 : Vec F S512x1024 .f32) : Vec F S512x1024 .f32 :=
  if First i then k0_pay13 d x6 x3 x5 else k0_pay14 d x6 x3 x5 y13

open Classical in
/-- The cotangent of the sub-layer's input after a point, from that of the normalised rows. -/
def result (i : grid0.Coords) (x0 x1 : Vec F S512x1024 .f32) (x4 : Vec F S1x1024 .f32) (a y8 : Vec F S512x1024 .f32) : Vec F S512x1024 .f32 :=
  if Last i then k0_pay7 x1 x4 a x0 else y8

open Classical in
/-- The first gain's partial sums after a point, from the cotangent of the normalised rows. -/
def gain (i : grid0.Coords) (x1 a : Vec F S512x1024 .f32) (y11 : Vec F S8x1024 .f32) : Vec F S8x1024 .f32 :=
  if Last i then (if Start i then k0_pay8 x1 a else k0_pay1 (k0_pay8 x1 a) y11) else y11

open Classical in
/-- The second gain's partial sums after a point. -/
def gain' (i : grid0.Coords) (x0 x2 : Vec F S512x1024 .f32) (y12 : Vec F S8x1024 .f32) : Vec F S8x1024 .f32 :=
  if First i then (if Start i then k0_pay5 x2 x0 else k0_pay9 (k0_pay5 x2 x0) y12) else y12

set_option maxHeartbeats 16000000 in
/-- The body at any point, on whole staging buffers: the inputs end as they were, the outputs at `result`, `cot`, this step's
    hidden channels' cotangent, `gain` and `gain'`, the scratch buffer at `back`. -/
theorem run (c : Dev nD) (i : grid0.Coords)
    (arg2 : Memref sig .tc .vmem S512x1024 .f32) (harg2 : arg2.IsWhole)
    (arg3 : Memref sig .tc .vmem S512x1024 .f32) (harg3 : arg3.IsWhole)
    (arg4 : Memref sig .tc .vmem S512x1024 .f32) (harg4 : arg4.IsWhole)
    (arg5 : Memref sig .tc .vmem S1x512x1024 .bf16) (harg5 : arg5.IsWhole)
    (arg6 : Memref sig .tc .vmem S1x1024 .f32) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1x1024 .f32) (harg9 : arg9.IsWhole)
    (arg10 : Memref sig .tc .vmem S512x1024 .f32) (harg10 : arg10.IsWhole)
    (arg11 : Memref sig .tc .vmem S512x1024 .bf16) (harg11 : arg11.IsWhole)
    (arg12 : Memref sig .tc .vmem S1x512x1024 .bf16) (harg12 : arg12.IsWhole)
    (arg13 : Memref sig .tc .vmem S8x1024 .f32) (harg13 : arg13.IsWhole)
    (arg14 : Memref sig .tc .vmem S8x1024 .f32) (harg14 : arg14.IsWhole)
    (arg15 : Memref sig .tc .vmem S512x1024 .f32) (harg15 : arg15.IsWhole)
    (hfl : First i → ¬Last i) (hc3 : k0_cond3 i = 1#1 ↔ ¬Start i) (hc7 : k0_cond7 i = 1#1 ↔ Start i) (hc8 : k0_cond8 i = 1#1 ↔ ¬Start i)
    (hc4 : Scalar.cmpi .ne (Scalar.extui (Scalar.cmpi .eq (BitVec.ofNat 32 (i 1).val) 0#32)) 0#32 = 1#1 ↔ First i)
    (hc5 : Scalar.cmpi .ne (Scalar.extui (Scalar.cmpi .sgt (BitVec.ofNat 32 (i 1).val) 0#32)) 0#32 = 1#1 ↔ ¬First i)
    (x0 x1 x2 : Vec F S512x1024 .f32) (x3 : Vec F S1x512x1024 .bf16) (x4 : Vec F S1x1024 .f32) (x5 x6 : Vec F S1024x1024 .bf16) (x7 : Vec F S1x1024 .f32)
    (y8 : Vec F S512x1024 .f32) (y9 : Vec F S512x1024 .bf16) (y11 y12 : Vec F S8x1024 .f32) (y13 : Vec F S512x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ owns (c : Thread nD τ) arg10 fullShare y8 ∗ owns (c : Thread nD τ) arg11 fullShare y9 ∗ (∃ d, owns (c : Thread nD τ) arg12 fullShare d) ∗ owns (c : Thread nD τ) arg13 fullShare y11 ∗ owns (c : Thread nD τ) arg14 fullShare y12 ∗ owns (c : Thread nD τ) arg15 fullShare y13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare (result i x0 x1 x4 (back i (cot i x0 x2 x7 y9) x3 x5 x6 y13) y8)
            ∗ owns (c : Thread nD τ) arg11 fullShare (cot i x0 x2 x7 y9)
            ∗ owns (c : Thread nD τ) arg12 fullShare (k0_pay11 (cot i x0 x2 x7 y9) x6 x3)
            ∗ owns (c : Thread nD τ) arg13 fullShare (gain i x1 (back i (cot i x0 x2 x7 y9) x3 x5 x6 y13) y11)
            ∗ owns (c : Thread nD τ) arg14 fullShare (gain' i x0 x2 y12)
            ∗ owns (c : Thread nD τ) arg15 fullShare (back i (cot i x0 x2 x7 y9) x3 x5 x6 y13)) -∗ K ⟨⟩))
      ⊢ wp frame (wpE (defs₀ (F := F)) Variants.none c none) E
          (cc0_ffn_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_eq_skeleton]; unfold cc0_ffn_bwd_skel
  simp only [k0_part3_eq_skeleton, k0_part2_eq_skeleton]; unfold k0_part3_skel k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13
  by_cases h1 : First i <;> by_cases h6 : Last i <;> by_cases h2 : Start i
  all_goals try exact absurd h6 (hfl h1)
  all_goals
    first
      | have h4 := hc4.mpr h1
        have h5 := fun h => hc5.mp h h1
      | have h4 := fun h => h1 (hc4.mp h)
        have h5 := hc5.mpr h1
    first
      | have h3 : ¬k0_cond3 i = 1#1 := fun h => hc3.mp h h2
        have h7 : k0_cond7 i = 1#1 := hc7.mpr h2
        have h8 : ¬k0_cond8 i = 1#1 := fun h => hc8.mp h h2
      | have h3 : k0_cond3 i = 1#1 := hc3.mpr h2
        have h7 : ¬k0_cond7 i = 1#1 := fun h => h2 (hc7.mp h)
        have h8 : k0_cond8 i = 1#1 := hc8.mpr h2
    sl_exec (disch := first | sl_exact h1 | sl_exact h2 | sl_exact h3 | sl_exact h4 | sl_exact h5 | sl_exact h6 | sl_exact h7 | sl_exact h8)
  all_goals
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; rotate_left
    isplitl [H9]; rotate_left
    isplitl [H10]; rotate_left
    isplitl [H11]; rotate_left
    isplitl [H12]; rotate_left
    all_goals
      iexists _; isplitr; swap
      first | iexact H8 | iexact H9 | iexact H10 | iexact H11 | iexact H12 | iexact H13
      ipureintro
      try delta run.sl.v3
      try delta run.sl.v3_1
      try delta run.sl.v33
      try delta run.sl.v33_1
      try delta run.sl.H9_1
      try delta run.sl.H9_1_1
      try delta run.sl.H13_1
      try delta run.sl.H13_1_1
      try rw [View.read_writes_full]
      repeat rw [View.readCov_full]
      repeat rw [View.readAt_full]
      simp only [result, gain, gain', back, cot, hf0, hf1, hf2, hf3, hf4, hf5, hf6, hf7, hf8, hf9, hf11, hf12, hf13]
      repeat first | rw [if_pos h1] | rw [if_neg h1] | rw [if_pos h6] | rw [if_neg h6] | rw [if_pos h2] | rw [if_neg h2]

end Cert.FfnGrad

end
-- ==== Proof.FfnGrad.Frame.lean ====
/- The run of the channel mixer's gradient (custom_call 0 of Kernel8Ideal): what each point leaves in the windows and in the scratch
   buffer, the body at every grid point, the run, and from it both frames, at any float values. -/
module

public import proofs.«01_k».proof.Proof.FfnGrad.Run
public import Idealize.ShloMosaic.Lib.Claim

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at the grid's points -/

/-- Point `t` is the first of its row tile when it is ≡ 0 (mod 4), -/
theorem first_iff : ∀ t : Fin cfg0.N, First (grid0.coords t) ↔ t.val % 4 = 0 :=
  (by decide +kernel : ∀ t : Fin grid0.N, First (grid0.coords t) ↔ t.val % 4 = 0)
/-- and the last when it is ≡ 3. -/
theorem last_iff : ∀ t : Fin cfg0.N, Last (grid0.coords t) ↔ t.val % 4 = 3 :=
  (by decide +kernel : ∀ t : Fin grid0.N, Last (grid0.coords t) ↔ t.val % 4 = 3)
/-- The first row tile is the first four points. -/
theorem start_iff : ∀ t : Fin cfg0.N, Start (grid0.coords t) ↔ t.val < 4 :=
  (by decide +kernel : ∀ t : Fin grid0.N, Start (grid0.coords t) ↔ t.val < 4)
theorem cond3_iff : ∀ t : Fin cfg0.N, k0_cond3 (grid0.coords t) = 1#1 ↔ ¬Start (grid0.coords t) :=
  (by decide +kernel : ∀ t : Fin grid0.N, k0_cond3 (grid0.coords t) = 1#1 ↔ ¬Start (grid0.coords t))
theorem cond7_iff : ∀ t : Fin cfg0.N, k0_cond7 (grid0.coords t) = 1#1 ↔ Start (grid0.coords t) :=
  (by decide +kernel : ∀ t : Fin grid0.N, k0_cond7 (grid0.coords t) = 1#1 ↔ Start (grid0.coords t))
theorem cond8_iff : ∀ t : Fin cfg0.N, k0_cond8 (grid0.coords t) = 1#1 ↔ ¬Start (grid0.coords t) :=
  (by decide +kernel : ∀ t : Fin grid0.N, k0_cond8 (grid0.coords t) = 1#1 ↔ ¬Start (grid0.coords t))
theorem cond4_iff : ∀ t : Fin cfg0.N, Scalar.cmpi .ne (Scalar.extui (Scalar.cmpi .eq (BitVec.ofNat 32 ((grid0.coords t) 1).val) 0#32)) 0#32 = 1#1 ↔ First (grid0.coords t) :=
  (by decide +kernel : ∀ t : Fin grid0.N, Scalar.cmpi .ne (Scalar.extui (Scalar.cmpi .eq (BitVec.ofNat 32 ((grid0.coords t) 1).val) 0#32)) 0#32 = 1#1 ↔ First (grid0.coords t))
theorem cond5_iff : ∀ t : Fin cfg0.N, Scalar.cmpi .ne (Scalar.extui (Scalar.cmpi .sgt (BitVec.ofNat 32 ((grid0.coords t) 1).val) 0#32)) 0#32 = 1#1 ↔ ¬First (grid0.coords t) :=
  (by decide +kernel : ∀ t : Fin grid0.N, Scalar.cmpi .ne (Scalar.extui (Scalar.cmpi .sgt (BitVec.ofNat 32 ((grid0.coords t) 1).val) 0#32)) 0#32 = 1#1 ↔ ¬First (grid0.coords t))

/-- The input's cotangent is stored at a row tile's last point only, -/
theorem idle_8 : ∀ t : Fin cfg0.N, cfg0.idle 8 (grid0.coords t) = !decide (t.val % 4 = 3) :=
  (by decide +kernel : ∀ t : Fin grid0.N, idle0 8 (grid0.coords t) = !decide (t.val % 4 = 3))
/-- the product's at the first point only, -/
theorem idle_9 : ∀ t : Fin cfg0.N, cfg0.idle 9 (grid0.coords t) = !decide (t.val % 4 = 0) :=
  (by decide +kernel : ∀ t : Fin grid0.N, idle0 9 (grid0.coords t) = !decide (t.val % 4 = 0))
/-- the hidden channels' at every point, -/
theorem idle_10 : ∀ t : Fin cfg0.N, cfg0.idle 10 (grid0.coords t) = false :=
  (by decide +kernel : ∀ t : Fin grid0.N, idle0 10 (grid0.coords t) = false)
/-- the first gain's partial sums at a row tile's last point only, -/
theorem idle_11 : ∀ t : Fin cfg0.N, cfg0.idle 11 (grid0.coords t) = !decide (t.val % 4 = 3) :=
  (by decide +kernel : ∀ t : Fin grid0.N, idle0 11 (grid0.coords t) = !decide (t.val % 4 = 3))
/-- the second gain's at the first point only. -/
theorem idle_12 : ∀ t : Fin cfg0.N, cfg0.idle 12 (grid0.coords t) = !decide (t.val % 4 = 0) :=
  (by decide +kernel : ∀ t : Fin grid0.N, idle0 12 (grid0.coords t) = !decide (t.val % 4 = 0))

/-! ## What each point leaves -/

/-- The product's cotangent after point `n`. -/
def cots (c : Dev nD) : (n : ℕ) → n < cfg0.N → Vec F S512x1024 .bf16
  | 0, h => k0_pay4 (iblk m c 2 ⟨0, h⟩) (iblk m c 7 ⟨0, h⟩) (iblk m c 0 ⟨0, h⟩)
  | n + 1, h => cot (grid0.coords ⟨n + 1, h⟩) (iblk m c 0 ⟨n + 1, h⟩) (iblk m c 2 ⟨n + 1, h⟩) (iblk m c 7 ⟨n + 1, h⟩) (cots c n (by omega))

/-- The scratch buffer after point `n`: the normalised rows' cotangent, summed over the steps so far. -/
def backs (c : Dev nD) : (n : ℕ) → n < cfg0.N → Vec F S512x1024 .f32
  | 0, h => k0_pay13 (cots m c 0 h) (iblk m c 6 ⟨0, h⟩) (iblk m c 3 ⟨0, h⟩) (iblk m c 5 ⟨0, h⟩)
  | n + 1, h => back (grid0.coords ⟨n + 1, h⟩) (cots m c (n + 1) h) (iblk m c 3 ⟨n + 1, h⟩) (iblk m c 5 ⟨n + 1, h⟩) (iblk m c 6 ⟨n + 1, h⟩) (backs c n (by omega))

/-- The first gain's partial sums after point `n`; before a row tile is finished nothing is stored yet. -/
def gains (c : Dev nD) : (n : ℕ) → n < cfg0.N → Vec F S8x1024 .f32
  | 0, h => k0_pay8 (iblk m c 1 ⟨0, h⟩) (backs m c 0 h)
  | n + 1, h => gain (grid0.coords ⟨n + 1, h⟩) (iblk m c 1 ⟨n + 1, h⟩) (backs m c (n + 1) h) (gains c n (by omega))

/-- The second gain's partial sums after point `n`. -/
def gains' (c : Dev nD) : (n : ℕ) → n < cfg0.N → Vec F S8x1024 .f32
  | 0, h => k0_pay5 (iblk m c 2 ⟨0, h⟩) (iblk m c 0 ⟨0, h⟩)
  | n + 1, h => gain' (grid0.coords ⟨n + 1, h⟩) (iblk m c 0 ⟨n + 1, h⟩) (iblk m c 2 ⟨n + 1, h⟩) (gains' c n (by omega))

theorem cots_first (c : Dev nD) (t : Fin cfg0.N) (h : t.val % 4 = 0) : cots m c t.val t.isLt = k0_pay4 (iblk m c 2 t) (iblk m c 7 t) (iblk m c 0 t) := by
  obtain ⟨n, hn⟩ := t
  cases n with
  | zero => rfl
  | succ n => exact if_pos ((first_iff ⟨n + 1, hn⟩).mpr h)

theorem cots_next (c : Dev nD) (t : Fin cfg0.N) (h : ¬t.val % 4 = 0) :
    cots m c t.val t.isLt = cots m c (t.val - 1) (Nat.lt_of_le_of_lt (Nat.sub_le _ _) t.isLt) := by
  obtain ⟨n, hn⟩ := t
  cases n with
  | zero => exact absurd (Nat.zero_mod _) h
  | succ n => exact if_neg fun h' => h ((first_iff ⟨n + 1, hn⟩).mp h')

theorem backs_first (c : Dev nD) (t : Fin cfg0.N) (h : t.val % 4 = 0) : backs m c t.val t.isLt = k0_pay13 (cots m c t.val t.isLt) (iblk m c 6 t) (iblk m c 3 t) (iblk m c 5 t) := by
  obtain ⟨n, hn⟩ := t
  cases n with
  | zero => rfl
  | succ n => exact if_pos ((first_iff ⟨n + 1, hn⟩).mpr h)

theorem backs_next (c : Dev nD) (t : Fin cfg0.N) (h : ¬t.val % 4 = 0) :
    backs m c t.val t.isLt = k0_pay14 (cots m c t.val t.isLt) (iblk m c 6 t) (iblk m c 3 t) (iblk m c 5 t)
      (backs m c (t.val - 1) (Nat.lt_of_le_of_lt (Nat.sub_le _ _) t.isLt)) := by
  obtain ⟨n, hn⟩ := t
  cases n with
  | zero => exact absurd (Nat.zero_mod _) h
  | succ n => exact if_neg fun h' => h ((first_iff ⟨n + 1, hn⟩).mp h')

theorem gains'_next (c : Dev nD) (t : Fin cfg0.N) (h : ¬t.val % 4 = 0) :
    gains' m c t.val t.isLt = gains' m c (t.val - 1) (Nat.lt_of_le_of_lt (Nat.sub_le _ _) t.isLt) := by
  obtain ⟨n, hn⟩ := t
  cases n with
  | zero => exact absurd (Nat.zero_mod _) h
  | succ n => exact if_neg fun h' => h ((first_iff ⟨n + 1, hn⟩).mp h')

theorem gains_next (c : Dev nD) (t : Fin cfg0.N) (h0 : t.val ≠ 0) (h : ¬t.val % 4 = 3) : gains m c t.val t.isLt = gains m c (t.val - 1) (Nat.lt_of_le_of_lt (Nat.sub_le _ _) t.isLt) := by
  obtain ⟨n, hn⟩ := t
  cases n with
  | zero => exact absurd rfl h0
  | succ n => exact if_neg fun h' => h ((last_iff ⟨n + 1, hn⟩).mp h')

/-- The scratch buffer. -/
abbrev scratch : Memref sig .tc .vmem S512x1024 .f32 := Memref.whole cc0_scratch0

/-- What is carried from point to point: before the first point the scratch buffer at anything, then at `backs`; the generator's state. -/
def carried (c : Dev nD) : (n : ℕ) → n ≤ cfg0.N → sProp 𝕄
  | 0, _ => Pipeline.ΦA spec0 c
  | n + 1, hn => iprop(iprop(owns (c : Thread nD τ) scratch fullShare (backs m c n hn)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scratch fullShare (backs m c n hn)) ∗ (∃ r, prngReg c r)) := rfl

theorem carried_pos (c : Dev nD) (n : ℕ) (h : n ≤ cfg0.N) (hz : n ≠ 0) :
    carried m c n h = iprop(iprop(owns (c : Thread nD τ) scratch fullShare (backs m c (n - 1) (by omega))) ∗ (∃ r, prngReg c r)) := by
  obtain ⟨n, rfl⟩ := Nat.exists_eq_succ_of_ne_zero hz; rfl

theorem start_eq (c : Dev nD) : (Pipeline.ΦA spec0 c : sProp 𝕄)
    = iprop(iprop((∃ d, owns (c : Thread nD τ) scratch fullShare d)) ∗ (∃ r, prngReg c r)) := by
  unfold Pipeline.ΦA
  rw [scopedRest0_eq]
  simp only [scratch, owns_whole]
  try rfl

/-- The proof data: the arrays as the region finds them; after each point the inputs at their blocks, the outputs at the
    cotangents and the gains' partial sums; the scratch buffer in the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay7 (iblk m c 1 t) (iblk m c 4 t) (backs m c t.val t.isLt) (iblk m c 0 t)
    | ⟨9, _⟩ => cots m c t.val t.isLt
    | ⟨10, _⟩ => k0_pay11 (cots m c t.val t.isLt) (iblk m c 6 t) (iblk m c 3 t)
    | ⟨11, _⟩ => gains m c t.val t.isLt
    | ⟨12, _⟩ => gains' m c t.val t.isLt
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) : (dats m 0 c).Φ t.castSucc = carried m c t.val (Nat.le_of_lt t.isLt) := by
  dsimp only [dats]; exact Pipeline.Dat.Φ_castSucc (carried m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = k0_pay7 (iblk m c 1 t) (iblk m c 4 t) (backs m c t.val t.isLt) (iblk m c 0 t) := by dsimp only [dats]
theorem after_9 (c : Dev nD) (t : Fin cfg0.N) : (dats m 0 c).after 9 t = cots m c t.val t.isLt := by dsimp only [dats]
theorem after_10 (c : Dev nD) (t : Fin cfg0.N) : (dats m 0 c).after 10 t = k0_pay11 (cots m c t.val t.isLt) (iblk m c 6 t) (iblk m c 3 t) := by dsimp only [dats]
theorem after_11 (c : Dev nD) (t : Fin cfg0.N) : (dats m 0 c).after 11 t = gains m c t.val t.isLt := by dsimp only [dats]
theorem after_12 (c : Dev nD) (t : Fin cfg0.N) : (dats m 0 c).after 12 t = gains' m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- Window 9 holds a row tile's cotangent from its first point on, -/
theorem fresh_9 (n : ℕ) (h : n ≤ cfg0.N) : cfg0.fresh 9 n = decide (n % 4 = 0) :=
  Pipeline.Cfg.fresh_tab cfg0 9 (fun n => decide (n % 4 = 0)) (by decide)
    (by decide +kernel : ∀ t : Fin grid0.N, decide ((t.val + 1) % 4 = 0)
      = ((win0 9).flush t || (idle0 9 (grid0.coords t) && decide (t.val % 4 = 0)))) n h

/-- window 11 the first gain's partial sums from the first row tile's last point on, -/
theorem fresh_11 (n : ℕ) (h : n ≤ cfg0.N) : cfg0.fresh 11 n = decide (n < 4 ∨ n = 32) :=
  Pipeline.Cfg.fresh_tab cfg0 11 (fun n => decide (n < 4 ∨ n = 32)) (by decide)
    (by decide +kernel : ∀ t : Fin grid0.N, decide (t.val + 1 < 4 ∨ t.val + 1 = 32)
      = ((win0 11).flush t || (idle0 11 (grid0.coords t) && decide (t.val < 4 ∨ t.val = 32)))) n h

/-- window 12 the second gain's from the first point on. -/
theorem fresh_12 (n : ℕ) (h : n ≤ cfg0.N) : cfg0.fresh 12 n = decide (n = 0 ∨ n = 32) :=
  Pipeline.Cfg.fresh_tab cfg0 12 (fun n => decide (n = 0 ∨ n = 32)) (by decide)
    (by decide +kernel : ∀ t : Fin grid0.N, decide (t.val + 1 = 0 ∨ t.val + 1 = 32)
      = ((win0 12).flush t || (idle0 12 (grid0.coords t) && decide (t.val = 0 ∨ t.val = 32)))) n h

theorem before_9 (c : Dev nD) (t : Fin cfg0.N) (h : ¬t.val % 4 = 0) (d) :
    (dats m 0 c).before 9 t d = cots m c (t.val - 1) (Nat.lt_of_le_of_lt (Nat.sub_le _ _) t.isLt) := by
  have hn : t.val < 32 := t.isLt
  rw [Dat.before_out_traj _ 9 rfl (fun _ _ => rfl) (fun t h0 hi _ => by
      rw [idle_9 t] at hi; rw [after_9, after_9]; exact cots_next m c t (by simpa using hi)) t.val t rfl d,
    if_neg (by rw [fresh_9 t.val (Nat.le_of_lt t.isLt), decide_eq_true_eq]; omega), after_9]

theorem before_11 (c : Dev nD) (t : Fin cfg0.N) (h : ¬t.val < 4) (d) :
    (dats m 0 c).before 11 t d = gains m c (t.val - 1) (Nat.lt_of_le_of_lt (Nat.sub_le _ _) t.isLt) := by
  have hn : t.val < 32 := t.isLt
  rw [Dat.before_out_traj _ 11 rfl (fun _ _ => rfl) (fun t h0 hi _ => by
      rw [idle_11 t] at hi; rw [after_11, after_11]; exact gains_next m c t h0 (by simpa using hi)) t.val t rfl d,
    if_neg (by rw [fresh_11 t.val (Nat.le_of_lt t.isLt), decide_eq_true_eq]; omega), after_11]

theorem before_12 (c : Dev nD) (t : Fin cfg0.N) (h : ¬t.val = 0) (d) :
    (dats m 0 c).before 12 t d = gains' m c (t.val - 1) (Nat.lt_of_le_of_lt (Nat.sub_le _ _) t.isLt) := by
  have hn : t.val < 32 := t.isLt
  rw [Dat.before_out_traj _ 12 rfl (fun _ _ => rfl) (fun t h0 hi _ => by
      rw [idle_12 t] at hi; rw [after_12, after_12]; exact gains'_next m c t (by simpa using hi)) t.val t rfl d,
    if_neg (by rw [fresh_12 t.val (Nat.le_of_lt t.isLt), decide_eq_true_eq]; omega), after_12]

/-- The body's cotangent of the product is `cots`, -/
theorem cot_eq (c : Dev nD) (t : Fin cfg0.N) (d) : cot (grid0.coords t) (iblk m c 0 t) (iblk m c 2 t) (iblk m c 7 t) ((dats m 0 c).before 9 t d) = cots m c t.val t.isLt := by
  by_cases h : t.val % 4 = 0
  · rw [cots_first m c t h]; exact if_pos ((first_iff t).mpr h)
  · rw [cots_next m c t h, before_9 m c t h]; exact if_neg fun h' => h ((first_iff t).mp h')

/-- what it leaves in the scratch buffer `backs`: at a row tile's first point from anything, -/
theorem back_first (c : Dev nD) (t : Fin cfg0.N) (h : t.val % 4 = 0) (d : Vec F S512x1024 .f32) :
    back (grid0.coords t) (cots m c t.val t.isLt) (iblk m c 3 t) (iblk m c 5 t) (iblk m c 6 t) d = backs m c t.val t.isLt := by
  rw [backs_first m c t h]; exact if_pos ((first_iff t).mpr h)

/-- later from what the point before left, -/
theorem back_eq (c : Dev nD) (t : Fin cfg0.N) :
    back (grid0.coords t) (cots m c t.val t.isLt) (iblk m c 3 t) (iblk m c 5 t) (iblk m c 6 t) (backs m c (t.val - 1) (Nat.lt_of_le_of_lt (Nat.sub_le _ _) t.isLt)) = backs m c t.val t.isLt := by
  by_cases h : t.val % 4 = 0
  · exact back_first m c t h _
  · rw [backs_next m c t h]; exact if_neg fun h' => h ((first_iff t).mp h')

/-- and the second gain's partial sums are `gains'`. -/
theorem gain'_eq (c : Dev nD) (t : Fin cfg0.N) (d) : gain' (grid0.coords t) (iblk m c 0 t) (iblk m c 2 t) ((dats m 0 c).before 12 t d) = gains' m c t.val t.isLt := by
  by_cases h0 : t.val = 0
  · obtain ⟨n, hn⟩ := t
    obtain rfl : n = 0 := h0
    exact (if_pos ((first_iff ⟨0, hn⟩).mpr rfl)).trans (if_pos ((start_iff ⟨0, hn⟩).mpr (Nat.zero_lt_succ 3)))
  · rw [before_12 m c t h0]
    obtain ⟨n, hn⟩ := t
    cases n with
    | zero => exact absurd rfl h0
    | succ n => rfl

/-- At a row tile's last point so are the first gain's `gains`. -/
theorem gain_eq (c : Dev nD) (t : Fin cfg0.N) (h : t.val % 4 = 3) (d) :
    gain (grid0.coords t) (iblk m c 1 t) (backs m c t.val t.isLt) ((dats m 0 c).before 11 t d) = gains m c t.val t.isLt := by
  by_cases h4 : t.val < 4
  · obtain ⟨n, hn⟩ := t
    cases n with
    | zero => exact absurd (show 0 % 4 = 3 from h) (by decide)
    | succ n =>
      unfold gains gain
      rw [if_pos ((last_iff ⟨n + 1, hn⟩).mpr h), if_pos ((start_iff ⟨n + 1, hn⟩).mpr h4)]
      exact ((if_pos ((last_iff ⟨n + 1, hn⟩).mpr h)).trans (if_pos ((start_iff ⟨n + 1, hn⟩).mpr h4))).symm
  · rw [before_11 m c t h4]
    obtain ⟨n, hn⟩ := t
    cases n with
    | zero => exact absurd (show 0 % 4 = 3 from h) (by decide)
    | succ n => rfl

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t ∗ (dats m 0 c).leavesExact 11 t ∗ (dats m 0 c).leavesExact 12 t)

/-- An output at its named contents is what a live point, or a point that is written back, leaves. -/
theorem leaves_live (c : Dev nD) (w : Fin cfg0.W) (t : Fin cfg0.N)
    (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases hi : cfg0.idle w (cfg0.grid.coords t)
    · rfl
    · rw [h]

/-- The input's cotangent's window after a point, -/
theorem leaves_8 (c : Dev nD) (t : Fin cfg0.N) (d) :
    owns (c : Thread nD τ) (win0_8.stage (cfg0.slots t 8)) fullShare (result (grid0.coords t) (iblk m c 0 t) (iblk m c 1 t) (iblk m c 4 t) (backs m c t.val t.isLt) ((dats m 0 c).before 8 t d))
      ⊢ ((dats m 0 c).leavesExact 8 t : sProp 𝕄) := by
  by_cases h : t.val % 4 = 3
  · rw [leaves_live m c 8 t (.inl (by rw [idle_8 t]; simpa using h)), after_8,
      show result (grid0.coords t) (iblk m c 0 t) (iblk m c 1 t) (iblk m c 4 t) (backs m c t.val t.isLt) ((dats m 0 c).before 8 t d)
        = k0_pay7 (iblk m c 1 t) (iblk m c 4 t) (backs m c t.val t.isLt) (iblk m c 0 t) from if_pos ((last_iff t).mpr h)]
  · rw [Dat.leavesExact_idle (dats m 0 c) 8 t (by rw [idle_8 t]; simpa using h) (Bool.eq_false_iff.mpr fun h' => h ((flush0_8 t).mp h')),
      show result (grid0.coords t) (iblk m c 0 t) (iblk m c 1 t) (iblk m c 4 t) (backs m c t.val t.isLt) ((dats m 0 c).before 8 t d)
        = (dats m 0 c).before 8 t d from if_neg fun h' => h ((last_iff t).mp h')]
    iintro H; iexists _; iexact H

/-- the product's cotangent's, -/
theorem leaves_9 (c : Dev nD) (t : Fin cfg0.N) (d : (cfg0.win 9).block.Idx → Elt F (cfg0.win 9).elt) :
    owns (c : Thread nD τ) (win0_9.stage (cfg0.slots t 9)) fullShare (cots m c t.val t.isLt) ⊢ ((dats m 0 c).leavesExact 9 t : sProp 𝕄) := by
  by_cases h : t.val % 4 = 0
  · rw [leaves_live m c 9 t (.inl (by rw [idle_9 t]; simpa using h)), after_9]
  · by_cases h3 : t.val % 4 = 3
    · rw [leaves_live m c 9 t (.inr ((flush0_9 t).mpr h3)), after_9]
    · rw [Dat.leavesExact_idle (dats m 0 c) 9 t (by rw [idle_9 t]; simpa using h) (Bool.eq_false_iff.mpr fun h' => h3 ((flush0_9 t).mp h')),
        cots_next m c t h]
      iintro H; iexists d; rw [before_9 m c t h d]; iexact H

/-- and the gains' partial sums'. -/
theorem leaves_11 (c : Dev nD) (t : Fin cfg0.N) (d) :
    owns (c : Thread nD τ) (win0_11.stage (cfg0.slots t 11)) fullShare (gain (grid0.coords t) (iblk m c 1 t) (backs m c t.val t.isLt) ((dats m 0 c).before 11 t d))
      ⊢ ((dats m 0 c).leavesExact 11 t : sProp 𝕄) := by
  by_cases h : t.val % 4 = 3
  · rw [leaves_live m c 11 t (.inl (by rw [idle_11 t]; simpa using h)), after_11, gain_eq m c t h]
  · rw [Dat.leavesExact_idle (dats m 0 c) 11 t (by rw [idle_11 t]; simpa using h)
        (Bool.eq_false_iff.mpr fun h' => h (by have := (flush0_11 t).mp h'; omega)),
      show gain (grid0.coords t) (iblk m c 1 t) (backs m c t.val t.isLt) ((dats m 0 c).before 11 t d)
        = (dats m 0 c).before 11 t d from if_neg fun h' => h ((last_iff t).mp h')]
    iintro H; iexists _; iexact H

theorem leaves_12 (c : Dev nD) (t : Fin cfg0.N) (d : (cfg0.win 12).block.Idx → Elt F (cfg0.win 12).elt) :
    owns (c : Thread nD τ) (win0_12.stage (cfg0.slots t 12)) fullShare (gains' m c t.val t.isLt) ⊢ ((dats m 0 c).leavesExact 12 t : sProp 𝕄) := by
  by_cases h : t.val % 4 = 0
  · rw [leaves_live m c 12 t (.inl (by rw [idle_12 t]; simpa using h)), after_12]
  · by_cases h3 : t.val % 32 = 31
    · rw [leaves_live m c 12 t (.inr ((flush0_12 t).mpr h3)), after_12]
    · rw [Dat.leavesExact_idle (dats m 0 c) 12 t (by rw [idle_12 t]; simpa using h) (Bool.eq_false_iff.mpr fun h' => h3 ((flush0_12 t).mp h')),
        gains'_next m c t h]
      iintro H; iexists d; rw [before_12 m c t (fun h0 => h (by omega)) d]; iexact H

set_option maxHeartbeats 8000000 in
/-- The body at any point, from the scratch buffer at contents that it turns into `backs`. -/
theorem sound_from (c : Dev nD) (t : Fin cfg0.N) (d : Vec F S512x1024 .f32) (hd : back (grid0.coords t) (cots m c t.val t.isLt) (iblk m c 3 t) (iblk m c 5 t) (iblk m c 6 t) d = backs m c t.val t.isLt) :
    iprop(iprop(iprop(owns (c : Thread nD τ) scratch fullShare d) ∗ (∃ r, prngReg c r)) ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))
    ⊢ wp frame (wpE (defs₀ (F := F)) Variants.none c none) Set.univ (bodyAt0 t) (fun _ => bodyPost m c t) := by
  unfold bodyPost bodyAt0
  simp only [before_0, before_1, before_2, before_3, before_4, before_5, before_6, before_7]
  rw [show (dats m 0 c).owesAt () t.succ = (dats m 0 c).owesAt () t.castSucc from rfl]
  rw [show (dats m 0 c).Φ t.succ = carried m c (t.val + 1) t.isLt from rfl, carried_succ]
  rw [leaves_live m c 10 t (.inl (idle_10 t)), after_10]
  iintro ⟨⟨Hs, Hp⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  iapply (run c (grid0.coords t) _ _ _ _ _ _ _ _ _ _ _ _ _ _ _ _ _ _ _ _ _ _ _ _ _ _ scratch (Memref.isWhole_whole _)
    (fun h h' => by have := (first_iff t).mp h; have := (last_iff t).mp h'; omega) (cond3_iff t) (cond7_iff t) (cond8_iff t) (cond4_iff t) (cond5_iff t)
    (iblk m c 0 t) (iblk m c 1 t) (iblk m c 2 t) (iblk m c 3 t)
    (iblk m c 4 t) (iblk m c 5 t) (iblk m c 6 t) (iblk m c 7 t)
    ((dats m 0 c).before 8 t e8) ((dats m 0 c).before 9 t e9) ((dats m 0 c).before 11 t e11) ((dats m 0 c).before 12 t e12) d)
  rw [cot_eq, gain'_eq, hd]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [Hs]; · iexact Hs
  iintro ⟨H0, H1, H2, H3, H4, H5, H6, H7, H8, H9, H10, H11, H12, Hs⟩
  isplitl [Hs Hp]
  · isplitl [Hs]; · iexact Hs
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves_8 m c t e8); iexact H8
  isplitl [H9]; · iapply (leaves_9 m c t e9); iexact H9
  isplitl [H10]; · iexact H10
  isplitl [H11]; · iapply (leaves_11 m c t e11); iexact H11
  iapply (leaves_12 m c t e12); iexact H12

/-- The body at any point: before the first one the scratch buffer holds anything. -/
theorem sound_body (c : Dev nD) (t : Fin cfg0.N) :
    bodyPre m c t ⊢ wp frame (wpE (defs₀ (F := F)) Variants.none c none) Set.univ (bodyAt0 t) (fun _ => bodyPost m c t) := by
  unfold bodyPre
  rw [carried_castSucc]
  by_cases hz : t.val = 0
  · rw [carried_zero m c _ _ hz, start_eq]
    iintro ⟨⟨⟨%d, Hs⟩, Hp⟩, H⟩
    iapply (sound_from m c t d (back_first m c t (by omega) d))
    isplitl [Hs Hp]
    · isplitl [Hs]; · iexact Hs
      iexact Hp
    iexact H
  · rw [carried_pos m c _ _ hz]
    exact sound_from m c t _ (back_eq m c t)

/-- The scratch buffer's contents are free before the first point, -/
theorem enters (c : Dev nD) : Pipeline.ΦA spec0 c ⊢ ((dats m 0 c).Φ 0 : sProp 𝕄) := by
  rw [show (dats m 0 c).Φ 0 = carried m c 0 (Nat.zero_le _) from rfl, carried_zero m c 0 _ rfl]

/-- and after the last. -/
theorem exits (c : Dev nD) : (dats m 0 c).Φ (Fin.last cfg0.N) ⊢ (Pipeline.ΦA spec0 c : sProp 𝕄) := by
  rw [show (dats m 0 c).Φ (Fin.last cfg0.N) = carried m c cfg0.N (Nat.le_refl _) from rfl, carried_pos m c _ _ (by decide), start_eq]
  iintro ⟨Hs, Hp⟩
  isplitl [Hs]
  · iexists _; iexact Hs
  iexact Hp

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frames -/

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enters m) (hout := exits m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnGrad

end
-- ==== Proof.FfnGrad.Frames.lean ====
module

public import proofs.«01_k».proof.Defs
public import proofs.«01_k».proof.Proof.Gen.Kernel8
public import proofs.«01_k».proof.Proof.Gen.Kernel8Ideal
public import proofs.«01_k».proof.Proof.FfnGrad.Frame

/-!
# The frame claims of the channel mixer's gradient

The program and its ideal have the same text. Their bodies and their pipelines are equal, so the one
run of `Proof.FfnGrad.Frame`, which holds over any float values, gives both frames.
-/

set_option maxRecDepth 100000

public section

open Idealize Idealize.ShloMosaic

namespace Cert.FfnGrad

set_option maxHeartbeats 4000000 in
/-- The two programs' kernel bodies are the same. -/
theorem bodies_eq : Kernel8.defs₀ (F := Bits) = Kernel8Ideal.defs₀ (F := Bits) := by
  unfold Kernel8.defs₀ Kernel8Ideal.defs₀
  congr 1
  funext l a
  match l, a with
  | 0, (t, s) => rfl

/-- The two programs' pipelines are the same. -/
theorem defs_eq : Kernel8.defs (F := Bits) = Kernel8Ideal.defs (F := Bits) := by
  unfold Kernel8.defs Kernel8Ideal.defs
  exact congrArg _ bodies_eq

/-- The ideal program leaves its arguments as they are and no semaphore raised. -/
theorem frame_ideal : Cert.quiescent_Kernel8Ideal := fun m ρ _ => frame m ρ

/-- The program leaves its arguments as they are and no semaphore raised. -/
theorem frame_kernel : Cert.quiescent_Kernel8 := fun m ρ _ => by
  rw [defs_eq]
  exact frame (F := Bits) m ρ

end Cert.FfnGrad

end
-- ==== Proof.FfnGrad.Tile.lean ====
/- One tile of the channel mixer's gradient: what the kernel's values on blocks are in terms of the arrays that the reference
   computes over the extended reals, where the inputs are finite. -/
module

public import proofs.«01_k».proof.Proof.FfnGrad.Norm
public import proofs.«01_k».proof.Proof.Ffn.Tile
public import proofs.«01_k».proof.Proof.Gen.Kernel8Ideal.Skeleton
public import proofs.«01_k».proof.Proof.Gen.Reference8Ideal.Read

@[expose] public section

set_option maxRecDepth 16384

noncomputable section

namespace Cert.FfnGrad

open Idealize.ShloMosaic Cert.Kernel8Ideal Cert.Kernel8Ideal.Gen
open Cert.Reference8Ideal.Read
open Cert.Mixer (IsReal)
open Cert.Ffn (at_ col upto upto_first upto_next upto_last)

/-- Row `p` of row tile `i`. -/
abbrev row_ (i : Fin 8) (p : Fin 512) : Fin 4096 := ⟨i.val * 512 + p.val, by omega⟩

variable (dxo x : (⟨S4096x1024, .f32⟩ : BufTy).Contents (Elt Ideal)) (g g' : (⟨S1x1024, .f32⟩ : BufTy).Contents (Elt Ideal))
  (w1 : (⟨S1024x4096, .f32⟩ : BufTy).Contents (Elt Ideal)) (w2 : (⟨S4096x1024, .f32⟩ : BufTy).Contents (Elt Ideal))

/-! ## The reference's arrays -/

/-- Row `r` of the second product, -/
abbrev outRow (r : Fin 4096) (k : Fin 1024) : EReal := val_main_v25 (F := Ideal) x g w1 w2 (ix2 r k)
/-- and of its normalisation's cotangent, -/
abbrev outCot (r : Fin 4096) (k : Fin 1024) : EReal := (dxo (ix2 r k) : EReal) * g' (ix2 0 k)
/-- of the input, -/
abbrev inRow (r : Fin 4096) (k : Fin 1024) : EReal := x (ix2 r k)
/-- and of its normalisation's cotangent. -/
abbrev inCot (r : Fin 4096) (k : Fin 1024) : EReal := (val_main_v63 (F := Ideal) dxo x g w1 w2 g' (ix2 r k) : EReal) * g (ix2 0 k)

theorem reference_outMeanSq (i : S4096x1.Idx) : val_main_v33 (F := Ideal) x g w1 w2 i = meanSq (outRow x g w1 w2 (i 0)) := by
  rw [val_main_v33_apply, val_main_v31_apply, val_main_v29_apply, val_main_v28_apply, val_main_v30_apply, val_main_v32_apply,
    val_main_cst_6_apply, val_main_cst_7_apply, val_main_cst_8_apply]
  have e : ∀ k, idx_main_v28 (idx_main_v29 i) k = ix2 (i 0) k := fun k => by funext a; fin_cases a <;> rfl
  simp only [e, val_main_v27_apply, Ideal.mulf_def, Ideal.addf_def, Ideal.hostDivf_def, Ideal.ofBits_def, Ideal.ofBits_zero_f32, zero_add]
  rfl

theorem reference_inMeanSq (i : S4096x1.Idx) : val_main_v7 (F := Ideal) x i = meanSq (inRow x (i 0)) := by
  rw [val_main_v7_apply, val_main_v5_apply, val_main_v3_apply, val_main_v2_apply, val_main_v4_apply, val_main_v6_apply,
    val_main_cst_apply, val_main_cst_0_apply, val_main_cst_1_apply]
  have e : ∀ k, idx_main_v2 (idx_main_v3 i) k = ix2 (i 0) k := fun k => by funext a; fin_cases a <;> rfl
  simp only [e, val_main_v1_apply, Ideal.mulf_def, Ideal.addf_def, Ideal.hostDivf_def, Ideal.ofBits_def, Ideal.ofBits_zero_f32, zero_add]
  rfl

theorem reference_outCot (r : Fin 4096) (q : Fin 1024) : val_main_v44 (F := Ideal) dxo g' (ix2 r q) = outCot dxo g' r q := by
  rw [val_main_v44_apply, val_main_v43_apply, val_main_v40_apply, val_main_v26_apply]
  have e : idx_main_v26 (idx_main_v40 (idx_main_v43 (ix2 r q))) = ix2 0 q := by
    funext a; fin_cases a
    · rfl
    · exact Fin.ext (Nat.mod_eq_of_lt q.isLt)
  rw [e]; rfl

theorem reference_inCot (r : Fin 4096) (q : Fin 1024) : val_main_v65 (F := Ideal) dxo x g w1 w2 g' (ix2 r q) = inCot dxo x g g' w1 w2 r q := by
  rw [val_main_v65_apply, val_main_v64_apply, val_main_v14_apply, val_main_v0_apply]
  have e : idx_main_v0 (idx_main_v14 (idx_main_v64 (ix2 r q))) = ix2 0 q := by
    funext a; fin_cases a
    · rfl
    · exact Fin.ext (Nat.mod_eq_of_lt q.isLt)
  rw [e]; rfl

theorem reference_outCoef (r : Fin 4096) (q : Fin 1024) :
    val_main_v54 (F := Ideal) dxo x g w1 w2 g' (ix2 r q) = coef (outRow x g w1 w2 r) (outCot dxo g' r) := by
  rw [val_main_v54_apply, val_main_v53_apply, val_main_cst_12_apply, Fin.sum_univ_one, val_main_v52_apply, val_main_v50_apply, val_main_v47_apply,
    val_main_v46_apply, val_main_v37_apply, val_main_v36_apply, val_main_v35_apply, val_main_v34_apply, val_main_v51_apply,
    val_main_cst_9_apply, val_main_cst_10_apply, val_main_cst_11_apply, reference_outMeanSq]
  have e : ∀ k, idx_main_v46 (idx_main_v47 (idx_main_v53 (idx_main_v54 (ix2 r q)) 0)) k = ix2 r k := fun k => by
    funext a; fin_cases a
    · exact Fin.ext (by show r.val * 1 + 0 = r.val; omega)
    · rfl
  simp only [e, val_main_v45_apply, reference_outCot, Ideal.mulf_def, Ideal.addf_def, Ideal.hostDivf_def, Ideal.hostUnary_rsqrt_def, Ideal.ofBits_def, Ideal.ofBits_zero_f32, zero_add]
  rfl

theorem reference_inCoef (r : Fin 4096) (q : Fin 1024) :
    val_main_v75 (F := Ideal) dxo x g w1 w2 g' (ix2 r q) = coef (inRow x r) (inCot dxo x g g' w1 w2 r) := by
  rw [val_main_v75_apply, val_main_v74_apply, val_main_cst_16_apply, Fin.sum_univ_one, val_main_v73_apply, val_main_v71_apply, val_main_v68_apply,
    val_main_v67_apply, val_main_v11_apply, val_main_v10_apply, val_main_v9_apply, val_main_v8_apply, val_main_v72_apply,
    val_main_cst_2_apply, val_main_cst_14_apply, val_main_cst_15_apply, reference_inMeanSq]
  have e : ∀ k, idx_main_v67 (idx_main_v68 (idx_main_v74 (idx_main_v75 (ix2 r q)) 0)) k = ix2 r k := fun k => by
    funext a; fin_cases a
    · exact Fin.ext (by show r.val * 1 + 0 = r.val; omega)
    · rfl
  simp only [e, val_main_v66_apply, reference_inCot, Ideal.mulf_def, Ideal.addf_def, Ideal.hostDivf_def, Ideal.hostUnary_rsqrt_def, Ideal.ofBits_def, Ideal.ofBits_zero_f32, zero_add]
  rfl

/-- The second product's cotangent. -/
theorem reference_cot (r : Fin 4096) (q : Fin 1024) :
    val_main_v58 (F := Ideal) dxo x g w1 w2 g' (ix2 r q) = grad (outRow x g w1 w2 r) (outCot dxo g' r) q := by
  rw [val_main_v58_apply, val_main_v56_apply, val_main_v49_apply, val_main_v55_apply, val_main_v57_apply, val_main_v48_apply, val_main_v34_apply,
    reference_outCoef, reference_outCot, reference_outMeanSq]
  simp only [Ideal.mulf_def, Ideal.addf_def, Ideal.hostUnary_rsqrt_def]
  rfl

/-- The sub-layer's input cotangent. -/
theorem reference_result (r : Fin 4096) (q : Fin 1024) :
    val_main_v80 (F := Ideal) dxo x g w1 w2 g' (ix2 r q) = (dxo (ix2 r q) + grad (inRow x r) (inCot dxo x g g' w1 w2 r) q : EReal) := by
  rw [val_main_v80_apply, val_main_v79_apply, val_main_v77_apply, val_main_v70_apply, val_main_v76_apply, val_main_v78_apply, val_main_v69_apply,
    val_main_v8_apply, reference_inCoef, reference_inCot, reference_inMeanSq]
  simp only [Ideal.mulf_def, Ideal.addf_def, Ideal.hostUnary_rsqrt_def]
  rfl

/-- The hidden channels, -/
theorem reference_relu (i : S4096x4096.Idx) : val_main_v18 (F := Ideal) x g w1 i = max (val_main_v17 (F := Ideal) x g w1 i) (0 : EReal) := by
  rw [val_main_v18_apply, val_main_call0_v0_apply, val_main_call0_cst_apply]
  simp only [Ideal.maximumf_def, Ideal.ofBits_def, Ideal.ofBits_zero_f32]

/-- and their cotangent. -/
theorem reference_hidden (r s : Fin 4096) :
    val_main_v62 (F := Ideal) dxo x g w1 w2 g' (ix2 r s)
      = ((∑ k : Fin 1024, (val_main_v58 (F := Ideal) dxo x g w1 w2 g' (ix2 r k) : EReal) * w2 (ix2 s k))
          * (Ideal.ofBits .f32 0x40000000#32 * max (val_main_v17 (F := Ideal) x g w1 (ix2 r s)) (0 : EReal)) : EReal) := by
  rw [val_main_v62_apply, val_main_v20_apply, val_main_v60_apply, val_main_v61_apply, val_main_v59_apply, val_main_v24_apply, val_main_v23_apply,
    val_main_v19_apply, val_main_cst_3_apply, val_main_cst_5_apply, val_main_cst_13_apply, reference_relu]
  have e1 : ∀ k, lidx_main_v59 (ix2 r s) k = ix2 r k := fun k => by funext a; fin_cases a <;> rfl
  have e2 : ∀ k, ridx_main_v59 (ix2 r s) k = ix2 s k := fun k => by funext a; fin_cases a <;> rfl
  simp only [e1, e2, Ideal.mulf_def, Ideal.cmpf_def, Ideal.ofBits_def, Ideal.ofBits_zero_f32]
  exact select_relu _ _ _

/-- The reference's two saved planes, four of 1024 channels. -/
theorem reference_planes (s : Fin 4) (r : Fin 4096) (q : Fin 1024) :
    val_main_v84 (F := Ideal) dxo x g w1 w2 g' (ix3 s r q) = val_main_v62 (F := Ideal) dxo x g w1 w2 g' (ix2 r (at_ s q)) := by
  rw [val_main_v84_apply, val_main_v83_apply, val_main_v82_apply]
  have e : idx_main_v82 (idx_main_v83 (ix3 s r q)) = ix2 r (at_ s q) := by
    funext a; fin_cases a
    · exact Fin.ext (by show ((r.val * 4 + s.val) * 1024 + q.val) / 4096 = r.val; omega)
    · exact Fin.ext (by show ((r.val * 4 + s.val) * 1024 + q.val) % 4096 = s.val * 1024 + q.val; omega)
  rw [e]
  rfl

/-- Block `j` of the sum over the hidden channels. -/
def part (r : Fin 4096) (q : Fin 1024) (j : Fin 4) : EReal :=
  ∑ k : Fin 1024, (val_main_v62 (F := Ideal) dxo x g w1 w2 g' (ix2 r (at_ j k)) : EReal) * w1 (ix2 q (at_ j k))

/-- The sum over the hidden channels is that of the four blocks. -/
theorem reference_sum (r : Fin 4096) (q : Fin 1024) :
    val_main_v63 (F := Ideal) dxo x g w1 w2 g' (ix2 r q) = ∑ j : Fin 4, part dxo x g g' w1 w2 r q j := by
  rw [val_main_v63_apply]
  have e1 : ∀ k, lidx_main_v63 (ix2 r q) k = ix2 r k := fun k => by funext a; fin_cases a <;> rfl
  have e2 : ∀ k, ridx_main_v63 (ix2 r q) k = ix2 q k := fun k => by funext a; fin_cases a <;> rfl
  simp only [e1, e2]
  unfold part
  rw [← Fintype.sum_prod_type' (f := fun (j : Fin 4) (k : Fin 1024) => (val_main_v62 (F := Ideal) dxo x g w1 w2 g' (ix2 r (at_ j k)) : EReal) * w1 (ix2 q (at_ j k)))]
  refine (Fintype.sum_equiv (finProdFinEquiv (m := 4) (n := 1024)) _ _ fun a => ?_).symm
  have e : finProdFinEquiv a = at_ a.1 a.2 := Fin.ext (by show a.2.val + 1024 * a.1.val = a.1.val * 1024 + a.2.val; omega)
  rw [e]

/-! ## Finite values -/

/-- Every input is finite. -/
structure Finite : Prop where
  dxo : ∀ i, IsReal (dxo i)
  x : ∀ i, IsReal (x i)
  g : ∀ i, IsReal (g i)
  g' : ∀ i, IsReal (g' i)
  w1 : ∀ i, IsReal (w1 i)
  w2 : ∀ i, IsReal (w2 i)

variable {dxo x g g' w1 w2} (H : Finite dxo x g g' w1 w2)
include H

theorem hidden_real (r s : Fin 4096) : IsReal (val_main_v17 (F := Ideal) x g w1 (ix2 r s)) := by
  rw [val_main_v17_apply]
  refine IsReal.sum fun k => IsReal.mul ?_ (H.w1 _)
  have e : lidx_main_v17 (ix2 r s) k = ix2 r k := by funext a; fin_cases a <;> rfl
  rw [e, val_main_v16_apply, val_main_v13_apply, val_main_v12_apply, val_main_v8_apply, reference_inMeanSq, val_main_v15_apply, val_main_v14_apply, val_main_v0_apply]
  exact ((H.x _).mul (inv_real fun k => H.x _)).mul (H.g _)

theorem outRow_real (r : Fin 4096) (k : Fin 1024) : IsReal (outRow x g w1 w2 r k) := by
  unfold outRow
  rw [val_main_v25_apply]
  refine IsReal.sum fun s => IsReal.mul ?_ (H.w2 _)
  have e : lidx_main_v25 (ix2 r k) s = ix2 r s := by funext a; fin_cases a <;> rfl
  rw [e, val_main_v22_apply, reference_relu]
  exact (relu_real (hidden_real H r s)).mul (relu_real (hidden_real H r s))

theorem outCot_real (r : Fin 4096) (k : Fin 1024) : IsReal (outCot dxo g' r k) := (H.dxo _).mul (H.g' _)

theorem inCot_real (r : Fin 4096) (k : Fin 1024) : IsReal (inCot dxo x g g' w1 w2 r k) := by
  refine IsReal.mul ?_ (H.g _)
  rw [reference_sum]
  refine IsReal.sum fun j => IsReal.sum fun s => IsReal.mul ?_ (H.w1 _)
  rw [reference_hidden]
  refine IsReal.mul (IsReal.sum fun t => IsReal.mul ?_ (H.w2 _)) (IsReal.mul ⟨2, lit_two⟩ (relu_real (hidden_real H r _)))
  rw [reference_cot]
  exact grad_real (outRow_real H r) (outCot_real H r) t

/-! ## The kernel's values on blocks -/

omit H in
/-- The block holds rows of the array. -/
def IsRows (i : Fin 8) (a : S4096x1024.Idx → EReal) (b : S512x1024.Idx → EReal) : Prop :=
  ∀ (p : Fin 512) (q : Fin 1024), b (ix2 p q) = a (ix2 (row_ i p) q)

variable (i : Fin 8) (j : Fin 4)

/-- The second product's cotangent. -/
theorem cot_at (by_ bd : Vec Ideal S512x1024 .f32) (hy : IsRows i (val_main_v25 (F := Ideal) x g w1 w2) by_) (hd : IsRows i dxo bd) :
    IsRows i (val_main_v58 (F := Ideal) dxo x g w1 w2 g') (k0_pay4 by_ g' bd) := by
  intro p q
  rw [reference_cot, ← grad_eq (outRow_real H _) (outCot_real H _)]
  unfold k0_pay4 k0_pay3 k0_pay2
  pointwise
  simp only [hy p, hd p]
  rfl

/-- The sub-layer's input cotangent from that of the normalised rows. -/
theorem result_at (bx bd acc : Vec Ideal S512x1024 .f32) (hx : IsRows i x bx) (hd : IsRows i dxo bd)
    (ha : IsRows i (val_main_v63 (F := Ideal) dxo x g w1 w2 g') acc) :
    IsRows i (val_main_v80 (F := Ideal) dxo x g w1 w2 g') (k0_pay7 bx g acc bd) := by
  intro p q
  rw [reference_result, ← grad_eq (fun k => H.x _) (inCot_real H _)]
  unfold k0_pay7 k0_pay6
  pointwise
  simp only [hx p, hd p, ha p]
  rfl

/-- The hidden channels' cotangent. -/
theorem hidden_at (d : Vec Ideal S512x1024 .bf16) (hd : IsRows i (val_main_v58 (F := Ideal) dxo x g w1 w2 g') d)
    (v : Vec Ideal S1024x1024 .bf16) (hv : ∀ p q : Fin 1024, v (ix2 p q) = w2 (ix2 (at_ j p) q))
    (r : Vec Ideal S1x512x1024 .bf16) (hr : ∀ (p : Fin 512) (q : Fin 1024), r (ix3 0 p q) = val_main_v22 (F := Ideal) x g w1 (ix2 (row_ i p) (at_ j q)))
    (p : Fin 512) (q : Fin 1024) :
    k0_pay10 d v r (ix2 p q) = val_main_v62 (F := Ideal) dxo x g w1 w2 g' (ix2 (row_ i p) (at_ j q)) := by
  rw [reference_hidden, ← sqrt_relu (hidden_real H _ _)]
  unfold k0_pay10
  pointwise
  simp only [hd p, hv q, hr p, val_main_v22_apply, reference_relu]
  rfl

omit H in
/-- It as a plane. -/
theorem plane_at (d : Vec Ideal S512x1024 .bf16) (v : Vec Ideal S1024x1024 .bf16) (r : Vec Ideal S1x512x1024 .bf16) (p : Fin 512) (q : Fin 1024) :
    k0_pay11 d v r (ix3 0 p q) = k0_pay10 d v r (ix2 p q) := by
  unfold k0_pay11
  pointwise

/-- The product with a block of the first weights. -/
theorem part_at (d : Vec Ideal S512x1024 .bf16) (hd : IsRows i (val_main_v58 (F := Ideal) dxo x g w1 w2 g') d)
    (v : Vec Ideal S1024x1024 .bf16) (hv : ∀ p q : Fin 1024, v (ix2 p q) = w2 (ix2 (at_ j p) q))
    (r : Vec Ideal S1x512x1024 .bf16) (hr : ∀ (p : Fin 512) (q : Fin 1024), r (ix3 0 p q) = val_main_v22 (F := Ideal) x g w1 (ix2 (row_ i p) (at_ j q)))
    (w : Vec Ideal S1024x1024 .bf16) (hw : ∀ p q : Fin 1024, w (ix2 p q) = w1 (ix2 p (at_ j q))) (p : Fin 512) (q : Fin 1024) :
    k0_pay12 d v r w (ix2 p q) = part dxo x g g' w1 w2 (row_ i p) q j := by
  unfold k0_pay12
  pointwise
  exact Finset.sum_congr rfl fun k _ => congrArg₂ (fun a b : EReal => a * b) (hidden_at H i j d hd v hv r hr p k) (hw q k)

/-! ## The grid's points -/

omit H in
/-- The row tile of point `n`. -/
def tile (n : ℕ) (hn : n < 32) : Fin 8 := ⟨n / 4, by omega⟩

variable (held : (n : ℕ) → n < 32 → Vec Ideal S512x1024 .bf16) (summed : (n : ℕ) → n < 32 → Vec Ideal S512x1024 .f32)
  (bd by_ : (n : ℕ) → n < 32 → Vec Ideal S512x1024 .f32) (bw bv : (n : ℕ) → n < 32 → Vec Ideal S1024x1024 .bf16)
  (br : (n : ℕ) → n < 32 → Vec Ideal S1x512x1024 .bf16)

/-- The cotangent that is computed at a row tile's first point and kept afterwards is the reference's. -/
theorem held_at (hd : ∀ n hn, IsRows (tile n hn) dxo (bd n hn)) (hy : ∀ n hn, IsRows (tile n hn) (val_main_v25 (F := Ideal) x g w1 w2) (by_ n hn))
    (first : ∀ n hn, n % 4 = 0 → held n hn = k0_pay4 (by_ n hn) g' (bd n hn))
    (next : ∀ n hn, ¬n % 4 = 0 → held n hn = held (n - 1) (Nat.lt_of_le_of_lt (Nat.sub_le _ _) hn)) :
    ∀ n hn, IsRows (tile n hn) (val_main_v58 (F := Ideal) dxo x g w1 w2 g') (held n hn) := by
  intro n
  induction n with
  | zero => intro hn; rw [first 0 hn rfl]; exact cot_at H _ _ _ (hy 0 hn) (hd 0 hn)
  | succ n ih =>
    intro hn
    by_cases h : (n + 1) % 4 = 0
    · rw [first _ hn h]; exact cot_at H _ _ _ (hy _ hn) (hd _ hn)
    · rw [next _ hn h, show tile (n + 1) hn = tile n (by omega) from Fin.ext (by show (n + 1) / 4 = n / 4; omega)]
      exact ih (by omega)

/-- The kernel's running sum, over the blocks of a row tile up to the point's. -/
theorem summed_at (hh : ∀ n hn, IsRows (tile n hn) (val_main_v58 (F := Ideal) dxo x g w1 w2 g') (held n hn))
    (hv : ∀ n hn (p q : Fin 1024), bv n hn (ix2 p q) = w2 (ix2 (at_ (col n) p) q))
    (hr : ∀ n hn (p : Fin 512) (q : Fin 1024), br n hn (ix3 0 p q) = val_main_v22 (F := Ideal) x g w1 (ix2 (row_ (tile n hn) p) (at_ (col n) q)))
    (hw : ∀ n hn (p q : Fin 1024), bw n hn (ix2 p q) = w1 (ix2 p (at_ (col n) q)))
    (first : ∀ n hn, n % 4 = 0 → summed n hn = k0_pay13 (held n hn) (bv n hn) (br n hn) (bw n hn))
    (next : ∀ n hn, ¬n % 4 = 0 → summed n hn
      = k0_pay14 (held n hn) (bv n hn) (br n hn) (bw n hn) (summed (n - 1) (Nat.lt_of_le_of_lt (Nat.sub_le _ _) hn))) :
    ∀ n hn (p : Fin 512) (q : Fin 1024), summed n hn (ix2 p q) = upto (part dxo x g g' w1 w2 (row_ (tile n hn) p) q) (col n) := by
  have start : ∀ n hn, n % 4 = 0 → ∀ (p : Fin 512) (q : Fin 1024), summed n hn (ix2 p q) = upto (part dxo x g g' w1 w2 (row_ (tile n hn) p) q) (col n) := by
    intro n hn h p q
    rw [first n hn h, show k0_pay13 (held n hn) (bv n hn) (br n hn) (bw n hn) = k0_pay12 (held n hn) (bv n hn) (br n hn) (bw n hn) from shapeCast_self _ _,
      part_at H (tile n hn) (col n) _ (hh n hn) _ (hv n hn) _ (hr n hn) _ (hw n hn), show col n = 0 from Fin.ext h, upto_first]
  intro n
  induction n with
  | zero => intro hn p q; exact start 0 hn rfl p q
  | succ n ih =>
    intro hn p q
    by_cases h : (n + 1) % 4 = 0
    · exact start _ hn h p q
    · rw [next _ hn h]
      unfold k0_pay14
      pointwise
      rw [part_at H (tile (n + 1) hn) (col (n + 1)) _ (hh _ hn) _ (hv _ hn) _ (hr _ hn) _ (hw _ hn),
        upto_next _ (col n) (col (n + 1)) (by show n % 4 + 1 = (n + 1) % 4; omega)]
      refine congrArg (fun a : EReal => a + _) ((ih (by omega) p q).trans ?_)
      rw [show tile (n + 1) hn = tile n (by omega) from Fin.ext (by show (n + 1) / 4 = n / 4; omega)]

omit H in
/-- After a row tile's last point the running sum is the reference's. -/
theorem summed_last (h : ∀ n hn (p : Fin 512) (q : Fin 1024), summed n hn (ix2 p q) = upto (part dxo x g g' w1 w2 (row_ (tile n hn) p) q) (col n))
    (n : ℕ) (hn : n < 32) (hl : n % 4 = 3) : IsRows (tile n hn) (val_main_v63 (F := Ideal) dxo x g w1 w2 g') (summed n hn) := by
  intro p q
  rw [h n hn p q, show col n = 3 from Fin.ext hl, upto_last, reference_sum]

end Cert.FfnGrad

end
-- ==== Proof.FfnGrad.Entry.lean ====
/- What the gradient of the channel mixer is launched on: the arrays that the host computes are the reference's, its blocks are theirs,
   and the precondition read. -/
module

public import proofs.«01_k».proof.Pre_ffn_inputs_finite
public import proofs.«01_k».proof.Proof.Mixer.Pre
public import proofs.«01_k».proof.Proof.FfnGrad.Tile
public import proofs.«01_k».proof.Proof.Gen.Kernel8Ideal.Frame
public import Idealize.ShloMosaic.Lib.StableHlo.ReadAt

@[expose] public section

set_option maxRecDepth 16384

noncomputable section

namespace Cert.FfnGrad

open Idealize.ShloMosaic Idealize.ShloMosaic.StableHlo Idealize.ShloMosaic.TcCoe Idealize.SL.Sem Cert.Kernel8Ideal Cert.Kernel8Ideal.Gen
open Cert.Reference8Ideal.Read
open Cert.Ffn (at_ col)
open Cert.Mixer (IsReal and_one real_of_abs)

/-! ## The precondition -/

/-- The shape relations the predicate's operations take. -/
theorem preFacts : Cert.Pre_ffn_inputs_finite.Facts where
  bcast_S_S4096x1024 := by decide
  reducesTo_S4096x1024_S_d0_1 := by decide
  h_S_ := by decide
  bcast_S_S1x1024 := by decide
  reducesTo_S1x1024_S_d0_1 := by decide
  bcast_S_S1024x4096 := by decide
  reducesTo_S1024x4096_S_d0_1 := by decide

/-- Arguments that meet the precondition are finite. -/
theorem finite [Cert.Pre_ffn_inputs_finite.Facts] (dxo x : FVec Ideal S4096x1024 .f32) (g : FVec Ideal S1x1024 .f32) (w1 : FVec Ideal S1024x4096 .f32)
    (w2 : FVec Ideal S4096x1024 .f32) (g' : FVec Ideal S1x1024 .f32) (h : Cert.Pre_ffn_inputs_finite.fn (F := Ideal) dxo x g w1 w2 g' = fun _ => 1#1) :
    Finite dxo x g g' w1 w2 := by
  have e := congrFun h (fun a => a.elim0)
  simp only [Cert.Pre_ffn_inputs_finite.fn, Cert.Pre_ffn_inputs_finite.fn_part1, andi] at e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  exact {
    dxo := fun i => real_of_abs _ (Host.reduce_andi_all _ _ _ _ _ e0 i)
    x := fun i => real_of_abs _ (Host.reduce_andi_all _ _ _ _ _ e1 i)
    g := fun i => real_of_abs _ (Host.reduce_andi_all _ _ _ _ _ e2 i)
    g' := fun i => real_of_abs _ (Host.reduce_andi_all _ _ _ _ _ e5 i)
    w1 := fun i => real_of_abs _ (Host.reduce_andi_all _ _ _ _ _ e3 i)
    w2 := fun i => real_of_abs _ (Host.reduce_andi_all _ _ _ _ _ e4 i) }

/-! ## The arrays -/

variable (m : (ℓ : Loc nD τ sig) → Buf (Elt Ideal) ℓ) (c : Dev nD)

/-- The second product, -/
theorem entry_y : V m c main_v17 = val_main_v25 (F := Ideal) (m ((c : Thread nD τ).loc main_arg1)) (m ((c : Thread nD τ).loc main_arg2))
    (m ((c : Thread nD τ).loc main_arg3)) (m ((c : Thread nD τ).loc main_arg4)) := by
  unfold_abbrev_sides
  simp only [hostOps0, hostOps0_1, hostOps0_2, List.flatten_cons, List.flatten_nil, List.append_nil, List.cons_append, List.nil_append]
  after_reads_simp
  rfl

/-- the hidden channels in four planes, -/
theorem entry_r : V m c main_v20 = truncf (F := Ideal) .bf16 (transpose S4x4096x1024 [1, 0, 2] (shapeCast S4096x4x1024
      (val_main_v22 (F := Ideal) (m ((c : Thread nD τ).loc main_arg1)) (m ((c : Thread nD τ).loc main_arg2)) (m ((c : Thread nD τ).loc main_arg3)))
      shapeCasts_S4096x4096_S4096x4x1024) transposes_S4096x4x1024_S4x4096x1024_1_0_2) bitsLt_bf16_f32 := by
  unfold_abbrev_sides
  simp only [hostOps0, hostOps0_1, hostOps0_2, List.flatten_cons, List.flatten_nil, List.append_nil, List.cons_append, List.nil_append]
  after_reads_simp
  rfl

/-- and the weights, as they are. -/
theorem entry_w : V m c main_v21 = m ((c : Thread nD τ).loc main_arg3) := by
  unfold_abbrev_sides
  simp only [hostOps0, hostOps0_1, hostOps0_2, List.flatten_cons, List.flatten_nil, List.append_nil, List.cons_append, List.nil_append]
  after_reads_simp
  rfl

theorem entry_v : V m c main_v22 = m ((c : Thread nD τ).loc main_arg4) := by
  unfold_abbrev_sides
  simp only [hostOps0, hostOps0_1, hostOps0_2, List.flatten_cons, List.flatten_nil, List.append_nil, List.cons_append, List.nil_append]
  after_reads_simp
  rfl

/-- An entry of a plane. -/
theorem plane_entry (a : (⟨S4096x4096, .f32⟩ : BufTy).Contents (Elt Ideal)) (s : Fin 4) (r : Fin 4096) (q : Fin 1024) :
    truncf (F := Ideal) .bf16 (transpose S4x4096x1024 [1, 0, 2] (shapeCast S4096x4x1024 a shapeCasts_S4096x4096_S4096x4x1024)
      transposes_S4096x4x1024_S4x4096x1024_1_0_2) bitsLt_bf16_f32 (ix3 s r q) = a (ix2 r (at_ s q)) := by
  refine (transpose_apply [1, 0, 2] (shapeCast S4096x4x1024 a shapeCasts_S4096x4096_S4096x4x1024) transposes_S4096x4x1024_S4x4096x1024_1_0_2 (ix3 s r q) (ix3 r s q) (fun b => match b with
    | ⟨0, _⟩ => rfl
    | ⟨1, _⟩ => rfl
    | ⟨2, _⟩ => rfl)).trans ?_
  refine shapeCast_apply a shapeCasts_S4096x4096_S4096x4x1024 (ix3 r s q) (ix2 r (at_ s q)) ?_
  rw [Shape.rowMajor_val_two, Shape.rowMajor_val_three]
  show r.val * 4096 + (s.val * 1024 + q.val) = (r.val * 4 + s.val) * 1024 + q.val
  omega

/-! ## The blocks that the points read -/

theorem idx : ∀ t : Fin cfg0.N, win0_0.index t = ![t.val / 4, 0] ∧ win0_1.index t = ![t.val / 4, 0] ∧ win0_2.index t = ![t.val / 4, 0]
    ∧ win0_3.index t = ![t.val % 4, t.val / 4, 0] ∧ win0_4.index t = ![0, 0] ∧ win0_5.index t = ![0, t.val % 4] ∧ win0_6.index t = ![t.val % 4, 0]
    ∧ win0_7.index t = ![0, 0] ∧ win0_8.index t = ![t.val / 4, 0] ∧ win0_9.index t = ![t.val / 4, 0] ∧ win0_10.index t = ![t.val % 4, t.val / 4, 0] :=
  (by decide +kernel : ∀ t : Fin grid0.N, _)

theorem read_dxo (t : Fin cfg0.N) : IsRows (tile t.val t.isLt) (m ((c : Thread nD τ).loc main_arg0)) (iblk m c 0 t) := by
  intro p q
  rw [← V_main_arg0 m c]
  blk_ext [iblk, idx t, tile]

theorem read_x (t : Fin cfg0.N) : IsRows (tile t.val t.isLt) (m ((c : Thread nD τ).loc main_arg1)) (iblk m c 1 t) := by
  intro p q
  rw [← V_main_arg1 m c]
  blk_ext [iblk, idx t, tile]

theorem read_y (t : Fin cfg0.N) : IsRows (tile t.val t.isLt) (V m c main_v17) (iblk m c 2 t) := by
  intro p q
  blk_ext [iblk, idx t, tile]

theorem read_r (t : Fin cfg0.N) (p : Fin 512) (q : Fin 1024) :
    iblk m c 3 t (ix3 0 p q) = V m c main_v20 (ix3 (col t.val) (row_ (tile t.val t.isLt) p) q) := by
  blk_ext [iblk, idx t, tile, col]

theorem read_g (t : Fin cfg0.N) : iblk m c 4 t = m ((c : Thread nD τ).loc main_arg2) := by
  rw [← V_main_arg2 m c]
  funext y
  blk_ext [iblk, idx t]

theorem read_w (t : Fin cfg0.N) (p q : Fin 1024) :
    iblk m c 5 t (ix2 p q) = m ((c : Thread nD τ).loc main_arg3) (ix2 p (at_ (col t.val) q)) := by
  rw [← entry_w m c]
  blk_ext [iblk, idx t, col]

theorem read_v (t : Fin cfg0.N) (p q : Fin 1024) :
    iblk m c 6 t (ix2 p q) = m ((c : Thread nD τ).loc main_arg4) (ix2 (at_ (col t.val) p) q) := by
  rw [← entry_v m c]
  blk_ext [iblk, idx t, col]

theorem read_g' (t : Fin cfg0.N) : iblk m c 7 t = m ((c : Thread nD τ).loc main_arg5) := by
  rw [← V_main_arg5 m c]
  funext y
  blk_ext [iblk, idx t]

end Cert.FfnGrad

end
-- ==== Proof.FfnGrad.Value.lean ====
/- The results of the channel mixer's gradient: the three arrays that the kernel writes are the reference's; the claims. -/
module

public import proofs.«01_k».proof.Defs
public import proofs.«01_k».proof.Proof.FfnGrad.Frame
public import proofs.«01_k».proof.Proof.FfnGrad.Entry
public import proofs.«01_k».proof.Proof.Gen.Reference8Ideal.Run

@[expose] public section

set_option maxRecDepth 16384

noncomputable section

namespace Cert.FfnGrad

open Idealize.ShloMosaic Idealize.ShloMosaic.StableHlo Idealize.ShloMosaic.TcCoe Idealize.SL.Sem Cert.Kernel8Ideal Cert.Kernel8Ideal.Gen
open Idealize.ShloMosaic.Pipeline (Dat)
open Cert.Reference8Ideal.Read
open Cert.Ffn (at_ col upto)

attribute [local instance] preFacts

variable (m : (ℓ : Loc nD τ sig) → Buf (Elt Ideal) ℓ) (c : Dev nD)

/-- The arguments are finite. -/
abbrev Args : Prop := Finite (m ((c : Thread nD τ).loc main_arg0)) (m ((c : Thread nD τ).loc main_arg1)) (m ((c : Thread nD τ).loc main_arg2))
  (m ((c : Thread nD τ).loc main_arg5)) (m ((c : Thread nD τ).loc main_arg3)) (m ((c : Thread nD τ).loc main_arg4))

/-! ## What the points leave -/

section
variable {m c} (H : Args m c)
include H

theorem cots_eq (t : Fin cfg0.N) : IsRows (tile t.val t.isLt)
    (val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (cots m c t.val t.isLt) :=
  held_at H (cots m c) (fun n hn => iblk m c 0 ⟨n, hn⟩) (fun n hn => iblk m c 2 ⟨n, hn⟩) (fun n hn => read_dxo m c ⟨n, hn⟩)
    (fun n hn => entry_y m c ▸ read_y m c ⟨n, hn⟩)
    (fun n hn h => (cots_first m c ⟨n, hn⟩ h).trans (congrArg (fun g => k0_pay4 _ g _) (read_g' m c ⟨n, hn⟩)))
    (fun n hn h => cots_next m c ⟨n, hn⟩ h) t.val t.isLt

omit H in
theorem plane_r (t : Fin cfg0.N) (p : Fin 512) (q : Fin 1024) : iblk m c 3 t (ix3 0 p q)
    = val_main_v22 (F := Ideal) (m ((c : Thread nD τ).loc main_arg1)) (m ((c : Thread nD τ).loc main_arg2)) (m ((c : Thread nD τ).loc main_arg3))
        (ix2 (row_ (tile t.val t.isLt) p) (at_ (col t.val) q)) := by
  rw [read_r, entry_r]
  exact plane_entry _ _ _ _

theorem backs_eq (t : Fin cfg0.N) (h : t.val % 4 = 3) : IsRows (tile t.val t.isLt)
    (val_main_v63 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)))
    (backs m c t.val t.isLt) :=
  summed_last (backs m c)
    (summed_at H (cots m c) (backs m c) (fun n hn => iblk m c 5 ⟨n, hn⟩) (fun n hn => iblk m c 6 ⟨n, hn⟩) (fun n hn => iblk m c 3 ⟨n, hn⟩)
      (fun n hn => cots_eq H ⟨n, hn⟩) (fun n hn => read_v m c ⟨n, hn⟩) (fun n hn => plane_r ⟨n, hn⟩) (fun n hn => read_w m c ⟨n, hn⟩)
      (fun n hn h => backs_first m c ⟨n, hn⟩ h) (fun n hn h => backs_next m c ⟨n, hn⟩ h))
    t.val t.isLt h

/-! ## The result arrays -/

theorem final_8 : (dats m 0 c).arrAt 8 cfg0.N = val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after_8, read_g]
  have e : (win0_8.blk t).view.emb y = ix2 (row_ (tile t.val t.isLt) (y 0)) (y 1) := by blk_ext [idx t, tile]
  rw [e]
  exact (congrArg _ (eq_ix2 y)).trans (result_at H _ _ _ _ (read_x m c t) (read_dxo m c t) (backs_eq H t ((flush0_8 t).mp hf)) (y 0) (y 1))

theorem final_9 : (dats m 0 c).arrAt 9 cfg0.N = val_main_v81 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after_9]
  have e : (win0_9.blk t).view.emb y = ix2 (row_ (tile t.val t.isLt) (y 0)) (y 1) := by blk_ext [idx t, tile]
  rw [e]
  exact (congrArg _ (eq_ix2 y)).trans (cots_eq H t (y 0) (y 1))

theorem final_10 : (dats m 0 c).arrAt 10 cfg0.N = val_main_v84 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after_10]
  have e : (win0_10.blk t).view.emb y = ix3 (col t.val) (row_ (tile t.val t.isLt) (y 1)) (y 2) := by blk_ext [idx t, tile, col]
  rw [e]
  refine Eq.trans ?_ (reference_planes _ _ _ _ _ _ _ _ _).symm
  have ey : y = ix3 0 (y 1) (y 2) := by
    funext a; fin_cases a
    · exact Fin.ext (Nat.lt_one_iff.mp (y 0).isLt)
    · rfl
    · rfl
  exact (congrArg _ ey).trans ((plane_at _ _ _ _ _).trans (hidden_at H _ _ _ (cots_eq H t) _ (read_v m c t) _ (plane_r t) (y 1) (y 2)))

end

/-- The run with each result array named, the arguments unchanged. -/
theorem run_arrays (ρ : Dev nD → PrngReg) : θ_run defs (onTc (τ := τ) (main (F := Ideal))) ⟨m, fun _ => 0, ρ⟩ (fun r => ∀ c : Dev nD,
      r.2.mem ((c.tc : Thread nD τ).loc main_v23_0) = (dats m 0 c).arrAt 8 cfg0.N
      ∧ r.2.mem ((c.tc : Thread nD τ).loc main_v23_1) = (dats m 0 c).arrAt 9 cfg0.N
      ∧ r.2.mem ((c.tc : Thread nD τ).loc main_v23_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 8, (h.1 c).1 9, (h.1 c).1 10, h.2 c⟩)
    (θ_run_and (run_main m ρ) (frame_of m ρ (dats m) (A_eq m) (run_main m ρ)))

/-- The reference ends with its arguments unchanged; it has no semaphore. -/
theorem reference_frame : Cert.quiescent_Reference8Ideal := fun m g _ =>
  (θ_run Cert.Reference8Ideal.defs _ _).mono (fun _ h => ⟨fun c => (h c).2.2.2, funext fun s => nomatch s⟩) (Cert.Reference8Ideal.Value.run m g)

/-- Kernel and reference end with equal results on equal arguments that meet the precondition. -/
theorem algebraic : Cert.algebraic_Kernel8Ideal_Reference8Ideal_pre_ffn_inputs_finite := by
  pair_intro
  · run_from run_arrays m g
  · refine (θ_run Cert.Reference8Ideal.defs _ _).mono (fun r h c => ?_) (Cert.Reference8Ideal.Value.run (F := Ideal) m' g')
    obtain ⟨a0, a1, a2, a3, a4, a5⟩ := hagree c
    have H : Args m c := finite _ _ _ _ _ _ (hpre c)
    obtain ⟨h0, h1, h2, hargs⟩ := h c
    refine ⟨?_, ?_, ?_, hargs⟩
    · rw [final_8 H, ← a0, ← a1, ← a2, ← a3, ← a4, ← a5]
      exact h0.trans (val_main_v80_eq _)
    · rw [final_9 H, ← a0, ← a1, ← a2, ← a3, ← a4, ← a5]
      exact h1.trans (val_main_v81_eq _)
    · rw [final_10 H, ← a0, ← a1, ← a2, ← a3, ← a4, ← a5]
      exact h2.trans (val_main_v84_eq _)

end Cert.FfnGrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Mixer.Equation
public import proofs.«01_k».proof.Proof.GradW.Ff1
public import proofs.«01_k».proof.Proof.GradW.Ff2
public import proofs.«01_k».proof.Proof.GradW.In
public import proofs.«01_k».proof.Proof.GradW.Out
public import proofs.«01_k».proof.Proof.Ffn.Frames
public import proofs.«01_k».proof.Proof.Ffn.Value
public import proofs.«01_k».proof.Proof.FfnLoss.Frames
public import proofs.«01_k».proof.Proof.FfnLoss.Value
public import proofs.«01_k».proof.Proof.Proj.In
public import proofs.«01_k».proof.Proof.Proj.Out
public import proofs.«01_k».proof.Proof.Proj.OutGrad
public import proofs.«01_k».proof.Proof.FfnGrad.Frames
public import proofs.«01_k».proof.Proof.FfnGrad.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Mixer.preFacts, Cert.FfnGrad.preFacts, Cert.Proj.OutGrad.preFacts,
  fun m ρ _ => Cert.Kernel.Gen.frame m ρ, fun m ρ _ => Cert.KernelIdeal.Gen.frame m ρ, fun m ρ _ => Cert.KernelIdeal.Gen.frame m ρ,
  fun m ρ _ => Cert.Mixer.reference_frame m ρ, fun m ρ _ => Cert.Mixer.reference_frame m ρ,
  fun m ρ _ => Cert.Kernel2.Gen.frame m ρ, fun m ρ _ => Cert.Kernel2Ideal.Gen.frame m ρ, Cert.GradW.Ff1.reference_frame,
  fun m ρ _ => Cert.Kernel3.Gen.frame m ρ, fun m ρ _ => Cert.Kernel3Ideal.Gen.frame m ρ, Cert.GradW.Ff2.reference_frame,
  fun m ρ _ => Cert.Kernel4.Gen.frame m ρ, fun m ρ _ => Cert.Kernel4Ideal.Gen.frame m ρ, Cert.GradW.In.reference_frame,
  fun m ρ _ => Cert.Kernel5.Gen.frame m ρ, fun m ρ _ => Cert.Kernel5Ideal.Gen.frame m ρ, Cert.GradW.Out.reference_frame,
  Cert.Ffn.frame_kernel, Cert.Ffn.frame_ideal, Cert.Ffn.reference_frame,
  Cert.FfnLoss.frame_kernel, Cert.FfnLoss.frame_ideal, Cert.FfnLoss.reference_frame,
  Cert.FfnGrad.frame_kernel, Cert.FfnGrad.frame_ideal, fun m ρ _ => Cert.FfnGrad.frame m ρ,
  Cert.FfnGrad.reference_frame, fun m ρ _ => Cert.FfnGrad.reference_frame m ρ trivial,
  fun m ρ _ => Cert.Kernel9.Gen.frame m ρ, fun m ρ _ => Cert.Kernel9Ideal.Gen.frame m ρ, Cert.Proj.In.reference_frame,
  fun m ρ _ => Cert.Kernel10.Gen.frame m ρ, fun m ρ _ => Cert.Kernel10Ideal.Gen.frame m ρ, Cert.Proj.Out.reference_frame,
  fun m ρ _ => Cert.Kernel11.Gen.frame m ρ, fun m ρ _ => Cert.Kernel11Ideal.Gen.frame m ρ, fun m ρ _ => Cert.Kernel11Ideal.Gen.frame m ρ,
  Cert.Proj.OutGrad.reference_frame, fun m ρ _ => Cert.Proj.OutGrad.reference_frame m ρ trivial,
  trivial, Cert.Mixer.algebraic, trivial, Cert.GradW.Ff1.algebraic, trivial, Cert.GradW.Ff2.algebraic, trivial, Cert.GradW.In.algebraic,
  trivial, Cert.GradW.Out.algebraic, trivial, Cert.Ffn.algebraic, trivial, Cert.FfnLoss.algebraic,
  trivial, Cert.FfnGrad.algebraic, trivial, Cert.Proj.In.algebraic, trivial, Cert.Proj.Out.algebraic,
  trivial, Cert.Proj.OutGrad.algebraic⟩

end Cert.Proof

end
